-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![1, 2048, 32, 128]⟩ ⟨4, ![1, 2048, 64, 128]⟩ (Layout.meshBlock [2, 2, 2] ![[], [], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = Layout.blockN ⟨3, ![1, 1024, 8192]⟩ ⟨3, ![1, 2048, 8192]⟩ (Layout.meshBlock [2, 2, 2] ![[], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x32x128 : Shape := ⟨4, ![1, 2048, 32, 128]⟩
abbrev S4096x8192 : Shape := ⟨2, ![4096, 8192]⟩
abbrev S2048x4096 : Shape := ⟨2, ![2048, 4096]⟩
abbrev S_ : Shape := ⟨0, ![]⟩
abbrev S256x4096 : Shape := ⟨2, ![256, 4096]⟩
abbrev S512x4096 : Shape := ⟨2, ![512, 4096]⟩
abbrev S1024x8192 : Shape := ⟨2, ![1024, 8192]⟩
abbrev S4096x512 : Shape := ⟨2, ![4096, 512]⟩
abbrev S1024x512 : Shape := ⟨2, ![1024, 512]⟩
abbrev S4x512x512 : Shape := ⟨3, ![4, 512, 512]⟩
abbrev S4x256x512 : Shape := ⟨3, ![4, 256, 512]⟩
abbrev S4 : Shape := ⟨1, ![4]⟩
abbrev S1 : Shape := ⟨1, ![1]⟩
abbrev S1x256x512 : Shape := ⟨3, ![1, 256, 512]⟩
abbrev S256x512 : Shape := ⟨2, ![256, 512]⟩
abbrev S512x512 : Shape := ⟨2, ![512, 512]⟩
abbrev S1x512x512 : Shape := ⟨3, ![1, 512, 512]⟩
abbrev S1x1024x8192 : Shape := ⟨3, ![1, 1024, 8192]⟩

abbrev nBuf : Space → Nat
  | .hbm => 42
  | .vmem => 11
  | .smem => 0
  | _ => 0

abbrev bufTy : (tb : Table) → Fin (tcTables nBuf tb) → BufTy
  | .hbm, ⟨0, _⟩ => ⟨S1x2048x32x128, .f32⟩
  | .hbm, ⟨1, _⟩ => ⟨S4096x8192, .f32⟩
  | .hbm, ⟨2, _⟩ => ⟨S2048x4096, .f32⟩
  | .hbm, ⟨3, _⟩ => ⟨S2048x4096, .bf16⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S256x4096, .bf16⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S256x4096, .bf16⟩
  | .hbm, ⟨39, _⟩ => ⟨S512x4096, .bf16⟩
  | .hbm, ⟨40, _⟩ => ⟨S1024x8192, .f32⟩
  | .hbm, ⟨41, _⟩ => ⟨S1x1024x8192, .f32⟩
  | .local _ .vmem, ⟨0, _⟩ => ⟨S512x4096, .bf16⟩
  | .local _ .vmem, ⟨1, _⟩ => ⟨S4096x512, .f32⟩
  | .local _ .vmem, ⟨2, _⟩ => ⟨S4096x512, .f32⟩
  | .local _ .vmem, ⟨3, _⟩ => ⟨S1024x512, .f32⟩
  | .local _ .vmem, ⟨4, _⟩ => ⟨S1024x512, .f32⟩
  | .local _ .vmem, ⟨5, _⟩ => ⟨S4x512x512, .f32⟩
  | .local _ .vmem, ⟨6, _⟩ => ⟨S4x256x512, .f32⟩
  | .local _ .vmem, ⟨7, _⟩ => ⟨S4x256x512, .f32⟩
  | .local _ .vmem, ⟨8, _⟩ => ⟨S4x256x512, .f32⟩
  | .local _ .vmem, ⟨9, _⟩ => ⟨S4x256x512, .f32⟩
  | .local _ .vmem, ⟨10, _⟩ => ⟨S4x256x512, .f32⟩
  | _, _ => ⟨S1x2048x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 6 → Bool
  | ⟨0, _⟩ => true
  | ⟨1, _⟩ => true
  | ⟨2, _⟩ => true
  | ⟨3, _⟩ => true
  | ⟨4, _⟩ => true
  | ⟨5, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 6 37 bufScoped semScoped dmaSemScoped tileCredit tileCredit_eq_zero tileCredit_pos).withBarriers [(0, 5)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_c_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_3 : Ref sig .tc := ⟨.hbm, 16, rfl⟩
abbrev main_v11 : Ref sig .tc := ⟨.hbm, 17, rfl⟩
abbrev main_v12 : Ref sig .tc := ⟨.hbm, 18, rfl⟩
abbrev main_c_4 : Ref sig .tc := ⟨.hbm, 19, rfl⟩
abbrev main_v13 : Ref sig .tc := ⟨.hbm, 20, rfl⟩
abbrev main_c_5 : Ref sig .tc := ⟨.hbm, 21, rfl⟩
abbrev main_v14 : Ref sig .tc := ⟨.hbm, 22, rfl⟩
abbrev main_c_6 : Ref sig .tc := ⟨.hbm, 23, rfl⟩
abbrev main_v15 : Ref sig .tc := ⟨.hbm, 24, rfl⟩
abbrev main_v16 : Ref sig .tc := ⟨.hbm, 25, rfl⟩
abbrev main_c_7 : Ref sig .tc := ⟨.hbm, 26, rfl⟩
abbrev main_v17 : Ref sig .tc := ⟨.hbm, 27, rfl⟩
abbrev main_c_8 : Ref sig .tc := ⟨.hbm, 28, rfl⟩
abbrev main_v18 : Ref sig .tc := ⟨.hbm, 29, rfl⟩
abbrev main_c_9 : Ref sig .tc := ⟨.hbm, 30, rfl⟩
abbrev main_v19 : Ref sig .tc := ⟨.hbm, 31, rfl⟩
abbrev main_c_10 : Ref sig .tc := ⟨.hbm, 32, rfl⟩
abbrev main_v20 : Ref sig .tc := ⟨.hbm, 33, rfl⟩
abbrev main_c_11 : Ref sig .tc := ⟨.hbm, 34, rfl⟩
abbrev main_v21 : Ref sig .tc := ⟨.hbm, 35, rfl⟩
abbrev main_v22 : Ref sig .tc := ⟨.hbm, 36, rfl⟩
abbrev main_c_12 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev barrier0 : Sem sig := 5

abbrev nD : Nat := 8
abbrev τ : Topo := Topo.v7x

variable {F : FTy → Type} [FloatOps F]

abbrev grid0 : Pipeline.Grid := ⟨1, ![19], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_5 : BitVec 32 := 0#32
  let v14 : BitVec 1 := Scalar.cmpi .ne v13 c0_i32_5
  v14

def k0_dev1 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v37 : BitVec 32 := Scalar.muli v2 c4_i32_17
  let v38 : BitVec 32 := Scalar.addi c0_i32_18 v37
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_4 v5
  let c2_i32_19 : BitVec 32 := 2#32
  let v39 : BitVec 32 := Scalar.muli v11 c2_i32_19
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v41 : BitVec 32 := Scalar.muli v8 c1_i32_20
  let v42 : BitVec 32 := Scalar.addi v40 v41
  v42.toNat
def k0_dev2 (d0 : Dev nD) : Nat :=
  let c0_i32_23 : BitVec 32 := 0#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.subi c1_i32_14 v2
  let c4_i32_22 : BitVec 32 := 4#32
  let v43 : BitVec 32 := Scalar.muli v35 c4_i32_22
  let v44 : BitVec 32 := Scalar.addi c0_i32_23 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v45 : BitVec 32 := Scalar.muli v5 c2_i32_24
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v47 : BitVec 32 := Scalar.muli v8 c1_i32_25
  let v48 : BitVec 32 := Scalar.addi v46 v47
  v48.toNat
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v49 : BitVec 32 := Scalar.muli v2 c4_i32_27
  let v50 : BitVec 32 := Scalar.addi c0_i32_28 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v51 : BitVec 32 := Scalar.muli v5 c2_i32_29
  let v52 : BitVec 32 := Scalar.addi v50 v51
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v36 : BitVec 32 := Scalar.subi c1_i32_15 v8
  let c1_i32_30 : BitVec 32 := 1#32
  let v53 : BitVec 32 := Scalar.muli v36 c1_i32_30
  let v54 : BitVec 32 := Scalar.addi v52 v53
  v54.toNat
def k0_cond2 (i : grid0.Coords) : BitVec 1 :=
  let arg0 : BitVec 32 := BitVec.ofNat 32 (i 0).val
  let c16_i32 : BitVec 32 := 16#32
  let v15 : BitVec 1 := Scalar.cmpi .slt arg0 c16_i32
  let v16 : BitVec 32 := Scalar.extui v15
  let c0_i32_6 : BitVec 32 := 0#32
  let v17 : BitVec 1 := Scalar.cmpi .ne v16 c0_i32_6
  v17

def k0_cond3 (i : grid0.Coords) : BitVec 1 :=
  let arg0 : BitVec 32 := BitVec.ofNat 32 (i 0).val
  let c4_i32_15 : BitVec 32 := 4#32
  let v35 : BitVec 1 := Scalar.cmpi .sge arg0 c4_i32_15
  let v36 : BitVec 32 := Scalar.extui v35
  let c0_i32_16 : BitVec 32 := 0#32
  let v37 : BitVec 1 := Scalar.cmpi .ne v36 c0_i32_16
  v37

def k0_off1 (i : grid0.Coords) : Fin 1 → Nat :=
  let arg0 : BitVec 32 := BitVec.ofNat 32 (i 0).val
  let c4_i32_14 : BitVec 32 := 4#32
  let v34 : BitVec 32 := Scalar.remsi arg0 c4_i32_14
  ![v34.toNat]
def k0_off2 (i : grid0.Coords) (d0 : Dev nD) : Fin 3 → Nat :=
  let arg0 : BitVec 32 := BitVec.ofNat 32 (i 0).val
  let c4_i32_14 : BitVec 32 := 4#32
  let v34 : BitVec 32 := Scalar.remsi arg0 c4_i32_14
  let c256_i32_33 : BitVec 32 := 256#32
  let c1_i32_32 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v66 : BitVec 32 := Scalar.subi c1_i32_32 v5
  let v67 : BitVec 32 := Scalar.muli c256_i32_33 v66
  let c0_i32_35 : BitVec 32 := 0#32
  ![v34.toNat, v67.toNat, 0]
def k0_off3 (i : grid0.Coords) : Fin 3 → Nat :=
  let arg0 : BitVec 32 := BitVec.ofNat 32 (i 0).val
  let c4_i32_14 : BitVec 32 := 4#32
  let v34 : BitVec 32 := Scalar.remsi arg0 c4_i32_14
  let c0_i32_36 : BitVec 32 := 0#32
  let c0_i32_37 : BitVec 32 := 0#32
  ![v34.toNat, 0, 0]
def k0_off4 (i : grid0.Coords) : Fin 3 → Nat :=
  let arg0 : BitVec 32 := BitVec.ofNat 32 (i 0).val
  let c4_i32_14 : BitVec 32 := 4#32
  let v34 : BitVec 32 := Scalar.remsi arg0 c4_i32_14
  let v43 : Index := Scalar.indexCast v34
  let c0_20 : Index := 0#32
  let c0_21 : Index := 0#32
  ![v43.toNat, 0, 0]
def k0_off5 (i : grid0.Coords) : Fin 1 → Nat :=
  let arg0 : BitVec 32 := BitVec.ofNat 32 (i 0).val
  let c4_i32_14 : BitVec 32 := 4#32
  let v34 : BitVec 32 := Scalar.remsi arg0 c4_i32_14
  ![v34.toNat]
def k0_off6 (i : grid0.Coords) : Fin 3 → Nat :=
  let arg0 : BitVec 32 := BitVec.ofNat 32 (i 0).val
  let c4_i32_14 : BitVec 32 := 4#32
  let v34 : BitVec 32 := Scalar.remsi arg0 c4_i32_14
  let c0_i32_29 : BitVec 32 := 0#32
  let c0_i32_30 : BitVec 32 := 0#32
  ![v34.toNat, 0, 0]
def k0_off7 (i : grid0.Coords) (d0 : Dev nD) : Fin 3 → Nat :=
  let arg0 : BitVec 32 := BitVec.ofNat 32 (i 0).val
  let c4_i32_14 : BitVec 32 := 4#32
  let v34 : BitVec 32 := Scalar.remsi arg0 c4_i32_14
  let c256_i32 : BitVec 32 := 256#32
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.subi c1_i32_24 v5
  let v51 : BitVec 32 := Scalar.muli c256_i32 v50
  let c0_i32_31 : BitVec 32 := 0#32
  ![v34.toNat, v51.toNat, 0]
def k0_dev4 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v52 : BitVec 32 := Scalar.muli v2 c4_i32_25
  let v53 : BitVec 32 := Scalar.addi c0_i32_26 v52
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_4 v5
  let c2_i32_27 : BitVec 32 := 2#32
  let v54 : BitVec 32 := Scalar.muli v11 c2_i32_27
  let v55 : BitVec 32 := Scalar.addi v53 v54
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v56 : BitVec 32 := Scalar.muli v8 c1_i32_28
  let v57 : BitVec 32 := Scalar.addi v55 v56
  v57.toNat
def k0_cond5 (i : grid0.Coords) : BitVec 1 :=
  let arg0 : BitVec 32 := BitVec.ofNat 32 (i 0).val
  let c1_i32_7 : BitVec 32 := 1#32
  let v18 : BitVec 1 := Scalar.cmpi .sge arg0 c1_i32_7
  let c16_i32_8 : BitVec 32 := 16#32
  let v19 : BitVec 1 := Scalar.cmpi .sle arg0 c16_i32_8
  let v20 : BitVec 1 := Scalar.andi v18 v19
  let v21 : BitVec 32 := Scalar.extui v20
  let c0_i32_9 : BitVec 32 := 0#32
  let v22 : BitVec 1 := Scalar.cmpi .ne v21 c0_i32_9
  v22

def k0_off8 (i : grid0.Coords) : Fin 1 → Nat :=
  let arg0 : BitVec 32 := BitVec.ofNat 32 (i 0).val
  let c1_i32_14 : BitVec 32 := 1#32
  let v34 : BitVec 32 := Scalar.subi arg0 c1_i32_14
  let c4_i32_15 : BitVec 32 := 4#32
  let v35 : BitVec 32 := Scalar.remsi v34 c4_i32_15
  ![v35.toNat]
def k0_off9 (i : grid0.Coords) : Fin 3 → Nat :=
  let arg0 : BitVec 32 := BitVec.ofNat 32 (i 0).val
  let c1_i32_14 : BitVec 32 := 1#32
  let v34 : BitVec 32 := Scalar.subi arg0 c1_i32_14
  let c4_i32_15 : BitVec 32 := 4#32
  let v35 : BitVec 32 := Scalar.remsi v34 c4_i32_15
  let c0_i32_21 : BitVec 32 := 0#32
  let c0_i32_22 : BitVec 32 := 0#32
  ![v35.toNat, 0, 0]
def k0_off10 (i : grid0.Coords) (d0 : Dev nD) : Fin 3 → Nat :=
  let arg0 : BitVec 32 := BitVec.ofNat 32 (i 0).val
  let c1_i32_14 : BitVec 32 := 1#32
  let v34 : BitVec 32 := Scalar.subi arg0 c1_i32_14
  let c4_i32_15 : BitVec 32 := 4#32
  let v35 : BitVec 32 := Scalar.remsi v34 c4_i32_15
  let c256_i32 : BitVec 32 := 256#32
  let c1_i32_16 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_16 v5
  let v37 : BitVec 32 := Scalar.muli c256_i32 v36
  let c0_i32_23 : BitVec 32 := 0#32
  ![v35.toNat, v37.toNat, 0]
def k0_cond6 (i : grid0.Coords) : BitVec 1 :=
  let arg0 : BitVec 32 := BitVec.ofNat 32 (i 0).val
  let c1_i32_14 : BitVec 32 := 1#32
  let v34 : BitVec 32 := Scalar.subi arg0 c1_i32_14
  let c4_i32_24 : BitVec 32 := 4#32
  let v50 : BitVec 1 := Scalar.cmpi .sge v34 c4_i32_24
  let v51 : BitVec 32 := Scalar.extui v50
  let c0_i32_25 : BitVec 32 := 0#32
  let v52 : BitVec 1 := Scalar.cmpi .ne v51 c0_i32_25
  v52

def k0_off11 (i : grid0.Coords) : Fin 1 → Nat :=
  let arg0 : BitVec 32 := BitVec.ofNat 32 (i 0).val
  let c1_i32_14 : BitVec 32 := 1#32
  let v34 : BitVec 32 := Scalar.subi arg0 c1_i32_14
  let c4_i32_15 : BitVec 32 := 4#32
  let v35 : BitVec 32 := Scalar.remsi v34 c4_i32_15
  ![v35.toNat]
def k0_off12 (i : grid0.Coords) : Fin 3 → Nat :=
  let arg0 : BitVec 32 := BitVec.ofNat 32 (i 0).val
  let c1_i32_14 : BitVec 32 := 1#32
  let v34 : BitVec 32 := Scalar.subi arg0 c1_i32_14
  let c4_i32_15 : BitVec 32 := 4#32
  let v35 : BitVec 32 := Scalar.remsi v34 c4_i32_15
  let c0_i32_63 : BitVec 32 := 0#32
  let c0_i32_64 : BitVec 32 := 0#32
  ![v35.toNat, 0, 0]
def k0_off13 (i : grid0.Coords) (d0 : Dev nD) : Fin 3 → Nat :=
  let arg0 : BitVec 32 := BitVec.ofNat 32 (i 0).val
  let c1_i32_14 : BitVec 32 := 1#32
  let v34 : BitVec 32 := Scalar.subi arg0 c1_i32_14
  let c4_i32_15 : BitVec 32 := 4#32
  let v35 : BitVec 32 := Scalar.remsi v34 c4_i32_15
  let v54 : Index := Scalar.indexCast v35
  let c256_i32_26 : BitVec 32 := 256#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.muli c256_i32_26 v5
  let v55 : Index := Scalar.indexCast v53
  let c0 : Index := 0#32
  ![v54.toNat, v55.toNat, 0]
def k0_off14 (i : grid0.Coords) : Fin 3 → Nat :=
  let arg0 : BitVec 32 := BitVec.ofNat 32 (i 0).val
  let c1_i32_14 : BitVec 32 := 1#32
  let v34 : BitVec 32 := Scalar.subi arg0 c1_i32_14
  let c4_i32_15 : BitVec 32 := 4#32
  let v35 : BitVec 32 := Scalar.remsi v34 c4_i32_15
  let v58 : Index := Scalar.indexCast v35
  let c0_27 : Index := 0#32
  let c0_28 : Index := 0#32
  ![v58.toNat, 0, 0]
def k0_dev5 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v66 : BitVec 32 := Scalar.muli v2 c4_i32_32
  let v67 : BitVec 32 := Scalar.addi c0_i32_33 v66
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_4 v5
  let c2_i32_34 : BitVec 32 := 2#32
  let v68 : BitVec 32 := Scalar.muli v11 c2_i32_34
  let v69 : BitVec 32 := Scalar.addi v67 v68
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v70 : BitVec 32 := Scalar.muli v8 c1_i32_35
  let v71 : BitVec 32 := Scalar.addi v69 v70
  v71.toNat
def k0_dev6 (i : grid0.Coords) (d0 : Dev nD) : Nat :=
  let c0_i32_50 : BitVec 32 := 0#32
  let arg0 : BitVec 32 := BitVec.ofNat 32 (i 0).val
  let c1_i32_14 : BitVec 32 := 1#32
  let v34 : BitVec 32 := Scalar.subi arg0 c1_i32_14
  let c2_i32_44 : BitVec 32 := 2#32
  let v84 : BitVec 32 := Scalar.remsi v34 c2_i32_44
  let c0_i32_45 : BitVec 32 := 0#32
  let v85 : BitVec 1 := Scalar.cmpi .eq v84 c0_i32_45
  let c1_i32_46 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v86 : BitVec 32 := Scalar.subi c1_i32_46 v2
  let v87 : BitVec 32 := Scalar.select v85 v86 v2
  let c4_i32_49 : BitVec 32 := 4#32
  let v91 : BitVec 32 := Scalar.muli v87 c4_i32_49
  let v92 : BitVec 32 := Scalar.addi c0_i32_50 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v93 : BitVec 32 := Scalar.muli v5 c2_i32_51
  let v94 : BitVec 32 := Scalar.addi v92 v93
  let c0_i32_47 : BitVec 32 := 0#32
  let v88 : BitVec 1 := Scalar.cmpi .eq v84 c0_i32_47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v89 : BitVec 32 := Scalar.subi c1_i32_48 v8
  let v90 : BitVec 32 := Scalar.select v88 v8 v89
  let c1_i32_52 : BitVec 32 := 1#32
  let v95 : BitVec 32 := Scalar.muli v90 c1_i32_52
  let v96 : BitVec 32 := Scalar.addi v94 v95
  v96.toNat
def k0_cond9 (i : grid0.Coords) : BitVec 1 :=
  let arg0 : BitVec 32 := BitVec.ofNat 32 (i 0).val
  let c2_i32_10 : BitVec 32 := 2#32
  let v23 : BitVec 1 := Scalar.cmpi .sge arg0 c2_i32_10
  let c17_i32 : BitVec 32 := 17#32
  let v24 : BitVec 1 := Scalar.cmpi .sle arg0 c17_i32
  let v25 : BitVec 1 := Scalar.andi v23 v24
  let v26 : BitVec 32 := Scalar.extui v25
  let c0_i32_11 : BitVec 32 := 0#32
  let v27 : BitVec 1 := Scalar.cmpi .ne v26 c0_i32_11
  v27

def k0_off15 (i : grid0.Coords) : Fin 1 → Nat :=
  let arg0 : BitVec 32 := BitVec.ofNat 32 (i 0).val
  let c2_i32_14 : BitVec 32 := 2#32
  let v34 : BitVec 32 := Scalar.subi arg0 c2_i32_14
  let c4_i32_15 : BitVec 32 := 4#32
  let v35 : BitVec 32 := Scalar.remsi v34 c4_i32_15
  ![v35.toNat]
def k0_off16 (i : grid0.Coords) : Fin 3 → Nat :=
  let arg0 : BitVec 32 := BitVec.ofNat 32 (i 0).val
  let c2_i32_14 : BitVec 32 := 2#32
  let v34 : BitVec 32 := Scalar.subi arg0 c2_i32_14
  let c4_i32_15 : BitVec 32 := 4#32
  let v35 : BitVec 32 := Scalar.remsi v34 c4_i32_15
  let c0_i32_25 : BitVec 32 := 0#32
  let c0_i32_26 : BitVec 32 := 0#32
  ![v35.toNat, 0, 0]
def k0_dev7 (i : grid0.Coords) (d0 : Dev nD) : Nat :=
  let c0_i32_43 : BitVec 32 := 0#32
  let arg0 : BitVec 32 := BitVec.ofNat 32 (i 0).val
  let c2_i32_14 : BitVec 32 := 2#32
  let v34 : BitVec 32 := Scalar.subi arg0 c2_i32_14
  let c2_i32_37 : BitVec 32 := 2#32
  let v67 : BitVec 32 := Scalar.remsi v34 c2_i32_37
  let c0_i32_38 : BitVec 32 := 0#32
  let v68 : BitVec 1 := Scalar.cmpi .eq v67 c0_i32_38
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_39 : BitVec 32 := 1#32
  let v69 : BitVec 32 := Scalar.subi c1_i32_39 v2
  let v70 : BitVec 32 := Scalar.select v68 v2 v69
  let c4_i32_42 : BitVec 32 := 4#32
  let v74 : BitVec 32 := Scalar.muli v70 c4_i32_42
  let v75 : BitVec 32 := Scalar.addi c0_i32_43 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_44 : BitVec 32 := 2#32
  let v76 : BitVec 32 := Scalar.muli v5 c2_i32_44
  let v77 : BitVec 32 := Scalar.addi v75 v76
  let c0_i32_40 : BitVec 32 := 0#32
  let v71 : BitVec 1 := Scalar.cmpi .eq v67 c0_i32_40
  let c1_i32_41 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v72 : BitVec 32 := Scalar.subi c1_i32_41 v8
  let v73 : BitVec 32 := Scalar.select v71 v72 v8
  let c1_i32_45 : BitVec 32 := 1#32
  let v78 : BitVec 32 := Scalar.muli v73 c1_i32_45
  let v79 : BitVec 32 := Scalar.addi v77 v78
  v79.toNat
def k0_dev8 (i : grid0.Coords) (d0 : Dev nD) : Nat :=
  let c0_i32_56 : BitVec 32 := 0#32
  let arg0 : BitVec 32 := BitVec.ofNat 32 (i 0).val
  let c2_i32_14 : BitVec 32 := 2#32
  let v34 : BitVec 32 := Scalar.subi arg0 c2_i32_14
  let c2_i32_50 : BitVec 32 := 2#32
  let v88 : BitVec 32 := Scalar.remsi v34 c2_i32_50
  let c0_i32_51 : BitVec 32 := 0#32
  let v89 : BitVec 1 := Scalar.cmpi .eq v88 c0_i32_51
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_52 : BitVec 32 := 1#32
  let v90 : BitVec 32 := Scalar.subi c1_i32_52 v2
  let v91 : BitVec 32 := Scalar.select v89 v2 v90
  let c4_i32_55 : BitVec 32 := 4#32
  let v95 : BitVec 32 := Scalar.muli v91 c4_i32_55
  let v96 : BitVec 32 := Scalar.addi c0_i32_56 v95
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v97 : BitVec 32 := Scalar.muli v5 c2_i32_57
  let v98 : BitVec 32 := Scalar.addi v96 v97
  let c0_i32_53 : BitVec 32 := 0#32
  let v92 : BitVec 1 := Scalar.cmpi .eq v88 c0_i32_53
  let c1_i32_54 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v93 : BitVec 32 := Scalar.subi c1_i32_54 v8
  let v94 : BitVec 32 := Scalar.select v92 v93 v8
  let c1_i32_58 : BitVec 32 := 1#32
  let v99 : BitVec 32 := Scalar.muli v94 c1_i32_58
  let v100 : BitVec 32 := Scalar.addi v98 v99
  v100.toNat
def k0_cond12 (i : grid0.Coords) : BitVec 1 :=
  let arg0 : BitVec 32 := BitVec.ofNat 32 (i 0).val
  let c3_i32 : BitVec 32 := 3#32
  let v28 : BitVec 1 := Scalar.cmpi .sge arg0 c3_i32
  let v29 : BitVec 32 := Scalar.extui v28
  let c0_i32_12 : BitVec 32 := 0#32
  let v30 : BitVec 1 := Scalar.cmpi .ne v29 c0_i32_12
  v30

def k0_off17 (i : grid0.Coords) : Fin 1 → Nat :=
  let arg0 : BitVec 32 := BitVec.ofNat 32 (i 0).val
  let c3_i32_14 : BitVec 32 := 3#32
  let v34 : BitVec 32 := Scalar.subi arg0 c3_i32_14
  let c4_i32_15 : BitVec 32 := 4#32
  let v35 : BitVec 32 := Scalar.remsi v34 c4_i32_15
  ![v35.toNat]
def k0_off18 (i : grid0.Coords) : Fin 3 → Nat :=
  let arg0 : BitVec 32 := BitVec.ofNat 32 (i 0).val
  let c3_i32_14 : BitVec 32 := 3#32
  let v34 : BitVec 32 := Scalar.subi arg0 c3_i32_14
  let c4_i32_15 : BitVec 32 := 4#32
  let v35 : BitVec 32 := Scalar.remsi v34 c4_i32_15
  let c0_i32_29 : BitVec 32 := 0#32
  let c0_i32_30 : BitVec 32 := 0#32
  ![v35.toNat, 0, 0]
def k0_off19 (i : grid0.Coords) : Fin 3 → Nat :=
  let arg0 : BitVec 32 := BitVec.ofNat 32 (i 0).val
  let c3_i32_14 : BitVec 32 := 3#32
  let v34 : BitVec 32 := Scalar.subi arg0 c3_i32_14
  let c4_i32_15 : BitVec 32 := 4#32
  let v35 : BitVec 32 := Scalar.remsi v34 c4_i32_15
  let v103 : Index := Scalar.indexCast v35
  let c0 : Index := 0#32
  let c0_66 : Index := 0#32
  ![v103.toNat, 0, 0]
def k0_off20 (d0 : Dev nD) : Fin 2 → Nat :=
  let c256_i32 : BitVec 32 := 256#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v106 : BitVec 32 := Scalar.muli c256_i32 v10
  let v107 : Index := Scalar.indexCast v106
  let c0_67 : Index := 0#32
  ![v107.toNat, 0]
def k0_off21 (i : grid0.Coords) (d0 : Dev nD) : Fin 2 → Nat :=
  let c256_i32_70 : BitVec 32 := 256#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let arg0 : BitVec 32 := BitVec.ofNat 32 (i 0).val
  let c3_i32_14 : BitVec 32 := 3#32
  let v34 : BitVec 32 := Scalar.subi arg0 c3_i32_14
  let c2_i32_16 : BitVec 32 := 2#32
  let v36 : BitVec 32 := Scalar.remsi v34 c2_i32_16
  let c0_i32_17 : BitVec 32 := 0#32
  let v37 : BitVec 1 := Scalar.cmpi .eq v36 c0_i32_17
  let c2_i32_18 : BitVec 32 := 2#32
  let c1_i32_19 : BitVec 32 := 1#32
  let v38 : BitVec 32 := Scalar.select v37 c2_i32_18 c1_i32_19
  let v112 : BitVec 32 := Scalar.xori v10 v38
  let v113 : BitVec 32 := Scalar.muli c256_i32_70 v112
  let v114 : Index := Scalar.indexCast v113
  let c0_71 : Index := 0#32
  ![v114.toNat, 0]
def k0_off22 (i : grid0.Coords) (d0 : Dev nD) : Fin 2 → Nat :=
  let c256_i32_75 : BitVec 32 := 256#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c3_i32_74 : BitVec 32 := 3#32
  let arg0 : BitVec 32 := BitVec.ofNat 32 (i 0).val
  let c3_i32_14 : BitVec 32 := 3#32
  let v34 : BitVec 32 := Scalar.subi arg0 c3_i32_14
  let c2_i32_16 : BitVec 32 := 2#32
  let v36 : BitVec 32 := Scalar.remsi v34 c2_i32_16
  let c0_i32_17 : BitVec 32 := 0#32
  let v37 : BitVec 1 := Scalar.cmpi .eq v36 c0_i32_17
  let c2_i32_18 : BitVec 32 := 2#32
  let c1_i32_19 : BitVec 32 := 1#32
  let v38 : BitVec 32 := Scalar.select v37 c2_i32_18 c1_i32_19
  let v119 : BitVec 32 := Scalar.subi c3_i32_74 v38
  let v120 : BitVec 32 := Scalar.xori v10 v119
  let v121 : BitVec 32 := Scalar.muli c256_i32_75 v120
  let v122 : Index := Scalar.indexCast v121
  let c0_76 : Index := 0#32
  ![v122.toNat, 0]
def k0_off23 (d0 : Dev nD) : Fin 2 → Nat :=
  let c256_i32_80 : BitVec 32 := 256#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c3_i32_79 : BitVec 32 := 3#32
  let v127 : BitVec 32 := Scalar.xori v10 c3_i32_79
  let v128 : BitVec 32 := Scalar.muli c256_i32_80 v127
  let v129 : Index := Scalar.indexCast v128
  let c0_81 : Index := 0#32
  ![v129.toNat, 0]
def k0_cond13 (i : grid0.Coords) : BitVec 1 :=
  let arg0 : BitVec 32 := BitVec.ofNat 32 (i 0).val
  let c3_i32_14 : BitVec 32 := 3#32
  let v34 : BitVec 32 := Scalar.subi arg0 c3_i32_14
  let c2_i32_16 : BitVec 32 := 2#32
  let v36 : BitVec 32 := Scalar.remsi v34 c2_i32_16
  let c0_i32_91 : BitVec 32 := 0#32
  let v144 : BitVec 1 := Scalar.cmpi .eq v36 c0_i32_91
  let v145 : BitVec 32 := Scalar.extui v144
  let c0_i32_92 : BitVec 32 := 0#32
  let v146 : BitVec 1 := Scalar.cmpi .ne v145 c0_i32_92
  v146

def k0_dev9 (i : grid0.Coords) (d0 : Dev nD) : Nat :=
  let c0_i32_97 : BitVec 32 := 0#32
  let arg0 : BitVec 32 := BitVec.ofNat 32 (i 0).val
  let c3_i32_14 : BitVec 32 := 3#32
  let v34 : BitVec 32 := Scalar.subi arg0 c3_i32_14
  let c2_i32_82 : BitVec 32 := 2#32
  let v131 : BitVec 32 := Scalar.remsi v34 c2_i32_82
  let c0_i32_83 : BitVec 32 := 0#32
  let v132 : BitVec 1 := Scalar.cmpi .eq v131 c0_i32_83
  let c1_i32_84 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v133 : BitVec 32 := Scalar.subi c1_i32_84 v2
  let v134 : BitVec 32 := Scalar.select v132 v133 v2
  let c4_i32_96 : BitVec 32 := 4#32
  let v150 : BitVec 32 := Scalar.muli v134 c4_i32_96
  let v151 : BitVec 32 := Scalar.addi c0_i32_97 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_98 : BitVec 32 := 2#32
  let v152 : BitVec 32 := Scalar.muli v5 c2_i32_98
  let v153 : BitVec 32 := Scalar.addi v151 v152
  let c0_i32_85 : BitVec 32 := 0#32
  let v135 : BitVec 1 := Scalar.cmpi .eq v131 c0_i32_85
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v136 : BitVec 32 := Scalar.subi c1_i32_86 v8
  let v137 : BitVec 32 := Scalar.select v135 v8 v136
  let c1_i32_99 : BitVec 32 := 1#32
  let v154 : BitVec 32 := Scalar.muli v137 c1_i32_99
  let v155 : BitVec 32 := Scalar.addi v153 v154
  v155.toNat
def k0_dev10 (i : grid0.Coords) (d0 : Dev nD) : Nat :=
  let c0_i32_102 : BitVec 32 := 0#32
  let arg0 : BitVec 32 := BitVec.ofNat 32 (i 0).val
  let c3_i32_14 : BitVec 32 := 3#32
  let v34 : BitVec 32 := Scalar.subi arg0 c3_i32_14
  let c2_i32_82 : BitVec 32 := 2#32
  let v131 : BitVec 32 := Scalar.remsi v34 c2_i32_82
  let c0_i32_87 : BitVec 32 := 0#32
  let v138 : BitVec 1 := Scalar.cmpi .eq v131 c0_i32_87
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_88 : BitVec 32 := 1#32
  let v139 : BitVec 32 := Scalar.subi c1_i32_88 v2
  let v140 : BitVec 32 := Scalar.select v138 v2 v139
  let c4_i32_101 : BitVec 32 := 4#32
  let v156 : BitVec 32 := Scalar.muli v140 c4_i32_101
  let v157 : BitVec 32 := Scalar.addi c0_i32_102 v156
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v158 : BitVec 32 := Scalar.muli v5 c2_i32_103
  let v159 : BitVec 32 := Scalar.addi v157 v158
  let c0_i32_89 : BitVec 32 := 0#32
  let v141 : BitVec 1 := Scalar.cmpi .eq v131 c0_i32_89
  let c1_i32_90 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v142 : BitVec 32 := Scalar.subi c1_i32_90 v8
  let v143 : BitVec 32 := Scalar.select v141 v142 v8
  let c1_i32_104 : BitVec 32 := 1#32
  let v160 : BitVec 32 := Scalar.muli v143 c1_i32_104
  let v161 : BitVec 32 := Scalar.addi v159 v160
  v161.toNat
def k0_cond14 (i : grid0.Coords) : BitVec 1 :=
  let arg0 : BitVec 32 := BitVec.ofNat 32 (i 0).val
  let c3_i32_14 : BitVec 32 := 3#32
  let v34 : BitVec 32 := Scalar.subi arg0 c3_i32_14
  let c2_i32_16 : BitVec 32 := 2#32
  let v36 : BitVec 32 := Scalar.remsi v34 c2_i32_16
  let c1_i32_93 : BitVec 32 := 1#32
  let v147 : BitVec 1 := Scalar.cmpi .eq v36 c1_i32_93
  let v148 : BitVec 32 := Scalar.extui v147
  let c0_i32_94 : BitVec 32 := 0#32
  let v149 : BitVec 1 := Scalar.cmpi .ne v148 c0_i32_94
  v149

def k0_dev11 (i : grid0.Coords) (d0 : Dev nD) : Nat :=
  let c0_i32_97 : BitVec 32 := 0#32
  let arg0 : BitVec 32 := BitVec.ofNat 32 (i 0).val
  let c3_i32_14 : BitVec 32 := 3#32
  let v34 : BitVec 32 := Scalar.subi arg0 c3_i32_14
  let c2_i32_82 : BitVec 32 := 2#32
  let v131 : BitVec 32 := Scalar.remsi v34 c2_i32_82
  let c0_i32_83 : BitVec 32 := 0#32
  let v132 : BitVec 1 := Scalar.cmpi .eq v131 c0_i32_83
  let c1_i32_84 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v133 : BitVec 32 := Scalar.subi c1_i32_84 v2
  let v134 : BitVec 32 := Scalar.select v132 v133 v2
  let c4_i32_96 : BitVec 32 := 4#32
  let v150 : BitVec 32 := Scalar.muli v134 c4_i32_96
  let v151 : BitVec 32 := Scalar.addi c0_i32_97 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_98 : BitVec 32 := 2#32
  let v152 : BitVec 32 := Scalar.muli v5 c2_i32_98
  let v153 : BitVec 32 := Scalar.addi v151 v152
  let c0_i32_85 : BitVec 32 := 0#32
  let v135 : BitVec 1 := Scalar.cmpi .eq v131 c0_i32_85
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v136 : BitVec 32 := Scalar.subi c1_i32_86 v8
  let v137 : BitVec 32 := Scalar.select v135 v8 v136
  let c1_i32_99 : BitVec 32 := 1#32
  let v154 : BitVec 32 := Scalar.muli v137 c1_i32_99
  let v155 : BitVec 32 := Scalar.addi v153 v154
  v155.toNat
def k0_dev12 (i : grid0.Coords) (d0 : Dev nD) : Nat :=
  let c0_i32_102 : BitVec 32 := 0#32
  let arg0 : BitVec 32 := BitVec.ofNat 32 (i 0).val
  let c3_i32_14 : BitVec 32 := 3#32
  let v34 : BitVec 32 := Scalar.subi arg0 c3_i32_14
  let c2_i32_82 : BitVec 32 := 2#32
  let v131 : BitVec 32 := Scalar.remsi v34 c2_i32_82
  let c0_i32_87 : BitVec 32 := 0#32
  let v138 : BitVec 1 := Scalar.cmpi .eq v131 c0_i32_87
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_88 : BitVec 32 := 1#32
  let v139 : BitVec 32 := Scalar.subi c1_i32_88 v2
  let v140 : BitVec 32 := Scalar.select v138 v2 v139
  let c4_i32_101 : BitVec 32 := 4#32
  let v156 : BitVec 32 := Scalar.muli v140 c4_i32_101
  let v157 : BitVec 32 := Scalar.addi c0_i32_102 v156
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v158 : BitVec 32 := Scalar.muli v5 c2_i32_103
  let v159 : BitVec 32 := Scalar.addi v157 v158
  let c0_i32_89 : BitVec 32 := 0#32
  let v141 : BitVec 1 := Scalar.cmpi .eq v131 c0_i32_89
  let c1_i32_90 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v142 : BitVec 32 := Scalar.subi c1_i32_90 v8
  let v143 : BitVec 32 := Scalar.select v141 v142 v8
  let c1_i32_104 : BitVec 32 := 1#32
  let v160 : BitVec 32 := Scalar.muli v143 c1_i32_104
  let v161 : BitVec 32 := Scalar.addi v159 v160
  v161.toNat
def k0_cond15 (i : grid0.Coords) : BitVec 1 :=
  let arg0 : BitVec 32 := BitVec.ofNat 32 (i 0).val
  let c18_i32 : BitVec 32 := 18#32
  let v31 : BitVec 1 := Scalar.cmpi .eq arg0 c18_i32
  let v32 : BitVec 32 := Scalar.extui v31
  let c0_i32_13 : BitVec 32 := 0#32
  let v33 : BitVec 1 := Scalar.cmpi .ne v32 c0_i32_13
  v33

def k0_off24 (d0 : Dev nD) : Fin 3 → Nat :=
  let c0_i32_25 : BitVec 32 := 0#32
  let c256_i32 : BitVec 32 := 256#32
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_23 v5
  let v35 : BitVec 32 := Scalar.muli c256_i32 v34
  let c0_i32_29 : BitVec 32 := 0#32
  ![0, v35.toNat, 0]
def k0_off25 (d0 : Dev nD) : Fin 3 → Nat :=
  let c1_i32_50 : BitVec 32 := 1#32
  let c256_i32_48 : BitVec 32 := 256#32
  let c1_i32_47 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v55 : BitVec 32 := Scalar.subi c1_i32_47 v5
  let v56 : BitVec 32 := Scalar.muli c256_i32_48 v55
  let c0_i32_54 : BitVec 32 := 0#32
  ![1, v56.toNat, 0]
def k0_off26 (d0 : Dev nD) : Fin 3 → Nat :=
  let c2_i32_75 : BitVec 32 := 2#32
  let c256_i32_73 : BitVec 32 := 256#32
  let c1_i32_72 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v76 : BitVec 32 := Scalar.subi c1_i32_72 v5
  let v77 : BitVec 32 := Scalar.muli c256_i32_73 v76
  let c0_i32_79 : BitVec 32 := 0#32
  ![2, v77.toNat, 0]
def k0_off27 (d0 : Dev nD) : Fin 3 → Nat :=
  let c3_i32_100 : BitVec 32 := 3#32
  let c256_i32_98 : BitVec 32 := 256#32
  let c1_i32_97 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v97 : BitVec 32 := Scalar.subi c1_i32_97 v5
  let v98 : BitVec 32 := Scalar.muli c256_i32_98 v97
  let c0_i32_104 : BitVec 32 := 0#32
  ![3, v98.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1x2048x64x128 : Shape := ⟨4, ![1, 2048, 64, 128]⟩
abbrev S8192x8192 : Shape := ⟨2, ![8192, 8192]⟩
abbrev S1x2048x8192 : Shape := ⟨3, ![1, 2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S1x2048x64x128, .f32⟩
  | .hbm, ⟨1, _⟩ => ⟨S8192x8192, .f32⟩
  | .hbm, ⟨2, _⟩ => ⟨S1x2048x8192, .f32⟩
  | .hbm, ⟨3, _⟩ => ⟨S1x2048x8192, .f32⟩
  | _, _ => ⟨S1x2048x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Setup.lean ====
module

public import proofs.«01_k».proof.Proof.Gen.KernelIdeal
public import proofs.«01_k».proof.Proof.Gen.KernelIdeal.Skeleton
public import Idealize.ShloMosaic.Lib.Pipeline.Regions
public import Idealize.ShloMosaic.Lib.Pipeline.Kit
public import Idealize.ShloMosaic.Lib.Pipeline.RegionTalk
public import Idealize.ShloMosaic.Lib.Pipeline.Launch
public import Idealize.ShloMosaic.Lib.Rounds
public import Idealize.ShloMosaic.Lib.Release
public import Idealize.ShloMosaic.Lib.Tactic

/-! The mesh, the printed conditions and offsets in closed form, and the resource algebra. -/

@[expose] public section

noncomputable section

namespace Cert.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-! ## The mesh -/

/-- The neighbour along the second axis of the mesh. -/
def yp (c : Dev nD) : Dev nD := (![2, 3, 0, 1, 6, 7, 4, 5] : Fin 8 → Fin 8) c
/-- The neighbour along the first axis. -/
def xp (c : Dev nD) : Dev nD := (![4, 5, 6, 7, 0, 1, 2, 3] : Fin 8 → Fin 8) c
/-- The neighbour along the third axis. -/
def zp (c : Dev nD) : Dev nD := (![1, 0, 3, 2, 5, 4, 7, 6] : Fin 8 → Fin 8) c
/-- A device's place along the second axis: which half of a partial product it keeps. -/
def yb (c : Dev nD) : Fin 2 := (![0, 0, 1, 1, 0, 0, 1, 1] : Fin 8 → Fin 2) c
/-- The half a device gives away. -/
def nyb (c : Dev nD) : Fin 2 := (![1, 1, 0, 0, 1, 1, 0, 0] : Fin 8 → Fin 2) c
/-- The first partner of a device for a block: the blocks of even number go along the first axis first. -/
def fstp (c : Dev nD) (b : ℕ) : Dev nD := if b % 2 = 0 then xp c else zp c
/-- The second partner. -/
def sndp (c : Dev nD) (b : ℕ) : Dev nD := if b % 2 = 0 then zp c else xp c

theorem yp_yp : ∀ c, yp (yp c) = c := by decide
theorem xp_xp : ∀ c, xp (xp c) = c := by decide
theorem zp_zp : ∀ c, zp (zp c) = c := by decide
theorem yp_ne : ∀ c, yp c ≠ c := by decide
theorem yb_yp : ∀ c, yb (yp c) = nyb c := by decide
theorem nyb_ne : ∀ c, nyb c ≠ yb c := by decide
theorem fstp_fstp (b : ℕ) (c : Dev nD) : fstp (fstp c b) b = c := by
  unfold fstp; split <;> simp [xp_xp, zp_zp]
theorem sndp_sndp (b : ℕ) (c : Dev nD) : sndp (sndp c b) b = c := by
  unfold sndp; split <;> simp [xp_xp, zp_zp]
theorem yp_inj : Function.Injective yp := Function.LeftInverse.injective yp_yp
theorem fstp_mod (c : Dev nD) (b : ℕ) : fstp c (b % 2) = fstp c b := by unfold fstp; simp
theorem sndp_mod (c : Dev nD) (b : ℕ) : sndp c (b % 2) = sndp c b := by unfold sndp; simp

/-! ## The printed device numbers -/

theorem dev1_yp (c : Dev nD) (h) : (⟨k0_dev1 c, h⟩ : Dev nD) = yp c := by
  apply Fin.ext; revert c; have : ∀ c : Dev nD, k0_dev1 c = (yp c).val := by decide +kernel
  exact fun c _ => this c
theorem dev2_xp (c : Dev nD) (h) : (⟨k0_dev2 c, h⟩ : Dev nD) = xp c := by
  apply Fin.ext; revert c; have : ∀ c : Dev nD, k0_dev2 c = (xp c).val := by decide +kernel
  exact fun c _ => this c
theorem dev3_zp (c : Dev nD) (h) : (⟨k0_dev3 c, h⟩ : Dev nD) = zp c := by
  apply Fin.ext; revert c; have : ∀ c : Dev nD, k0_dev3 c = (zp c).val := by decide +kernel
  exact fun c _ => this c
theorem dev4_yp (c : Dev nD) (h) : (⟨k0_dev4 c, h⟩ : Dev nD) = yp c := by
  apply Fin.ext; revert c; have : ∀ c : Dev nD, k0_dev4 c = (yp c).val := by decide +kernel
  exact fun c _ => this c
theorem dev5_yp (c : Dev nD) (h) : (⟨k0_dev5 c, h⟩ : Dev nD) = yp c := by
  apply Fin.ext; revert c; have : ∀ c : Dev nD, k0_dev5 c = (yp c).val := by decide +kernel
  exact fun c _ => this c

theorem dev6_eq' : ∀ (i : grid0.Coords) (c : Dev nD), k0_cond5 i = 1#1 → k0_dev6 i c = (fstp c ((i 0).val - 1)).val := by
  decide +kernel
theorem dev7_eq' : ∀ (i : grid0.Coords) (c : Dev nD), k0_cond9 i = 1#1 → k0_dev7 i c = (sndp c ((i 0).val - 2)).val := by
  decide +kernel
theorem dev8_eq' : ∀ (i : grid0.Coords) (c : Dev nD), k0_cond9 i = 1#1 → k0_dev8 i c = (sndp c ((i 0).val - 2)).val := by
  decide +kernel
theorem dev9_eq' : ∀ (i : grid0.Coords) (c : Dev nD), k0_cond12 i = 1#1 → k0_cond13 i = 1#1 → k0_dev9 i c = (fstp c ((i 0).val - 3)).val := by
  decide +kernel
theorem dev10_eq' : ∀ (i : grid0.Coords) (c : Dev nD), k0_cond12 i = 1#1 → k0_cond13 i = 1#1 → k0_dev10 i c = (sndp c ((i 0).val - 3)).val := by
  decide +kernel
theorem dev11_eq' : ∀ (i : grid0.Coords) (c : Dev nD), k0_cond12 i = 1#1 → k0_cond14 i = 1#1 → k0_dev11 i c = (fstp c ((i 0).val - 3)).val := by
  decide +kernel
theorem dev12_eq' : ∀ (i : grid0.Coords) (c : Dev nD), k0_cond12 i = 1#1 → k0_cond14 i = 1#1 → k0_dev12 i c = (sndp c ((i 0).val - 3)).val := by
  decide +kernel

theorem dev6_fst (i : grid0.Coords) (c : Dev nD) (hc : k0_cond5 i = 1#1) (h) :
    (⟨k0_dev6 i c, h⟩ : Dev nD) = fstp c ((i 0).val - 1) := Fin.ext (dev6_eq' i c hc)
theorem dev7_snd (i : grid0.Coords) (c : Dev nD) (hc : k0_cond9 i = 1#1) (h) :
    (⟨k0_dev7 i c, h⟩ : Dev nD) = sndp c ((i 0).val - 2) := Fin.ext (dev7_eq' i c hc)
theorem dev8_snd (i : grid0.Coords) (c : Dev nD) (hc : k0_cond9 i = 1#1) (h) :
    (⟨k0_dev8 i c, h⟩ : Dev nD) = sndp c ((i 0).val - 2) := Fin.ext (dev8_eq' i c hc)
theorem dev9_fst (i : grid0.Coords) (c : Dev nD) (hc : k0_cond12 i = 1#1) (hd : k0_cond13 i = 1#1) (h) :
    (⟨k0_dev9 i c, h⟩ : Dev nD) = fstp c ((i 0).val - 3) := Fin.ext (dev9_eq' i c hc hd)
theorem dev10_snd (i : grid0.Coords) (c : Dev nD) (hc : k0_cond12 i = 1#1) (hd : k0_cond13 i = 1#1) (h) :
    (⟨k0_dev10 i c, h⟩ : Dev nD) = sndp c ((i 0).val - 3) := Fin.ext (dev10_eq' i c hc hd)
theorem dev11_fst (i : grid0.Coords) (c : Dev nD) (hc : k0_cond12 i = 1#1) (hd : k0_cond14 i = 1#1) (h) :
    (⟨k0_dev11 i c, h⟩ : Dev nD) = fstp c ((i 0).val - 3) := Fin.ext (dev11_eq' i c hc hd)
theorem dev12_snd (i : grid0.Coords) (c : Dev nD) (hc : k0_cond12 i = 1#1) (hd : k0_cond14 i = 1#1) (h) :
    (⟨k0_dev12 i c, h⟩ : Dev nD) = sndp c ((i 0).val - 3) := Fin.ext (dev12_eq' i c hc hd)

/-! ## The printed conditions -/

theorem cond1_iff : ∀ i : grid0.Coords, k0_cond1 i = 1#1 ↔ (i 0).val = 0 := by decide +kernel
theorem cond2_iff : ∀ i : grid0.Coords, k0_cond2 i = 1#1 ↔ (i 0).val < 16 := by decide +kernel
theorem cond3_iff : ∀ i : grid0.Coords, k0_cond3 i = 1#1 ↔ 4 ≤ (i 0).val := by decide +kernel
theorem cond5_iff : ∀ i : grid0.Coords, k0_cond5 i = 1#1 ↔ 1 ≤ (i 0).val ∧ (i 0).val ≤ 16 := by decide +kernel
theorem cond6_iff : ∀ i : grid0.Coords, k0_cond5 i = 1#1 → (k0_cond6 i = 1#1 ↔ 5 ≤ (i 0).val) := by decide +kernel
theorem cond9_iff : ∀ i : grid0.Coords, k0_cond9 i = 1#1 ↔ 2 ≤ (i 0).val ∧ (i 0).val ≤ 17 := by decide +kernel
theorem cond12_iff : ∀ i : grid0.Coords, k0_cond12 i = 1#1 ↔ 3 ≤ (i 0).val := by decide +kernel
theorem cond13_iff : ∀ i : grid0.Coords, k0_cond12 i = 1#1 → (k0_cond13 i = 1#1 ↔ ((i 0).val - 3) % 2 = 0) := by decide +kernel
theorem cond14_iff : ∀ i : grid0.Coords, k0_cond12 i = 1#1 → (k0_cond14 i = 1#1 ↔ ((i 0).val - 3) % 2 = 1) := by decide +kernel
theorem cond15_iff : ∀ i : grid0.Coords, k0_cond15 i = 1#1 ↔ (i 0).val = 18 := by decide +kernel

/-! ## The printed offsets -/

theorem off8_eq' : ∀ i : grid0.Coords, k0_cond5 i = 1#1 → k0_off8 i = ![((i 0).val - 1) % 4] := by decide +kernel
theorem off9_eq' : ∀ i : grid0.Coords, k0_cond5 i = 1#1 → k0_off9 i = ![((i 0).val - 1) % 4, 0, 0] := by decide +kernel
theorem off10_eq' : ∀ (i : grid0.Coords) (c : Dev nD), k0_cond5 i = 1#1 →
    k0_off10 i c = ![((i 0).val - 1) % 4, 256 * (nyb c).val, 0] := by decide +kernel
theorem off11_eq' : ∀ i : grid0.Coords, k0_cond5 i = 1#1 → k0_cond6 i = 1#1 → k0_off11 i = ![((i 0).val - 1) % 4] := by decide +kernel
theorem off12_eq' : ∀ i : grid0.Coords, k0_cond5 i = 1#1 → k0_cond6 i = 1#1 → k0_off12 i = ![((i 0).val - 1) % 4, 0, 0] := by decide +kernel
theorem off13_eq' : ∀ (i : grid0.Coords) (c : Dev nD), k0_cond5 i = 1#1 →
    k0_off13 i c = ![((i 0).val - 1) % 4, 256 * (yb c).val, 0] := by decide +kernel
theorem off14_eq' : ∀ i : grid0.Coords, k0_cond5 i = 1#1 → k0_off14 i = ![((i 0).val - 1) % 4, 0, 0] := by decide +kernel
theorem off15_eq' : ∀ i : grid0.Coords, k0_cond9 i = 1#1 → k0_off15 i = ![((i 0).val - 2) % 4] := by decide +kernel
theorem off16_eq' : ∀ i : grid0.Coords, k0_cond9 i = 1#1 → k0_off16 i = ![((i 0).val - 2) % 4, 0, 0] := by decide +kernel
theorem off17_eq' : ∀ i : grid0.Coords, k0_cond12 i = 1#1 → k0_off17 i = ![((i 0).val - 3) % 4] := by decide +kernel
theorem off18_eq' : ∀ i : grid0.Coords, k0_cond12 i = 1#1 → k0_off18 i = ![((i 0).val - 3) % 4, 0, 0] := by decide +kernel
theorem off19_eq' : ∀ i : grid0.Coords, k0_cond12 i = 1#1 → k0_off19 i = ![((i 0).val - 3) % 4, 0, 0] := by decide +kernel
theorem off7_eq' : ∀ (i : grid0.Coords) (c : Dev nD), k0_off7 i c = ![(i 0).val % 4, 256 * (nyb c).val, 0] := by decide +kernel
theorem off2_eq' : ∀ (i : grid0.Coords) (c : Dev nD), k0_off2 i c = ![(i 0).val % 4, 256 * (nyb c).val, 0] := by decide +kernel
theorem off24_eq' : ∀ (c : Dev nD), k0_off24 c = ![0, 256 * (nyb c).val, 0] := by decide +kernel
theorem off25_eq' : ∀ (c : Dev nD), k0_off25 c = ![1, 256 * (nyb c).val, 0] := by decide +kernel
theorem off26_eq' : ∀ (c : Dev nD), k0_off26 c = ![2, 256 * (nyb c).val, 0] := by decide +kernel
theorem off27_eq' : ∀ (c : Dev nD), k0_off27 c = ![3, 256 * (nyb c).val, 0] := by decide +kernel

/-- The quarter of the output rows a device computes itself. -/
def qr (c : Dev nD) : ℕ := 2 * (c.val / 4) + c.val % 2
theorem qr_lt : ∀ c, qr c < 4 := by decide
theorem off20_eq' : ∀ (c : Dev nD), k0_off20 c = ![256 * qr c, 0] := by decide +kernel
theorem off21_eq' : ∀ (i : grid0.Coords) (c : Dev nD), k0_cond12 i = 1#1 → k0_off21 i c = ![256 * qr (fstp c ((i 0).val - 3)), 0] := by decide +kernel
theorem off22_eq' : ∀ (i : grid0.Coords) (c : Dev nD), k0_cond12 i = 1#1 → k0_off22 i c = ![256 * qr (sndp c ((i 0).val - 3)), 0] := by decide +kernel
theorem off23_eq' : ∀ (i : grid0.Coords) (c : Dev nD), k0_cond12 i = 1#1 →
    k0_off23 c = ![256 * qr (fstp (sndp c ((i 0).val - 3)) ((i 0).val - 3)), 0] := by decide +kernel

end Cert.Proof
-- ==== Proof.Slots.lean ====
module

public import proofs.«01_k».proof.Proof.Setup
public import Idealize.ShloMosaic.Lib.Memref
public import Idealize.ShloMosaic.Lib.Pipeline.Value

/-! The slots of the buffers as memrefs, and the rules for loads, stores, transfers and waits on them. -/

@[expose] public section

noncomputable section

namespace Cert.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

/-! ## The resource algebra -/

/-- The landing slots: a device, one of three kinds, a slot number. -/
abbrev Key : Type := Dev nD × Fin 3 × Fin 4
abbrev UB : Type := URounds (GSem nD τ sig) ℕ × USlots Key
abbrev UU : Type := UR sig nD τ × UB

local notation "𝕄" => MT nD τ sig ℕ (Elt F) ℕ UU ℕ

/-- The staging cells' part of the algebra. -/
def EP : Emb (UR sig nD τ) 𝕄 := embL
/-- The kernel's cells' part. -/
def ER : Emb (URounds (GSem nD τ sig) ℕ) 𝕄 := (Emb.inl : Emb (URounds (GSem nD τ sig) ℕ) UB).trans embR
/-- The landing slots' part. -/
def ES : Emb (USlots Key) 𝕄 := (Emb.inr : Emb (USlots Key) UB).trans embR

instance EP_landsIn : (EP (F := F)).LandsIn (upEmb : UEmb _ 𝕄) := by unfold EP; infer_instance
instance ER_landsIn : (ER (F := F)).LandsIn (upEmb : UEmb _ 𝕄) := by unfold ER embR; infer_instance
instance ES_landsIn : (ES (F := F)).LandsIn (upEmb : UEmb _ 𝕄) := by unfold ES embR; infer_instance

abbrev 𝒱₀ : Variants := Variants.none

/-- The weakest precondition of a piece of the kernel on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

abbrev own (c : Dev nD) {s : Shape} {e : EltTy} (m : Memref sig .tc .vmem s e) (q : PosShare TreeShare) (X : s.Idx → Elt F e) : sProp 𝕄 :=
  owns (Ix := ℕ) (Name := ℕ) (U := UU) (Lvl := ℕ) (c : Thread nD τ) m q X

/-! ## Squeezed rectangles -/

abbrev V256 (F : FTy → Type) : Type := S256x512.Idx → Elt F .f32

/-- The `256 × 512` block at an offset of a stack of blocks. -/
abbrev sq {d : Fin 3 → ℕ} (M : Memref sig .tc .vmem ⟨3, d⟩ .f32) (off : Fin 3 → ℕ) (inb : ∀ a, off a + S1x256x512.size a ≤ d a) :
    Memref sig .tc .vmem S256x512 .f32 :=
  (M.slice (Rect.unit (s := ⟨3, d⟩) off S1x256x512.size inb) (fun _ => rfl)).squeeze S256x512 squeezes_S1x256x512_S256x512

/-- What a block reads, as the rectangle under it reads. -/
theorem read_sq {d : Fin 3 → ℕ} (M : Memref sig .tc .vmem ⟨3, d⟩ .f32) (off : Fin 3 → ℕ) (inb : ∀ a, off a + S1x256x512.size a ≤ d a)
    (f : (sq M off inb).view.ty.Contents (Elt F)) :
    (M.access (Rect.unit (s := ⟨3, d⟩) off S1x256x512.size inb)).read (Elt F) f
      = shapeCast S1x256x512 ((sq M off inb).view.read (Elt F) f) shapeCasts_S256x512_S1x256x512 := by
  have h : (sq M off inb).view.read (Elt F) f
    = shapeCast S256x512 ((M.access (Rect.unit (s := ⟨3, d⟩) off S1x256x512.size inb)).read (Elt F) f) shapeCasts_S1x256x512_S256x512 := rfl
  rw [h, shapeCast_shapeCast]

theorem read_sq_write {d : Fin 3 → ℕ} (M : Memref sig .tc .vmem ⟨3, d⟩ .f32) (off : Fin 3 → ℕ) (inb : ∀ a, off a + S1x256x512.size a ≤ d a)
    (f : (sq M off inb).view.ty.Contents (Elt F)) (w : S1x256x512.Idx → Elt F .f32) :
    (sq M off inb).view.read (Elt F) ((M.access (Rect.unit (s := ⟨3, d⟩) off S1x256x512.size inb)).write (Elt F) f w Finset.univ)
      = shapeCast S256x512 w shapeCasts_S1x256x512_S256x512 := by
  have h (g : (sq M off inb).view.ty.Contents (Elt F)) : (sq M off inb).view.read (Elt F) g
    = shapeCast S256x512 ((M.access (Rect.unit (s := ⟨3, d⟩) off S1x256x512.size inb)).read (Elt F) g) shapeCasts_S1x256x512_S256x512 := rfl
  refine (h _).trans ?_
  rw [View.read_write_univ]

section Rules

variable (c : Dev nD)

/-- A load of a block continues at its contents. -/
theorem wp_loadSq {α : Type} {Q : α → sProp 𝕄} {d : Fin 3 → ℕ} {M : Memref sig .tc .vmem ⟨3, d⟩ .f32} {off off₀ : Fin 3 → ℕ} {inb : ∀ a, off a + S1x256x512.size a ≤ d a}
    (h : off = off₀) {inb₀ : ∀ a, off₀ a + S1x256x512.size a ≤ d a}
    {hl : M.view.LoadsAt (Rect.unit (s := ⟨3, d⟩) off S1x256x512.size inb).toLoadRect}
    {k : (S1x256x512.Idx → Elt F .f32) → Prog (TpuEff nD τ sig (Elt F) Λ₀ .tc) α} {q : PosShare TreeShare} {X : V256 F} :
    own c (sq M off₀ inb₀) q X
      ⊢ iprop((own c (sq M off₀ inb₀) q X -∗ wpc c (k (shapeCast S1x256x512 X shapeCasts_S256x512_S1x256x512)) Q)
        -∗ wpc c (.op (.load M (Rect.unit (s := ⟨3, d⟩) off S1x256x512.size inb).toLoadRect hl) k) Q) := by
  subst h
  unfold own owns
  have hS : (M.access (Rect.unit (s := ⟨3, d⟩) off S1x256x512.size inb)).set ⊆ (sq M off inb).view.set := by
    rw [Memref.set_view_squeeze]
  iintro ⟨%f, %hf, H⟩ Hk
  iapply (wp_load_rect 𝒱₀ (c : Thread nD τ) none Set.univ hS) $$ H
  iintro H
  rw [read_sq, hf]
  iapply Hk
  iexists f
  isplitr
  · ipureintro; exact hf
  · iexact H

/-- A store to a block leaves the value stored. -/
theorem wp_storeSq {α : Type} {Q : α → sProp 𝕄} {d : Fin 3 → ℕ} {M : Memref sig .tc .vmem ⟨3, d⟩ .f32} {off off₀ : Fin 3 → ℕ} {inb : ∀ a, off a + S1x256x512.size a ≤ d a}
    (h : off = off₀) {inb₀ : ∀ a, off₀ a + S1x256x512.size a ≤ d a}
    {w : S1x256x512.Idx → Elt F .f32}
    {hx : (M.access (Rect.unit (s := ⟨3, d⟩) off S1x256x512.size inb)).Stores Finset.univ}
    {hm : (Finset.univ : Finset S1x256x512.Idx) = Finset.univ ∨ ∀ a, (Rect.unit (s := ⟨3, d⟩) off S1x256x512.size inb).stride a = 1}
    {k : PUnit → Prog (TpuEff nD τ sig (Elt F) Λ₀ .tc) α} {X : V256 F} :
    own c (sq M off₀ inb₀) fullShare X
      ⊢ iprop((own c (sq M off₀ inb₀) fullShare (shapeCast S256x512 w shapeCasts_S1x256x512_S256x512) -∗ wpc c (k ⟨⟩) Q)
        -∗ wpc c (.op (.store M (Rect.unit (s := ⟨3, d⟩) off S1x256x512.size inb) w Finset.univ hx hm) k) Q) := by
  subst h
  unfold own owns
  have hS : (M.access (Rect.unit (s := ⟨3, d⟩) off S1x256x512.size inb)).setOn Finset.univ ⊆ (sq M off inb).view.set := by
    rw [Memref.set_view_squeeze]; exact subset_rfl
  iintro ⟨%f, %hf, H⟩ Hk
  iapply (wp_store 𝒱₀ (c : Thread nD τ) none Set.univ hS) $$ H
  iintro H
  iapply Hk
  iexists ((M.access (Rect.unit (s := ⟨3, d⟩) off S1x256x512.size inb)).write (Elt F) f w Finset.univ)
  isplitr
  · ipureintro
    exact read_sq_write M off inb f w
  · iexact H

end Rules

/-! ## Semaphore cells -/

/-- A one-element slice of an array of four consecutive cells names the cell at its offset. -/
theorem sem_slice {n base : ℕ} (hb : base + S4.numel ≤ n) (off : Fin 1 → ℕ) (inb : ∀ a, off a + S1.size a ≤ S4.size a) (hsq) (j : ℕ) (hj : j < 4)
    (h : off = ![j]) :
    (((SemArray.consecutive (n := n) base S4 hb).slice (Rect.unit (s := S4) off S1.size inb)).squeeze S_ hsq).sem
      = ⟨base + j, lt_of_lt_of_le (Nat.add_lt_add_left hj base) hb⟩ := by
  subst h
  apply Fin.ext
  show base + (S4.rowMajor _).val = base + j
  congr 1
  rw [Shape.rowMajor_val_one, Rect.emb_apply]
  simp [Rect.unit]
  exact Nat.lt_one_iff.1 (Fin.isLt _)

end Cert.Proof
-- ==== Proof.Sched.lean ====
module

public import proofs.«01_k».proof.Proof.Slots

/-! The values that travel, the cells, and the schedule of the cells' rounds. -/

@[expose] public section

noncomputable section

namespace Cert.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ## The values -/

/-- What the devices are given: each device's rows of the left operand, and its columns' blocks of the right one. -/
structure Inp (F : FTy → Type) where
  A : Dev nD → S512x4096.Idx → Elt F .bf16
  B : Dev nD → ℕ → S4096x512.Idx → Elt F .f32

variable (I : Inp F)

/-- A device's partial product of a block. -/
def pv (c : Dev nD) (b : ℕ) : S512x512.Idx → Elt F .f32 :=
  matmul dot_S512x4096_S4096x512_S512x512_1_0_0_1_n_n none (I.A c) (I.B c b) (constant S512x512 .f32 0x00000000#32)

theorem half_inb (h : Fin 2) : ∀ a : Fin 2, (![256 * h.val, 0] : Fin 2 → ℕ) a + S256x512.size a ≤ S512x512.size a := by
  revert h; decide
/-- The rows of one half of a partial product. -/
abbrev halfR (h : Fin 2) : Rect S512x512 := Rect.unit (s := S512x512) ![256 * h.val, 0] S256x512.size (half_inb h)
/-- One half of a device's partial product. -/
def ph (c : Dev nD) (h : Fin 2) (b : ℕ) : V256 F := fun x => pv I c b ((halfR h).emb x)
/-- The sum of the two partial products' halves a device is to hold. -/
def qv (c : Dev nD) (b : ℕ) : V256 F := addf (F := F) (φ := .f32) (ph I c (yb c) b) (ph I (yp c) (yb c) b)
/-- What arrives first from the first partner. -/
def q1 (c : Dev nD) (b : ℕ) : V256 F := qv I (fstp c b) b
/-- What arrives from the second partner of its own. -/
def qa (c : Dev nD) (b : ℕ) : V256 F := qv I (sndp c b) b
/-- What arrives from the second partner of what it had received. -/
def qb (c : Dev nD) (b : ℕ) : V256 F := q1 I (sndp c b) b

/-! ## The slots -/

abbrev pM : Memref sig .tc .vmem S4x512x512 .f32 := Memref.whole cc0_scratch0
abbrev yM : Memref sig .tc .vmem S4x256x512 .f32 := Memref.whole cc0_scratch1
abbrev qM : Memref sig .tc .vmem S4x256x512 .f32 := Memref.whole cc0_scratch2
abbrev rM : Memref sig .tc .vmem S4x256x512 .f32 := Memref.whole cc0_scratch3
abbrev aM : Memref sig .tc .vmem S4x256x512 .f32 := Memref.whole cc0_scratch4
abbrev bM : Memref sig .tc .vmem S4x256x512 .f32 := Memref.whole cc0_scratch5

theorem sl_inb (j : Fin 4) : ∀ a : Fin 3, (![j.val, 0, 0] : Fin 3 → ℕ) a + S1x256x512.size a ≤ (![4, 256, 512] : Fin 3 → ℕ) a := by
  revert j; decide
theorem hf_inb (j : Fin 4) (h : Fin 2) :
    ∀ a : Fin 3, (![j.val, 256 * h.val, 0] : Fin 3 → ℕ) a + S1x256x512.size a ≤ (![4, 512, 512] : Fin 3 → ℕ) a := by
  revert j h; decide

/-- A half of a slot of the partial products' buffer. -/
abbrev hf (j : Fin 4) (h : Fin 2) : Memref sig .tc .vmem S256x512 .f32 := sq pM ![j.val, 256 * h.val, 0] (hf_inb j h)
/-- A slot of one of the other buffers. -/
abbrev sl (M : Memref sig .tc .vmem S4x256x512 .f32) (j : Fin 4) : Memref sig .tc .vmem S256x512 .f32 := sq M ![j.val, 0, 0] (sl_inb j)

/-- The slot of a block. -/
def jj (b : ℕ) : Fin 4 := ⟨b % 4, Nat.mod_lt _ (by decide)⟩
theorem jj_val (b : ℕ) : (jj b).val = b % 4 := rfl
theorem jj_add (b : ℕ) : jj (b + 4) = jj b := Fin.ext (by simp [jj])

/-- The two shares a slot is lent out under. -/
abbrev shL : PosShare TreeShare := PosShare.left fullShare
abbrev shR : PosShare TreeShare := PosShare.right fullShare

/-- A memref owned whole, at some contents. -/
def some' (c : Dev nD) (m : Memref sig .tc .vmem S256x512 .f32) (q : PosShare TreeShare) : sProp 𝕄 :=
  iprop(∃ X : V256 F, own c m q X)

instance some'_storable (c : Dev nD) (m) (q) : BI.Storable (upEmb : UEmb _ 𝕄) (some' (F := F) c m q) := by
  unfold some'; infer_instance

/-! ## The cells -/

/-- The transfer cell of a kind and a slot. -/
abbrev dsem (k : Fin 8) (j : Fin 4) : DmaSem sig := ⟨5 + 4 * k.val + j.val, by have h : sig.nDmaSem = 37 := rfl; omega⟩
abbrev dcell (c : Dev nD) (k : Fin 8) (j : Fin 4) : GSem nD τ sig := ((c : Thread nD τ), .dma (dsem k j))
/-- The signal cell of a number; the last is the barrier's. -/
abbrev rcell (c : Dev nD) (q : Fin 6) : GSem nD τ sig := ((c : Thread nD τ), .reg q)

theorem barrier_eq : sig.barrier 0 rfl = (5 : Fin 6) := by decide

/-- The units a transfer of a block credits. -/
def NN : ℕ := (sl yM 0).view.dmaCredit
theorem NN_pos : 0 < NN := View.dmaCredit_pos _ (by decide)

/-! ## What a device learns of another's landing slots -/

/-- The cell or cells a landing slot's arrivals are counted at. -/
def rK (k : Fin 3) : Fin 8 := ![1, 3, 5] k

/-- A device's landing slot of a kind is free for its `n`-th block (counted over the four slots). -/
def Rel (c : Dev nD) (k : Fin 3) (n : ℕ) : sProp 𝕄 :=
  iprop(released ES (c, k, jj n) (n / 4 + 1) ∗ reached ER (dcell c (rK k) (jj n)) (n / 4)
    ∗ reached ER (dcell c (if k = 2 then 7 else rK k) (jj n)) (n / 4))
/-- So for all blocks before the `n`-th. -/
def Rels (c : Dev nD) (k : Fin 3) (n : ℕ) : sProp 𝕄 := BI.bigSep (Finset.range n) (Rel (F := F) c k)

instance Rel_persistent (c : Dev nD) (k : Fin 3) (n : ℕ) : BI.Persistent (Rel (F := F) c k n) := by unfold Rel; infer_instance
instance Rel_storable (c : Dev nD) (k : Fin 3) (n : ℕ) : BI.Storable (upEmb : UEmb _ 𝕄) (Rel (F := F) c k n) := by unfold Rel; infer_instance
instance Rels_persistent (c : Dev nD) (k : Fin 3) (n : ℕ) : BI.Persistent (Rels (F := F) c k n) := by unfold Rels; infer_instance
instance Rels_storable (c : Dev nD) (k : Fin 3) (n : ℕ) : BI.Storable (upEmb : UEmb _ 𝕄) (Rels (F := F) c k n) := by unfold Rels; infer_instance

/-- The neighbours of a device, in the order it greets them. -/
def nbr (c : Dev nD) (d : ℕ) : Dev nD := if d = 0 then yp c else if d = 1 then xp c else zp c
theorem nbr_nbr (c : Dev nD) (d : ℕ) : nbr (nbr c d) d = c := by
  unfold nbr; split
  · exact yp_yp c
  · split
    · exact xp_xp c
    · exact zp_zp c

/-- What a neighbour's greeting says: its landing slots are free for the first four blocks, its signal cells open. -/
def greet (p : Dev nD) : sProp 𝕄 :=
  iprop(Rels p 0 4 ∗ Rels p 1 4 ∗ Rels p 2 4 ∗ reached ER (rcell p 0) 0 ∗ reached ER (rcell p 1) 0 ∗ reached ER (rcell p 2) 0
    ∗ reached ER (rcell p 3) 0 ∗ reached ER (rcell p 4) 0)
instance greet_persistent (p : Dev nD) : BI.Persistent (greet (F := F) p) := by unfold greet; infer_instance
instance greet_storable (p : Dev nD) : BI.Storable (upEmb : UEmb _ 𝕄) (greet (F := F) p) := by unfold greet; infer_instance

/-! ## The payloads -/

/-- What the arrival of block `b` at a transfer cell hands its owner. -/
def dpay (c : Dev nD) (k : ℕ) (b : ℕ) : sProp 𝕄 :=
  match k with
  | 0 => some' c (hf (jj b) (nyb c)) fullShare
  | 1 => own c (sl yM (jj b)) fullShare (ph I (yp c) (yb c) b)
  | 2 => some' c (sl qM (jj b)) shL
  | 3 => own c (sl rM (jj b)) fullShare (q1 I c b)
  | 4 => own c (sl qM (jj b)) shR (qv I c b)
  | 5 => own c (sl aM (jj b)) fullShare (qa I c b)
  | 6 => own c (sl rM (jj b)) fullShare (q1 I c b)
  | 7 => own c (sl bM (jj b)) fullShare (qb I c b)
  | _ => iprop(emp)

/-- What unit `d` of a signal cell tells its owner. -/
def rpay (c : Dev nD) (q : ℕ) (d : ℕ) : sProp 𝕄 :=
  match q with
  | 0 => Rels (yp c) 0 (d + 5)
  | 1 => Rels (fstp c 0) 1 (2 * d + 0 + 5)
  | 2 => Rels (fstp c 1) 1 (2 * d + 1 + 5)
  | 3 => Rels (sndp c 0) 2 (2 * d + 0 + 5)
  | 4 => Rels (sndp c 1) 2 (2 * d + 1 + 5)
  | 5 => greet (nbr c d)
  | _ => iprop(emp)

instance rpay_persistent (c : Dev nD) (q d : ℕ) : BI.Persistent (rpay (F := F) c q d) := by
  unfold rpay; split <;> infer_instance
instance rpay_storable (c : Dev nD) (q d : ℕ) : BI.Storable (upEmb : UEmb _ 𝕄) (rpay (F := F) c q d) := by
  unfold rpay; split <;> infer_instance
instance dpay_storable (c : Dev nD) (q d : ℕ) : BI.Storable (upEmb : UEmb _ 𝕄) (dpay I c q d) := by
  unfold dpay; split <;> infer_instance

/-- How many units a signal cell is to receive. -/
def units (q : ℕ) : ℕ := if q = 0 then 16 else if q = 5 then 3 else 8

/-- The schedule: four transfers at each transfer cell, one a round; a signal cell's units all in its one round. -/
def Rd : Schedule (GSem nD τ sig) ℕ 𝕄 where
  duties g r := match g.2 with
    | .dma q => if 5 ≤ q.val ∧ r < 4 then {0} else ∅
    | .reg q => if r = 0 then Finset.range (units q.val) else ∅
  amount g _ _ := match g.2 with
    | .dma _ => NN
    | .reg _ => 1
  payload g r d := match g.2 with
    | .dma q => dpay I g.1.1 ((q.val - 5) / 4) (4 * r + (q.val - 5) % 4)
    | .reg q => rpay g.1.1 q.val d
  amount_pos g r d _ := by
    split
    · exact NN_pos
    · exact Nat.one_pos

instance Rd_storable (g : GSem nD τ sig) (r d : ℕ) : BI.Storable (upEmb : UEmb _ 𝕄) ((Rd I).payload g r d) := by
  show BI.Storable (upEmb : UEmb _ 𝕄) (match g.2 with
    | .dma q => dpay I g.1.1 ((q.val - 5) / 4) (4 * r + (q.val - 5) % 4)
    | .reg q => rpay g.1.1 q.val d)
  split <;> infer_instance

theorem duties_d (c : Dev nD) (k : Fin 8) (j : Fin 4) {r : ℕ} (hr : r < 4) : (Rd I).duties (dcell c k j) r = {0} := by
  show (if 5 ≤ 5 + 4 * k.val + j.val ∧ r < 4 then ({0} : Finset ℕ) else ∅) = {0}
  rw [if_pos ⟨by omega, hr⟩]
theorem duties_d_end (c : Dev nD) (k : Fin 8) (j : Fin 4) {r : ℕ} (hr : 4 ≤ r) : (Rd I).duties (dcell c k j) r = ∅ := by
  show (if 5 ≤ 5 + 4 * k.val + j.val ∧ r < 4 then ({0} : Finset ℕ) else ∅) = ∅
  rw [if_neg (by omega)]
theorem duties_r (c : Dev nD) (q : Fin 6) : (Rd I).duties (rcell c q) 0 = Finset.range (units q.val) := rfl
theorem duties_r_end (c : Dev nD) (q : Fin 6) {r : ℕ} (hr : 1 ≤ r) : (Rd I).duties (rcell c q) r = ∅ := by
  show (if r = 0 then Finset.range (units q.val) else ∅) = ∅
  rw [if_neg (by omega)]
theorem amount_d (c : Dev nD) (k : Fin 8) (j : Fin 4) (r d : ℕ) : (Rd I).amount (dcell c k j) r d = NN := rfl
theorem amount_r (c : Dev nD) (q : Fin 6) (r d : ℕ) : (Rd I).amount (rcell c q) r d = 1 := rfl
theorem expect_d (c : Dev nD) (k : Fin 8) (j : Fin 4) {r : ℕ} (hr : r < 4) : (Rd I).expect (dcell c k j) r = NN := by
  unfold Schedule.expect Schedule.amountOf
  rw [duties_d I c k j hr, Finset.sum_singleton]; rfl
theorem expect_r (c : Dev nD) (q : Fin 6) : (Rd I).expect (rcell c q) 0 = units q.val := by
  unfold Schedule.expect Schedule.amountOf
  rw [duties_r, Finset.sum_congr rfl (fun d _ => amount_r I c q 0 d)]; simp
theorem payload_d (c : Dev nD) (k : Fin 8) (b : ℕ) : (Rd I).payload (dcell c k (jj b)) (b / 4) 0 = dpay I c k.val b := by
  show dpay I c ((5 + 4 * k.val + b % 4 - 5) / 4) (4 * (b / 4) + (5 + 4 * k.val + b % 4 - 5) % 4) = _
  congr 1 <;> omega
theorem payload_r (c : Dev nD) (q : Fin 6) (r d : ℕ) : (Rd I).payload (rcell c q) r d = rpay c q.val d := rfl

/-! ## Levels -/

/-- The indices in use at a cell. -/
def L : GSem nD τ sig → Finset ℕ := fun g => if g.1.2 = .tc then Finset.range 25 else ∅
/-- An index is its own level. -/
def lv : GSem nD τ sig → ℕ → ℕ := fun _ i => i

/-- What is owed is owed to TensorCores' cells, at indices of steps from `s` on. -/
def Above (s : ℕ) (O : CellTallies nD τ sig ℕ) : Prop := ∀ (g : GSem nD τ sig) (i : ℕ), 0 < O g i → g.1.2 = .tc ∧ s + 2 ≤ i ∧ i < 25

theorem Above.zero (s : ℕ) : Above s 0 := fun _ _ h => absurd h (lt_irrefl 0)
theorem Above.add {s : ℕ} {O O' : CellTallies nD τ sig ℕ} (h : Above s O) (h' : Above s O') : Above s (O + O') := by
  intro g i hp
  have : 0 < O g i + O' g i := hp
  rcases Nat.pos_of_ne_zero (n := O g i) with hh
  by_cases h0 : O g i = 0
  · exact h' g i (by omega)
  · exact h g i (Nat.pos_of_ne_zero h0)
theorem Above.tally {s : ℕ} (c : Dev nD) (sm : SemLoc sig) {i : ℕ} (k : ℕ) (h1 : s + 2 ≤ i) (h2 : i < 25) :
    Above s (tallyAt ((c : Thread nD τ), sm) i k) := by
  intro g i' hp
  rw [tallyAt_apply] at hp
  split at hp
  · next h => obtain ⟨rfl, rfl⟩ := h; exact ⟨rfl, h1, h2⟩
  · exact absurd hp (lt_irrefl 0)
theorem Above.sum {s : ℕ} {α : Type} (S : Finset α) (D : α → CellTallies nD τ sig ℕ) (h : ∀ b ∈ S, Above s (D b)) :
    Above s (∑ b ∈ S, D b) := by
  classical
  induction S using Finset.induction with
  | empty => exact Above.zero s
  | insert a S ha ih =>
    rw [Finset.sum_insert ha]
    exact (h a (Finset.mem_insert_self _ _)).add (ih fun b hb => h b (Finset.mem_insert_of_mem hb))
theorem Above.mono {s s' : ℕ} (h : s' ≤ s) {O : CellTallies nD τ sig ℕ} (hO : Above s O) : Above s' O :=
  fun g i hp => ⟨(hO g i hp).1, by have := (hO g i hp).2; omega⟩

theorem mayWait (c : Dev nD) (sm : SemLoc sig) {s i : ℕ} {O : CellTallies nD τ sig ℕ} (hO : Above s O) (hi : i ≤ s + 1) (hi' : i < 25) :
    (levAts L lv : sProp 𝕄) ⊢ MayWait (c : Thread nD τ) sm i O :=
  MayOwe.of_cut (s + 1)
    (fun p hp => by obtain rfl := Finset.mem_singleton.mp hp; exact Finset.mem_range.mpr hi')
    (fun g i h => by rw [L, if_pos (hO g i h).1]; exact Finset.mem_range.mpr (hO g i h).2.2)
    (fun p hp => by obtain rfl := Finset.mem_singleton.mp hp; exact hi)
    (fun g i h => by have := (hO g i h).2.1; show s + 1 < i; omega)

end Cert.Proof
-- ==== Proof.Rules.lean ====
module

public import proofs.«01_k».proof.Proof.Sched

/-! The rules for the kernel's waits, signals and transfers under the schedule. -/

@[expose] public section

noncomputable section

namespace Cert.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (I : Inp F)

/-! ## Big conjunctions -/

/-- Take one conjunct out. -/
theorem bs_take {ι : Type} [DecidableEq ι] {s : Finset ι} {Φ : ι → sProp 𝕄} {a : ι} (h : a ∈ s) :
    BI.bigSep s Φ ⊢ iprop(Φ a ∗ BI.bigSep (s.erase a) Φ) := by
  exact Entails.of_eq (BI.bigSep_erase h)
/-- Keep one conjunct. -/
theorem bs_get {ι : Type} [DecidableEq ι] {s : Finset ι} {Φ : ι → sProp 𝕄} {a : ι} (h : a ∈ s) : BI.bigSep s Φ ⊢ Φ a :=
  BIBase.Entails.trans (bs_take h) (by iintro ⟨H, -⟩; iexact H)
/-- The first of a range. -/
theorem bs_head {Φ : ℕ → sProp 𝕄} {a b : ℕ} (h : a < b) :
    BI.bigSep (Finset.Ico a b) Φ ⊢ iprop(Φ a ∗ BI.bigSep (Finset.Ico (a + 1) b) Φ) := by
  have e : (Finset.Ico a b).erase a = Finset.Ico (a + 1) b := by
    ext x; simp only [Finset.mem_erase, Finset.mem_Ico]; omega
  rw [← e]
  exact bs_take (Finset.mem_Ico.mpr ⟨le_rfl, h⟩)
/-- One more at the end of a range. -/
theorem bs_snoc {Φ : ℕ → sProp 𝕄} {n : ℕ} :
    iprop(BI.bigSep (Finset.range n) Φ ∗ Φ n) ⊢ BI.bigSep (Finset.range (n + 1)) Φ := by
  rw [Finset.range_add_one]
  refine BIBase.Entails.trans (Q := iprop(Φ n ∗ BI.bigSep (Finset.range n) Φ)) ?_ (Entails.of_eq (BI.bigSep_insert Finset.notMem_range_self).symm)
  iintro ⟨H, H'⟩; isplitl [H'] <;> iassumption
/-- A part and the rest together. -/
theorem bs_union {ι : Type} [DecidableEq ι] {s t : Finset ι} {Φ : ι → sProp 𝕄} (h : s ⊆ t) :
    iprop(BI.bigSep s Φ ∗ BI.bigSep (t \ s) Φ) ⊢ BI.bigSep t Φ := by
  have e := BI.bigSep_union (Φ := Φ) (Finset.disjoint_sdiff (s := s) (t := t))
  rw [Finset.union_sdiff_of_subset h] at e
  exact Entails.of_eq e.symm

/-! ## The shared records -/

/-- The kernel's own cells on a device. -/
abbrev CK : Type := (Fin 8 × Fin 4) ⊕ Fin 6
/-- The cell a name stands for. -/
def kcell (p : Dev nD × CK) : GSem nD τ sig := match p.2 with
  | .inl q => dcell p.1 q.1 q.2
  | .inr q => rcell p.1 q

/-- What is kept at a landing slot between its release and its next use. -/
def slotOf (k : Key) : sProp 𝕄 :=
  if k.2.1 = 0 then some' k.1 (sl yM k.2.2) fullShare
  else if k.2.1 = 1 then some' k.1 (sl rM k.2.2) fullShare
  else iprop(some' k.1 (sl aM k.2.2) fullShare ∗ some' k.1 (sl bM k.2.2) fullShare)

instance slotOf_storable (k : Key) : BI.Storable (upEmb : UEmb _ 𝕄) (slotOf (F := F) k) := by
  unfold slotOf; split
  · infer_instance
  · split <;> infer_instance

/-- The cells' and the slots' records, and the levels. -/
def ctx (κ : Dev nD × CK → ℕ) (ιs : Key → ℕ) : sProp 𝕄 :=
  iprop(BI.bigSep Finset.univ (fun p : Dev nD × CK => cellInv ER (Rd I) (κ p) (kcell p))
    ∗ BI.bigSep Finset.univ (fun k : Key => slotInv ES (ιs k) k (slotOf k))
    ∗ levAts L lv)

variable {κ : Dev nD × CK → ℕ} {ιs : Key → ℕ}

instance ctx_persistent : BI.Persistent (ctx I κ ιs) := by unfold ctx; infer_instance

theorem ctx_d (c : Dev nD) (k : Fin 8) (j : Fin 4) : ctx I κ ιs ⊢ cellInv ER (Rd I) (κ (c, .inl (k, j))) (dcell c k j) := by
  unfold ctx; iintro ⟨H, -⟩
  iapply (bs_get (Φ := fun p : Dev nD × CK => cellInv ER (Rd I) (κ p) (kcell p)) (Finset.mem_univ (c, Sum.inl (k, j)))); iexact H
theorem ctx_r (c : Dev nD) (q : Fin 6) : ctx I κ ιs ⊢ cellInv ER (Rd I) (κ (c, .inr q)) (rcell c q) := by
  unfold ctx; iintro ⟨H, -⟩
  iapply (bs_get (Φ := fun p : Dev nD × CK => cellInv ER (Rd I) (κ p) (kcell p)) (Finset.mem_univ (c, Sum.inr q))); iexact H
theorem ctx_slot (k : Key) : ctx I κ ιs ⊢ slotInv ES (ιs k) k (slotOf k) := by
  unfold ctx; iintro ⟨-, H, -⟩
  iapply (bs_get (Φ := fun k : Key => slotInv ES (ιs k) k (slotOf (F := F) k)) (Finset.mem_univ k)); iexact H
theorem ctx_lev : ctx I κ ιs ⊢ levAts L lv := by
  unfold ctx; iintro ⟨-, -, H⟩; iexact H

theorem Rels_get (c : Dev nD) (k : Fin 3) {m n : ℕ} (h : m < n) : Rels (F := F) c k n ⊢ Rel c k m := by
  unfold Rels; exact bs_get (Finset.mem_range.mpr h)
theorem Rels_mono (c : Dev nD) (k : Fin 3) {m n : ℕ} (h : m ≤ n) : Rels (F := F) c k n ⊢ Rels c k m := by
  unfold Rels; exact BI.bigSep_subset (Finset.range_subset_range.mpr h)
theorem Rels_succ (c : Dev nD) (k : Fin 3) (n : ℕ) : iprop(Rels (F := F) c k n ∗ Rel c k n) ⊢ Rels c k (n + 1) := by
  unfold Rels; exact bs_snoc

/-- What a core owes, whatever it has waited for. -/
def owesE (c : Dev nD) (O : CellTallies nD τ sig ℕ) : sProp 𝕄 := iprop(∃ W, owes (c : Thread nD τ) O W)

/-- A device's own transfer cell between rounds. -/
def at' (c : Dev nD) (k : Fin 8) (j : Fin 4) (r : ℕ) : sProp 𝕄 := iprop(atPos ER (dcell c k j) r ∅ 0 ∗ reached ER (dcell c k j) r)

/-! ## Waits -/

theorem dpay_of (c : Dev nD) (k : Fin 8) (b : ℕ) (hr : b / 4 < 4) :
    BI.bigSep ((Rd I).duties ((c : Thread nD τ), SemLoc.dma (dsem k (jj b))) (b / 4) \ ∅) ((Rd I).payload ((c : Thread nD τ), SemLoc.dma (dsem k (jj b))) (b / 4))
      ⊢ dpay I c k.val b := by
  rw [Finset.sdiff_empty, show (Rd I).duties ((c : Thread nD τ), SemLoc.dma (dsem k (jj b))) (b / 4) = {0} from duties_d I c k (jj b) hr, BI.bigSep_singleton,
    show (Rd I).payload ((c : Thread nD τ), SemLoc.dma (dsem k (jj b))) (b / 4) 0 = _ from payload_d I c k b]

/-- A wait on an own transfer cell for the arrival of block `b`. -/
theorem wp_dwait {α : Type} {Q : α → sProp 𝕄} (c : Dev nD) (k : Fin 8) (b : ℕ) (hb : b < 16) {s i : ℕ} {O : CellTallies nD τ sig ℕ}
    (hO : Above s O ∨ O = 0) (hi : i ≤ s + 1) (hi' : i < 25)
    {sm : DmaSem sig} (hsm : sm = dsem k (jj b)) {src dst : Memref sig .tc .vmem S256x512 .f32} (hN : dst.view.dmaCredit = NN)
    {h1 : src.view.WordExact} {h2 : dst.view.WordExact} {kk : PUnit → Prog (TpuEff nD τ sig (Elt F) Λ₀ .tc) α} :
    iprop(ctx I κ ιs ∗ cred (tallyAt (dcell c k (jj b)) i NN) ∗ owesE c O ∗ at' c k (jj b) (b / 4))
      ⊢ iprop(((owesE c O ∗ at' c k (jj b) (b / 4 + 1) ∗ dpay I c k.val b) -∗ wpc c (kk ⟨⟩) Q)
        -∗ wpc c (.op (.waitDma2 sm src dst h1 h2) kk) Q) := by
  subst hsm
  unfold owesE at'
  iintro ⟨#Hctx, Hc, ⟨%W, Ho⟩, Hat, -⟩ Hk
  ihave #Hg := (ctx_d I c k (jj b)) $$ Hctx
  ihave #Hl := (ctx_lev I) $$ Hctx
  have hr : b / 4 < 4 := by omega
  have hw := fun (K : PUnit → sProp 𝕄) => (wpE_waitDma2_eq (defs := defs₀ (F := F)) (src := src) (dst := dst) (sem := dsem k (jj b)) (hsrc := h1) (hdst := h2) 𝒱₀ (c : Thread nD τ) none Set.univ K)
  rw [hN] at hw
  iapply (Rounds.wp_wait_rest_token 𝒱₀ ER (Rd I) (c : Thread nD τ) none (κ := κ (c, .inl (k, jj b))) hw (Set.mem_univ _) i (O := O) (W := W) (R := b / 4) (m := 0) (T := ∅)
    (by rw [expect_d I c k (jj b) hr, Nat.zero_add])) $$ [Hc Ho Hat]
  · isplitr; · iexact Hg
    isplitl [Hc]; · iexact Hc
    isplitl [Ho]; · iexact Ho
    isplitr
    · rcases hO with hO | rfl
      · iapply (mayWait c (.dma (dsem k (jj b))) hO hi hi'); iexact Hl
      · rw [MayWait_zero]; iempintro
    iexact Hat
  iintro ⟨Ho, Hat, Hr, Hp⟩
  ihave Hp := (dpay_of I c k b hr) $$ Hp
  iapply Hk
  isplitl [Ho]; · iexists _; iexact Ho
  isplitl [Hat Hr]
  · isplitl [Hat] <;> iassumption
  iexact Hp

/-- The owner's place at a signal cell after `m` units: which payloads it has. -/
def crPos (c : Dev nD) (q : Fin 6) (m : ℕ) : sProp 𝕄 :=
  iprop(∃ T : Finset ℕ, ⌜T ⊆ Finset.range (units q.val)⌝ ∗ atPos ER (rcell c q) 0 T m ∗ BI.bigSep T (fun d => rpay (F := F) c q.val d))

/-- A wait for one unit more, not the last: some unit of number at least `m` has arrived. -/
theorem wp_cwait {α : Type} {Q : α → sProp 𝕄} (c : Dev nD) (q : Fin 6) (m : ℕ) (hm : m + 1 < units q.val) {s i : ℕ} {O : CellTallies nD τ sig ℕ}
    (hO : Above s O) (hi : i ≤ s + 1) (hi' : i < 25) {sm : Sem sig} (hsm : sm = q)
    {kk : PUnit → Prog (TpuEff nD τ sig (Elt F) Λ₀ .tc) α} :
    iprop(ctx I κ ιs ∗ cred (tallyAt (rcell c q) i 1) ∗ owesE c O ∗ crPos c q m)
      ⊢ iprop(((∃ d, ⌜m ≤ d⌝ ∗ owesE c O ∗ crPos c q (m + 1) ∗ rpay (F := F) c q.val d) -∗ wpc c (kk ⟨⟩) Q)
        -∗ wpc c (.op (.semWait sm 1) kk) Q) := by
  subst hsm
  unfold owesE crPos
  iintro ⟨#Hctx, Hc, ⟨%W, Ho⟩, ⟨%T, %hT, Hat, #HT⟩⟩ Hk
  ihave #Hg := (ctx_r I c sm) $$ Hctx
  ihave #Hl := (ctx_lev I) $$ Hctx
  have hw := fun (K : PUnit → sProp 𝕄) => (wpE_semWait_eq (defs := defs₀ (F := F)) (sem := sm) (k := 1) 𝒱₀ (c : Thread nD τ) none Set.univ K)
  iapply (Rounds.wp_wait 𝒱₀ ER (Rd I) (c : Thread nD τ) none (κ := κ (c, .inr sm)) hw (Set.mem_univ _) (cr := Finsupp.single i 1) (O := O) (W := W)
    {((.reg sm : SemLoc sig), i)} (R := 0) (m := m) (T := T) (by rw [Util.total_single]) (image_single_subset _ _ _)) $$ [Hc Ho Hat]
  · isplitr; · iexact Hg
    isplitl [Hc]; · iexact Hc
    isplitl [Ho]; · iexact Ho
    isplitr
    · iapply (mayWait c (.reg sm) hO hi hi'); iexact Hl
    iexact Hat
  iintro %S ⟨%hS, Ho, Hat, Hp⟩
  obtain ⟨hTS, hSD, hcard⟩ := hS
  rw [show (Rd I).duties ((c : Thread nD τ), SemLoc.reg sm) 0 = Finset.range (units sm.val) from rfl] at hSD hcard
  rw [show (Rd I).expect ((c : Thread nD τ), SemLoc.reg sm) 0 = units sm.val from expect_r I c sm, Finset.card_sdiff_of_subset hSD, Finset.card_range] at hcard
  have hSc : S.card ≤ units sm.val := by simpa using Finset.card_le_card hSD
  have hex : ∃ d ∈ S, m ≤ d := by
    by_contra hne
    push Not at hne
    have : S ⊆ Finset.range m := fun d hd => Finset.mem_range.mpr (hne d hd)
    have := Finset.card_le_card this
    rw [Finset.card_range] at this
    omega
  obtain ⟨d, hdS, hd⟩ := hex
  ihave #HS : iprop(BI.bigSep S (fun d => rpay (F := F) c sm.val d)) $$ [Hp]
  · iapply (bs_union (Φ := fun d => rpay (F := F) c sm.val d) hTS)
    isplitr; · iexact HT
    iexact Hp
  iapply Hk
  iexists d
  isplitr; · ipureintro; exact hd
  isplitl [Ho]; · iexists _; iexact Ho
  isplitl [Hat]
  · iexists S
    isplitr; · ipureintro; exact hSD
    isplitl [Hat]; · iexact Hat
    iexact HS
  iapply (bs_get (Φ := fun d => rpay (F := F) c sm.val d) hdS); iexact HS

/-! ## Signals -/

/-- A signal of one unit to a neighbour's signal cell. -/
theorem wp_sig {α : Type} {Q : α → sProp 𝕄} (c c' n : Dev nD) (hn : n = c') (q : Fin 6) (d : ℕ) (hd : d < units q.val) (i : ℕ)
    (O : CellTallies nD τ sig ℕ) {sm : Sem sig} (hsm : sm = q)
    {kk : PUnit → Prog (TpuEff nD τ sig (Elt F) Λ₀ .tc) α} :
    iprop(ctx I κ ιs ∗ owesE c (O + tallyAt (rcell c' q) i 1) ∗ dutyTok ER (rcell c' q) 0 d ∗ rpay (F := F) c' q.val d ∗ reached ER (rcell c' q) 0)
      ⊢ iprop((owesE c O -∗ wpc c (kk ⟨⟩) Q) -∗ wpc c (.op (.semSignal (n : Thread nD τ) sm 1) kk) Q) := by
  subst hn; subst hsm
  unfold owesE
  iintro ⟨#Hctx, ⟨%W, Ho⟩, Ht, Hp, Hr⟩ Hk
  ihave #Hg := (ctx_r I n sm) $$ Hctx
  iapply (Rounds.wp_signal 𝒱₀ ER (Rd I) (c : Thread nD τ) none (dst := (n : Thread nD τ)) (sem := sm) (r := 0) (d := d) (k' := 1) (κ := κ (n, .inr sm))
    (Finset.mem_range.mpr hd) rfl i O rfl) $$ [Ho Ht Hp Hr]
  · isplitr; · iexact Hg
    isplitl [Ho]; · iexact Ho
    isplitl [Ht]; · iexact Ht
    isplitl [Hp]; · iapply (Entails.of_eq (payload_r I n sm 0 d).symm); iexact Hp
    iexact Hr
  iintro Ho
  iapply Hk
  iexists W; iexact Ho

/-! ## Transfers -/

/-- A transfer of a block to a neighbour's slot, counted at an own cell of kind `k₁` and at the neighbour's of kind `k₂`, as block `b`'s. -/
theorem wp_snd {α : Type} {Q : α → sProp 𝕄} (c c' n : Dev nD) (hn : n = c') (k₁ k₂ : Fin 8) (b : ℕ) (hb : b < 16) (i : ℕ)
    (O : CellTallies nD τ sig ℕ) {s₁ s₂ : DmaSem sig} (h₁ : s₁ = dsem k₁ (jj b)) (h₂ : s₂ = dsem k₂ (jj b))
    {src : Memref sig .tc .vmem S256x512 .f32} {dst : Memref sig (Dev.tc n : Thread nD τ).2.kind .vmem S256x512 .f32}
    {dst₀ : Memref sig .tc .vmem S256x512 .f32} (hdst₀ : dst = dst₀) (hN : dst₀.view.dmaCredit = NN)
    {src₀ : Memref sig .tc .vmem S256x512 .f32} (hsrc₀ : src = src₀)
    {hsc : dst.view.ref.isScScratch = false} {hw₁ : src.view.WordExact} {hw₂ : dst.view.WordExact}
    {hsem : DmaTarget.Typed .vmem (.dma s₂) (.remote (Dev.tc n : Thread nD τ) dst (.dma s₁) hsc)}
    {q : PosShare TreeShare} {X : V256 F} (hp₁ : own c src₀ q X ⊢ dpay I c k₁.val b) (hp₂ : own c' dst₀ fullShare X ⊢ dpay I c' k₂.val b)
    {kk : PUnit → Prog (TpuEff nD τ sig (Elt F) Λ₀ .tc) α} :
    iprop(ctx I κ ιs ∗ own c src₀ q X ∗ some' c' dst₀ fullShare ∗ owesE c (O + tallyAt (dcell c' k₂ (jj b)) i NN)
        ∗ dutyTok ER (dcell c k₁ (jj b)) (b / 4) 0 ∗ reached ER (dcell c k₁ (jj b)) (b / 4)
        ∗ dutyTok ER (dcell c' k₂ (jj b)) (b / 4) 0 ∗ reached ER (dcell c' k₂ (jj b)) (b / 4))
      ⊢ iprop(((cred (tallyAt (dcell c k₁ (jj b)) 0 NN) ∗ owesE c O) -∗ wpc c (kk ⟨⟩) Q)
        -∗ wpc c (.op (.enqueueDma src (.remote (Dev.tc n : Thread nD τ) dst (.dma s₁) hsc) (.dma s₂) hw₁ hw₂ hsem) kk) Q) := by
  subst hn; subst h₁; subst h₂; subst hdst₀; subst hsrc₀
  unfold owesE some' own owns
  have hr : b / 4 < 4 := by omega
  iintro ⟨#Hctx, ⟨%fs, %hfs, Hs⟩, ⟨%Y, %fd, %hfd, Hd⟩, ⟨%W, Ho⟩, Ht₁, Hr₁, Ht₂, Hr₂⟩ Hk
  ihave #Hg₁ := (ctx_d I c k₁ (jj b)) $$ Hctx
  ihave #Hg₂ := (ctx_d I n k₂ (jj b)) $$ Hctx
  iapply (Rounds.wp_send_pointsTo 𝒱₀ ER (Rd I) (c : Thread nD τ) none (κ₁ := κ (c, .inl (k₁, jj b))) (κ₂ := κ (n, .inl (k₂, jj b)))
    (c' := (Dev.tc n : Thread nD τ)) (src := src) (dst := dst) (sS := .dma (dsem k₁ (jj b))) (sem := .dma (dsem k₂ (jj b))) (q := q) (fs := fs) (fd := fd)
    (r₁ := b / 4) (r₂ := b / 4) (d₁ := 0) (d₂ := 0)
    (by rw [show (Rd I).duties ((c : Thread nD τ), SemLoc.dma (dsem k₁ (jj b))) (b / 4) = {0} from duties_d I c k₁ (jj b) hr]; exact Finset.mem_singleton_self _)
    (by rw [show (Rd I).duties ((n : Thread nD τ), SemLoc.dma (dsem k₂ (jj b))) (b / 4) = {0} from duties_d I n k₂ (jj b) hr]; exact Finset.mem_singleton_self _)
    i 0 NN hN rfl rfl O rfl (W := W)
    (by
      rw [show (Rd I).payload ((c : Thread nD τ), SemLoc.dma (dsem k₁ (jj b))) (b / 4) 0 = _ from payload_d I c k₁ b]
      refine BIBase.Entails.trans ?_ hp₁
      unfold own owns
      iintro H; iexists fs; isplitr; · ipureintro; exact hfs
      iexact H)
    (by
      rw [show (Rd I).payload ((n : Thread nD τ), SemLoc.dma (dsem k₂ (jj b))) (b / 4) 0 = _ from payload_d I n k₂ b]
      refine BIBase.Entails.trans ?_ hp₂
      unfold own owns
      iintro H; iexists _; isplitr; swap; · iexact H
      ipureintro; rw [View.read_write_univ]; exact hfs)) $$ [Hs Hd Ho Ht₁ Hr₁ Ht₂ Hr₂]
  · isplitr; · iexact Hg₁
    isplitr; · iexact Hg₂
    isplitl [Hs]; · iexact Hs
    isplitl [Hd]; · iexact Hd
    isplitl [Ho]; · iexact Ho
    isplitl [Ht₁]; · iexact Ht₁
    isplitl [Hr₁]; · iexact Hr₁
    isplitl [Ht₂] <;> iassumption
  iintro ⟨Hc, Ho⟩
  iapply Hk
  isplitl [Hc]; · iexact Hc
  iexists W; iexact Ho

end Cert.Proof
-- ==== Proof.Halves.lean ====
module

public import proofs.«01_k».proof.Proof.Rules

/-! The partial product's slot as its two halves, and the two shares of a slot. -/

@[expose] public section

noncomputable section

namespace Cert.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

theorem full_inb (j : Fin 4) : ∀ a : Fin 3, (![j.val, 0, 0] : Fin 3 → ℕ) a + S1x512x512.size a ≤ S4x512x512.size a := by
  revert j; decide
/-- A slot of the partial products' buffer. -/
abbrev fullR (j : Fin 4) : Rect S4x512x512 := Rect.unit (s := S4x512x512) ![j.val, 0, 0] S1x512x512.size (full_inb j)

/-- Where a half's entry lies in the slot. -/
def inSlot (h : Fin 2) (x : S256x512.Idx) : S1x512x512.Idx :=
  Shape.reshapeEquiv (shapeCasts_S1x512x512_S512x512 : S512x512.numel = S1x512x512.numel) ((halfR h).emb x)

theorem inSlot_eq (h : Fin 2) (x : S256x512.Idx) :
    inSlot h x = (fun a => match a with
      | ⟨0, _⟩ => ⟨0, Nat.one_pos⟩
      | ⟨1, _⟩ => ⟨256 * h.val + (x 0).val, by have := (x 0).isLt; have e : S256x512.size 0 = 256 := rfl; have e' : S1x512x512.size 1 = 512 := rfl; show 256 * h.val + (x 0).val < 512; omega⟩
      | ⟨2, _⟩ => x 1) := by
  unfold inSlot
  refine Shape.reshapeEquiv_eq_of_rowMajor _ ?_
  rw [Shape.rowMajor_val_three, Shape.rowMajor_val_two]
  have e0 : (((halfR h).emb x) 0).val = 256 * h.val + 1 * (x 0).val := Rect.emb_apply _ _ _
  have e1 : (((halfR h).emb x) 1).val = 0 + 1 * (x 1).val := Rect.emb_apply _ _ _
  rw [e0, e1]
  show (0 * 512 + (256 * h.val + (x 0).val)) * 512 + (x 1).val = (256 * h.val + 1 * (x 0).val) * 512 + (0 + 1 * (x 1).val)
  omega

theorem unsq_eq (x : S256x512.Idx) :
    Shape.reshapeEquiv (shapeCasts_S1x256x512_S256x512 : S256x512.numel = S1x256x512.numel) x
      = (fun a => match a with | ⟨0, _⟩ => ⟨0, Nat.one_pos⟩ | ⟨1, _⟩ => x 0 | ⟨2, _⟩ => x 1) := by
  refine Shape.reshapeEquiv_eq_of_rowMajor _ ?_
  rw [Shape.rowMajor_val_three, Shape.rowMajor_val_two]
  show (0 * 256 + (x 0).val) * 512 + (x 1).val = (x 0).val * 512 + (x 1).val
  omega

theorem half_emb (j : Fin 4) (h : Fin 2) (x : S256x512.Idx) :
    (Rect.unit (s := S4x512x512) ![j.val, 256 * h.val, 0] S1x256x512.size (hf_inb j h)).emb
        (Shape.reshapeEquiv (shapeCasts_S1x256x512_S256x512 : S256x512.numel = S1x256x512.numel) x)
      = (fullR j).emb (inSlot h x) := by
  rw [unsq_eq, inSlot_eq]
  funext a
  apply Fin.ext
  rw [Rect.emb_apply, Rect.emb_apply]
  match a with
  | ⟨0, _⟩ => rfl
  | ⟨1, _⟩ =>
    show 256 * h.val + 1 * (x 0).val = 0 + 1 * (256 * h.val + (x 0).val)
    omega
  | ⟨2, _⟩ => rfl

/-- After a store to the slot, a half reads the value stored there. -/
theorem read_half_write (j : Fin 4) (h : Fin 2) (f : pM.view.ty.Contents (Elt F)) (w : S1x512x512.Idx → Elt F .f32) :
    (hf j h).view.read (Elt F) ((pM.access (fullR j)).write (Elt F) f w Finset.univ) = fun x => w (inSlot h x) := by
  funext x
  have e : (hf j h).view.read (Elt F) ((pM.access (fullR j)).write (Elt F) f w Finset.univ) x
      = pM.view.read (Elt F) ((pM.view.slice (fullR j)).write (Elt F) f w Finset.univ)
        ((Rect.unit (s := S4x512x512) ![j.val, 256 * h.val, 0] S1x256x512.size (hf_inb j h)).emb
          (Shape.reshapeEquiv (shapeCasts_S1x256x512_S256x512 : S256x512.numel = S1x256x512.numel) x)) := rfl
  rw [e, half_emb, View.read_slice_write_emb _ _ _ (Finset.mem_univ _)]

theorem mem_hf (j : Fin 4) (h : Fin 2) (i : S4x512x512.Idx) :
    i ∈ (hf j h).view.set ↔ (i 0).val = j.val ∧ 256 * h.val ≤ (i 1).val ∧ (i 1).val < 256 * h.val + 256 := by
  have e : (hf j h).view.set = (Rect.unit (s := S4x512x512) ![j.val, 256 * h.val, 0] S1x256x512.size (hf_inb j h)).set := by
    rw [Memref.set_view_squeeze (hq := squeezes_S1x256x512_S256x512)]
    show ((View.whole cc0_scratch0).slice _).set = _
    rw [View.set_slice]
    exact Finset.map_refl
  rw [e, Rect.mem_set_unit]
  have h2 := (i 2).isLt
  constructor
  · intro H
    have h0 : j.val ≤ (i 0).val ∧ (i 0).val < j.val + 1 := H 0
    have h1 : 256 * h.val ≤ (i 1).val ∧ (i 1).val < 256 * h.val + 256 := H 1
    exact ⟨by omega, h1⟩
  · intro H a
    match a with
    | ⟨0, _⟩ => exact ⟨le_of_eq H.1.symm, by show (i 0).val < j.val + 1; omega⟩
    | ⟨1, _⟩ => exact H.2
    | ⟨2, _⟩ => exact ⟨Nat.zero_le _, by show (i 2).val < 0 + 512; have : (i 2).val < 512 := h2; omega⟩

theorem mem_full (j : Fin 4) (i : S4x512x512.Idx) : i ∈ (pM.access (fullR j)).set ↔ (i 0).val = j.val := by
  have e : (pM.access (fullR j)).set = (fullR j).set := by
    show ((View.whole cc0_scratch0).slice _).set = _
    rw [View.set_slice]
    exact Finset.map_refl
  rw [e, Rect.mem_set_unit]
  have h1 : (i 1).val < 512 := (i 1).isLt
  have h2 : (i 2).val < 512 := (i 2).isLt
  constructor
  · intro H
    have h0 : j.val ≤ (i 0).val ∧ (i 0).val < j.val + 1 := H 0
    omega
  · intro H a
    match a with
    | ⟨0, _⟩ => exact ⟨le_of_eq H.symm, by show (i 0).val < j.val + 1; omega⟩
    | ⟨1, _⟩ => exact ⟨Nat.zero_le _, by show (i 1).val < 0 + 512; omega⟩
    | ⟨2, _⟩ => exact ⟨Nat.zero_le _, by show (i 2).val < 0 + 512; omega⟩

theorem full_eq (j : Fin 4) : (pM.access (fullR j)).set = (hf j 0).view.set ∪ (hf j 1).view.set := by
  ext i
  rw [Finset.mem_union]
  refine (mem_full j i).trans ?_
  refine Iff.trans ?_ (or_congr (mem_hf j 0 i) (mem_hf j 1 i)).symm
  have h1 : (i 1).val < 512 := (i 1).isLt
  have e0 : ((0 : Fin 2) : ℕ) = 0 := rfl
  have e1 : ((1 : Fin 2) : ℕ) = 1 := rfl
  rw [e0, e1]
  omega

theorem hf_disjoint (j : Fin 4) : Disjoint (hf j 0).view.set (hf j 1).view.set := by
  rw [Finset.disjoint_left]
  intro i h0 h1
  have h0 := (mem_hf j 0 i).mp h0
  have h1 := (mem_hf j 1 i).mp h1
  have e0 : ((0 : Fin 2) : ℕ) = 0 := rfl
  have e1 : ((1 : Fin 2) : ℕ) = 1 := rfl
  rw [e0] at h0; rw [e1] at h1
  omega

/-- The slot, held at some contents. -/
def slotAll (c : Dev nD) (j : Fin 4) (f : pM.view.ty.Contents (Elt F)) : sProp 𝕄 :=
  iprop(pM.view.loc (c : Thread nD τ) ↦[(pM.access (fullR j)).set]{fullShare} f)

/-- The two halves are the slot. -/
theorem slotAll_join (c : Dev nD) (j : Fin 4) : iprop(some' (F := F) c (hf j 0) fullShare ∗ some' c (hf j 1) fullShare) ⊢ iprop(∃ f, slotAll c j f) := by
  unfold some' own owns slotAll
  iintro ⟨⟨%X, %f, -, H⟩, ⟨%Y, %g, -, H'⟩⟩
  rw [full_eq]
  iexists ((hf j 1).view.set.piecewise g f)
  iapply (pointsTo_join (hf_disjoint j))
  isplitl [H]
  · iexact H
  · iexact H'

/-- The slot after a store, as its two halves. -/
theorem slotAll_split (c : Dev nD) (j : Fin 4) (f : pM.view.ty.Contents (Elt F)) (w : S1x512x512.Idx → Elt F .f32) :
    slotAll c j ((pM.access (fullR j)).write (Elt F) f w Finset.univ)
      ⊢ iprop(own c (hf j 0) fullShare (fun x => w (inSlot 0 x)) ∗ own c (hf j 1) fullShare (fun x => w (inSlot 1 x))) := by
  unfold own owns slotAll
  rw [full_eq]
  refine BIBase.Entails.trans (pointsTo_union (hf_disjoint j)).1 ?_
  iintro ⟨H, H'⟩
  isplitl [H]
  · iexists _
    isplitr; swap; · iexact H
    ipureintro; exact read_half_write j 0 f w
  · iexists _
    isplitr; swap; · iexact H'
    ipureintro; exact read_half_write j 1 f w

/-- A load of the slot. -/
theorem wp_loadFull {α : Type} {Q : α → sProp 𝕄} (c : Dev nD) {j : Fin 4} {off : Fin 3 → ℕ} {inb : ∀ a, off a + S1x512x512.size a ≤ S4x512x512.size a}
    (h : off = ![j.val, 0, 0]) {hl : pM.view.LoadsAt (Rect.unit (s := S4x512x512) off S1x512x512.size inb).toLoadRect}
    {k : (S1x512x512.Idx → Elt F .f32) → Prog (TpuEff nD τ sig (Elt F) Λ₀ .tc) α} {f : pM.view.ty.Contents (Elt F)} :
    slotAll c j f
      ⊢ iprop((∀ X, slotAll c j f -∗ wpc c (k X) Q)
        -∗ wpc c (.op (.load pM (Rect.unit (s := S4x512x512) off S1x512x512.size inb).toLoadRect hl) k) Q) := by
  subst h
  have hS : (pM.access (Rect.unit (s := S4x512x512) ![j.val, 0, 0] S1x512x512.size inb)).set ⊆ (pM.access (fullR j)).set := subset_refl _
  unfold slotAll
  iintro H Hk
  iapply (wp_load_rect 𝒱₀ (c : Thread nD τ) none Set.univ (f := f) hS) $$ H
  iintro H
  iapply Hk; iexact H

/-- A store to the slot leaves the value stored in its two halves. -/
theorem wp_storeFull {α : Type} {Q : α → sProp 𝕄} (c : Dev nD) {j : Fin 4} {off : Fin 3 → ℕ} {inb : ∀ a, off a + S1x512x512.size a ≤ S4x512x512.size a}
    (h : off = ![j.val, 0, 0]) {w : S1x512x512.Idx → Elt F .f32}
    {hx : (pM.access (Rect.unit (s := S4x512x512) off S1x512x512.size inb)).Stores Finset.univ}
    {hm : (Finset.univ : Finset S1x512x512.Idx) = Finset.univ ∨ ∀ a, (Rect.unit (s := S4x512x512) off S1x512x512.size inb).stride a = 1}
    {k : PUnit → Prog (TpuEff nD τ sig (Elt F) Λ₀ .tc) α} {f : pM.view.ty.Contents (Elt F)} :
    slotAll c j f
      ⊢ iprop(((own c (hf j 0) fullShare (fun x => w (inSlot 0 x)) ∗ own c (hf j 1) fullShare (fun x => w (inSlot 1 x))) -∗ wpc c (k ⟨⟩) Q)
        -∗ wpc c (.op (.store pM (Rect.unit (s := S4x512x512) off S1x512x512.size inb) w Finset.univ hx hm) k) Q) := by
  subst h
  iintro H Hk
  unfold slotAll
  iapply (wp_store 𝒱₀ (c : Thread nD τ) none Set.univ (f := f) (subset_refl (pM.access (fullR j)).set)) $$ H
  iintro H
  iapply Hk
  iapply (slotAll_split c j f w)
  unfold slotAll
  iexact H

/-- The slot's halves, of a partial product stored with a leading axis. -/
theorem half_of_cast (I : Inp F) (c : Dev nD) (h : Fin 2) (b : ℕ) :
    (fun x : S256x512.Idx => (shapeCast S1x512x512 (pv I c b) shapeCasts_S512x512_S1x512x512) (inSlot h x)) = ph I c h b := by
  have e := shapeCast_shapeCast (pv I c b) shapeCasts_S512x512_S1x512x512 shapeCasts_S1x512x512_S512x512
  funext x
  exact congrFun e ((halfR h).emb x)

/-! ## Shares -/

/-- A block held whole is its two shares. -/
theorem own_halve (c : Dev nD) (m : Memref sig .tc .vmem S256x512 .f32) (X : V256 F) :
    own c m fullShare X ⊢ iprop(own c m shL X ∗ own c m shR X) := by
  unfold own owns
  iintro ⟨%f, %hf, H⟩
  ihave H := (pointsTo_share (PosShare.mem_left_op_right fullShare)).1 $$ H
  icases H with ⟨H, H'⟩
  isplitl [H]
  · iexists f; isplitr; · ipureintro; exact hf
    iexact H
  · iexists f; isplitr; · ipureintro; exact hf
    iexact H'

/-- Its two shares are the block held whole, at the contents either shows. -/
theorem own_unhalve (c : Dev nD) (m : Memref sig .tc .vmem S256x512 .f32) (X : V256 F) :
    iprop(some' c m shL ∗ own c m shR X) ⊢ own c m fullShare X := by
  unfold some' own owns
  iintro ⟨⟨%Y, %g, -, H'⟩, %f, %hf, H⟩
  icombine H H' gives %hx
  rw [Finset.inter_self] at hx
  ihave H' := (Entails.of_eq (pointsTo_congr (fun i hi => (hx i hi).1.symm))) $$ H'
  iexists f
  isplitr; · ipureintro; exact hf
  iapply (pointsTo_share (PosShare.mem_left_op_right fullShare)).2
  isplitl [H']
  · iexact H'
  · iexact H

end Cert.Proof
-- ==== Proof.State.lean ====
module

public import proofs.«01_k».proof.Proof.Halves

/-! What a device holds between the steps of the kernel, and what it owes. -/

@[expose] public section

noncomputable section

namespace Cert.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (I : Inp F)

/-! ## Slots -/

/-- A transfer under way from a device, seen from its own count. -/
def snt (c : Dev nD) (k : Fin 8) (j : Fin 4) : sProp 𝕄 := cred (tallyAt (dcell c k j) 0 NN)
/-- A reader's count at one of its landing slots. -/
def rdr (c : Dev nD) (k : Fin 3) (j : Fin 4) (n : ℕ) : sProp 𝕄 := readerAt ES ((c, k, j) : Key) n

/-- The half sent to the neighbour in `y`: at home before its first use, then under way. -/
def freeY (c : Dev nD) (n : ℕ) : sProp 𝕄 :=
  if n < 4 then iprop(some' c (hf (jj n) (nyb c)) fullShare ∗ at' c 0 (jj n) 0) else iprop(at' c 0 (jj n) (n / 4 - 1) ∗ snt c 0 (jj n))
/-- The share of the sum sent to the first partner: at home before its first use, then under way. -/
def freeQ (c : Dev nD) (n : ℕ) : sProp 𝕄 :=
  if n < 4 then iprop(some' c (sl qM (jj n)) shL ∗ at' c 2 (jj n) 0) else iprop(at' c 2 (jj n) (n / 4 - 1) ∗ snt c 2 (jj n))

theorem freeY_add (c : Dev nD) (b : ℕ) : freeY (F := F) c (b + 4) = iprop(at' c 0 (jj b) (b / 4) ∗ snt c 0 (jj b)) := by
  unfold freeY; rw [if_neg (by omega), jj_add, show (b + 4) / 4 - 1 = b / 4 by omega]
theorem freeQ_add (c : Dev nD) (b : ℕ) : freeQ (F := F) c (b + 4) = iprop(at' c 2 (jj b) (b / 4) ∗ snt c 2 (jj b)) := by
  unfold freeQ; rw [if_neg (by omega), jj_add, show (b + 4) / 4 - 1 = b / 4 by omega]

/-- The second stage's cells, all at one round. -/
def rest4 (c : Dev nD) (j : Fin 4) (r : ℕ) : sProp 𝕄 := iprop(at' c 4 j r ∗ at' c 5 j r ∗ at' c 6 j r ∗ at' c 7 j r)

/-- A slot before block `n`'s partial product. -/
def St4 (c : Dev nD) (n : ℕ) : sProp 𝕄 :=
  iprop(some' c (hf (jj n) (yb c)) fullShare ∗ freeY c n ∗ some' c (sl qM (jj n)) shR ∗ freeQ c n
    ∗ at' c 1 (jj n) (n / 4) ∗ at' c 3 (jj n) (n / 4) ∗ rest4 c (jj n) (n / 4)
    ∗ rdr c 0 (jj n) (n / 4 + 1) ∗ rdr c 1 (jj n) (n / 4 + 1) ∗ rdr c 2 (jj n) (n / 4 + 1))
/-- A slot whose partial product is computed and its other half under way. -/
def St1 (c : Dev nD) (b : ℕ) : sProp 𝕄 :=
  iprop(own c (hf (jj b) (yb c)) fullShare (ph I c (yb c) b) ∗ freeY c (b + 4) ∗ some' c (sl qM (jj b)) shR ∗ freeQ c b
    ∗ at' c 1 (jj b) (b / 4) ∗ at' c 3 (jj b) (b / 4) ∗ rest4 c (jj b) (b / 4)
    ∗ rdr c 0 (jj b) (b / 4 + 1) ∗ rdr c 1 (jj b) (b / 4 + 1) ∗ rdr c 2 (jj b) (b / 4 + 1))
/-- A slot whose sum is formed and under way to the first partner. -/
def St2 (c : Dev nD) (b : ℕ) : sProp 𝕄 :=
  iprop(some' c (hf (jj b) (yb c)) fullShare ∗ freeY c (b + 4) ∗ own c (sl qM (jj b)) shR (qv I c b) ∗ freeQ c (b + 4)
    ∗ at' c 1 (jj b) (b / 4 + 1) ∗ at' c 3 (jj b) (b / 4) ∗ rest4 c (jj b) (b / 4)
    ∗ rdr c 0 (jj b) (b / 4 + 2) ∗ rdr c 1 (jj b) (b / 4 + 1) ∗ rdr c 2 (jj b) (b / 4 + 1))
/-- A slot whose two sums are under way to the second partner. -/
def St3 (c : Dev nD) (b : ℕ) : sProp 𝕄 :=
  iprop(some' c (hf (jj b) (yb c)) fullShare ∗ freeY c (b + 4) ∗ freeQ c (b + 4)
    ∗ at' c 1 (jj b) (b / 4 + 1) ∗ at' c 3 (jj b) (b / 4 + 1) ∗ rest4 c (jj b) (b / 4) ∗ snt c 4 (jj b) ∗ snt c 6 (jj b)
    ∗ rdr c 0 (jj b) (b / 4 + 2) ∗ rdr c 1 (jj b) (b / 4 + 1) ∗ rdr c 2 (jj b) (b / 4 + 1))

/-! ## What is owed, block by block -/

/-- The signal cell, of a kind of two, of a block's parity. -/
def q1c (b : ℕ) : Fin 6 := if b % 2 = 0 then 1 else 2
def q2c (b : ℕ) : Fin 6 := if b % 2 = 0 then 3 else 4

def due0 (c : Dev nD) (b : ℕ) : CellTallies nD τ sig ℕ := tallyAt (dcell (yp c) 1 (jj b)) (b + 2) NN
def due1 (c : Dev nD) (b : ℕ) : CellTallies nD τ sig ℕ :=
  tallyAt (rcell (yp c) 0) (b + 3) 1 + tallyAt (dcell (fstp c b) 3 (jj b)) (b + 3) NN
def due2 (c : Dev nD) (b : ℕ) : CellTallies nD τ sig ℕ :=
  tallyAt (dcell (sndp c b) 5 (jj b)) (b + 4) NN + tallyAt (dcell (sndp c b) 7 (jj b)) (b + 4) NN
def due3 (c : Dev nD) (b : ℕ) : CellTallies nD τ sig ℕ :=
  tallyAt (rcell (fstp c b) (q1c b)) (b + 5) 1 + tallyAt (rcell (sndp c b) (q2c b)) (b + 5) 1

/-! ## What a block's steps use up -/

def tok0 (c : Dev nD) (b : ℕ) : sProp 𝕄 :=
  iprop(dutyTok ER (dcell c 0 (jj b)) (b / 4) 0 ∗ dutyTok ER (dcell (yp c) 1 (jj b)) (b / 4) 0
    ∗ writeTok ES ((yp c, 0, jj b) : Key) (b / 4 + 1))
def tok1 (c : Dev nD) (b : ℕ) : sProp 𝕄 :=
  iprop(cred (tallyAt (dcell c 1 (jj b)) (b + 2) NN) ∗ dutyTok ER (rcell (yp c) 0) 0 b
    ∗ dutyTok ER (dcell c 2 (jj b)) (b / 4) 0 ∗ dutyTok ER (dcell (fstp c b) 3 (jj b)) (b / 4) 0
    ∗ writeTok ES ((fstp c b, 1, jj b) : Key) (b / 4 + 1))
def tok2 (c : Dev nD) (b : ℕ) : sProp 𝕄 :=
  iprop(cred (tallyAt (dcell c 3 (jj b)) (b + 3) NN)
    ∗ dutyTok ER (dcell c 4 (jj b)) (b / 4) 0 ∗ dutyTok ER (dcell (sndp c b) 5 (jj b)) (b / 4) 0
    ∗ dutyTok ER (dcell c 6 (jj b)) (b / 4) 0 ∗ dutyTok ER (dcell (sndp c b) 7 (jj b)) (b / 4) 0
    ∗ writeTok ES ((sndp c b, 2, jj b) : Key) (b / 4 + 1))
def tok3 (c : Dev nD) (b : ℕ) : sProp 𝕄 :=
  iprop(cred (tallyAt (dcell c 5 (jj b)) (b + 4) NN) ∗ cred (tallyAt (dcell c 7 (jj b)) (b + 4) NN)
    ∗ dutyTok ER (rcell (fstp c b) (q1c b)) 0 (b / 2) ∗ dutyTok ER (rcell (sndp c b) (q2c b)) 0 (b / 2))

/-! ## Signal cells -/

/-- The index a signal cell's unit is waited for at. -/
def cix (q : ℕ) (k : ℕ) : ℕ := if q = 0 then k + 3 else if q = 1 ∨ q = 3 then 2 * k + 5 else 2 * k + 6
/-- A device's own signal cell, `m` units waited for. -/
def crd (c : Dev nD) (q : Fin 6) (m : ℕ) : sProp 𝕄 :=
  iprop(crPos c q m ∗ BI.bigSep (Finset.Ico m (units q.val)) (fun k => cred (tallyAt (rcell c q) (cix q.val k) 1)))
/-- How many units are waited for before block `b`, of one parity's cells. -/
def cnt (p b : ℕ) : ℕ := (min b 16 - 3 - p) / 2

/-! ## The neighbours' greetings -/

/-- What the three neighbours' greetings said. -/
def greets (c : Dev nD) : sProp 𝕄 := iprop(greet (F := F) (yp c) ∗ greet (xp c) ∗ greet (zp c))
instance greets_persistent (c : Dev nD) : BI.Persistent (greets (F := F) c) := by unfold greets; infer_instance

theorem greets_y (c : Dev nD) : greets (F := F) c ⊢ greet (yp c) := by
  unfold greets; iintro ⟨H, -⟩; iexact H
theorem greets_fst (c : Dev nD) (b : ℕ) : greets (F := F) c ⊢ greet (fstp c b) := by
  unfold greets fstp; iintro ⟨-, Hx, Hz⟩
  split
  · iexact Hx
  · iexact Hz
theorem greets_snd (c : Dev nD) (b : ℕ) : greets (F := F) c ⊢ greet (sndp c b) := by
  unfold greets sndp; iintro ⟨-, Hx, Hz⟩
  split
  · iexact Hz
  · iexact Hx
theorem greet_rel (p : Dev nD) (k : Fin 3) {b : ℕ} (hb : b < 4) : greet (F := F) p ⊢ Rel p k b := by
  unfold greet; iintro ⟨H0, H1, H2, -⟩
  match k with
  | 0 => iapply (Rels_get p 0 hb); iexact H0
  | 1 => iapply (Rels_get p 1 hb); iexact H1
  | 2 => iapply (Rels_get p 2 hb); iexact H2
theorem greet_open (p : Dev nD) (q : Fin 6) (hq : q.val < 5) : greet (F := F) p ⊢ reached ER (rcell p q) 0 := by
  unfold greet; iintro ⟨-, -, -, H0, H1, H2, H3, H4⟩
  match q, hq with
  | 0, _ => iexact H0
  | 1, _ => iexact H1
  | 2, _ => iexact H2
  | 3, _ => iexact H3
  | 4, _ => iexact H4

/-! ## Landing slots taken and released -/

theorem some'_excl (c : Dev nD) (m : Memref sig .tc .vmem S256x512 .f32) :
    iprop(some' (F := F) c m fullShare ∗ some' c m fullShare) ⊢ (False : sProp 𝕄) := by
  unfold some' own owns
  iintro ⟨⟨%X, %f, -, H⟩, ⟨%Y, %g, -, H'⟩⟩
  obtain ⟨i, hi⟩ := m.view.set_nonempty (by decide)
  iapply (pointsTo_overlap_false (ℓ := m.view.loc (c : Thread nD τ)) (I := m.view.set) (J := m.view.set) (i := i) hi hi)
  isplitl [H]
  · iexact H
  · iexact H'

theorem slotOf_excl (k : Key) : iprop(slotOf (F := F) k ∗ slotOf k) ⊢ (False : sProp 𝕄) := by
  unfold slotOf
  split
  · exact some'_excl _ _
  · split
    · exact some'_excl _ _
    · iintro ⟨⟨H, -⟩, ⟨H', -⟩⟩
      iapply (some'_excl (F := F) k.1 (sl aM k.2.2))
      isplitl [H]
      · iexact H
      · iexact H'

variable {κ : Dev nD × CK → ℕ} {ιs : Key → ℕ}

/-- A neighbour's landing slot, free for block `b`, is taken. -/
theorem rel_take (c : Dev nD) (k : Fin 3) (b : ℕ) :
    iprop(ctx I κ ιs ∗ Rel (F := F) c k b ∗ writeTok ES ((c, k, jj b) : Key) (b / 4 + 1)) ⊢ (|={Set.univ}=> slotOf (c, k, jj b) : sProp 𝕄) := by
  unfold Rel
  iintro ⟨#Hctx, ⟨Hr, -⟩, Hw⟩
  ihave #Hs := (ctx_slot I (c, k, jj b)) $$ Hctx
  iapply (slot_take ES (Set.mem_univ (ιs (c, k, jj b))) (b / 4 + 1))
  isplitr; · iexact Hs
  isplitl [Hr]; · iexact Hr
  iexact Hw

/-- An own landing slot is released for block `n`. -/
theorem rel_give (c : Dev nD) (k : Fin 3) (n : ℕ) :
    iprop(ctx I κ ιs ∗ rdr (F := F) c k (jj n) (n / 4) ∗ slotOf (c, k, jj n) ∗ reached ER (dcell c (rK k) (jj n)) (n / 4)
        ∗ reached ER (dcell c (if k = 2 then 7 else rK k) (jj n)) (n / 4))
      ⊢ (|={Set.univ}=> (rdr c k (jj n) (n / 4 + 1) ∗ Rel c k n) : sProp 𝕄) := by
  unfold Rel rdr
  iintro ⟨#Hctx, Hrd, Hs, Hr, Hr'⟩
  ihave #Hi := (ctx_slot I (c, k, jj n)) $$ Hctx
  imod (slot_release ES (Set.mem_univ (ιs (c, k, jj n))) (slotOf_excl (c, k, jj n)) (n / 4)) $$ [Hrd Hs] with ⟨Hrd, Hrel⟩
  · isplitr; · iexact Hi
    isplitl [Hrd]; · iexact Hrd
    iexact Hs
  imodintro
  isplitl [Hrd]; · iexact Hrd
  isplitl [Hrel]; · iexact Hrel
  isplitl [Hr]; · iexact Hr
  iexact Hr'

end Cert.Proof
-- ==== Proof.Stages.lean ====
module

public import proofs.«01_k».proof.Proof.State

/-! The steps of the kernel's body, each with what follows it. -/

@[expose] public section

noncomputable section

namespace Cert.Proof

open Idealize.ShloMosaic Idealize.SL Idealize.SL.Sem
open Cert.KernelIdeal Cert.KernelIdeal.Gen

variable {F : FTy → Type} [FloatOps F]

/-- The greetings at the first grid point. -/
def barStage {α : Type} (i : grid0.Coords) (d0 : Dev nD)
    (arg1 : Memref sig .tc .vmem S512x4096 .bf16) (harg1 : arg1.IsWhole) (arg2 : Memref sig .tc .vmem S4096x512 .f32) (harg2 : arg2.IsWhole)
    (arg3 : Memref sig .tc .vmem S1024x512 .f32) (harg3 : arg3.IsWhole)
    (arg0 v2 v5 v8 v10 v11 : BitVec 32) (R : Prog (TpuEff nD τ sig (Elt F) Λ₀ .tc) α) : Prog (TpuEff nD τ sig (Elt F) Λ₀ .tc) α := do
  if k0_h1 : k0_cond1 i = 1#1 then do
    let v34 : Sems sig S_ := SemArray.scalar (sig.barrier 0 rfl)
    let c1_i32_14 : BitVec 32 := 1#32
    let v35 : BitVec 32 := Scalar.subi c1_i32_14 v2
    let c1_i32_15 : BitVec 32 := 1#32
    let v36 : BitVec 32 := Scalar.subi c1_i32_15 v8
    let c1_i32_16 : BitVec 32 := 1#32
    let c4_i32_17 : BitVec 32 := 4#32
    let v37 : BitVec 32 := Scalar.muli v2 c4_i32_17
    let c0_i32_18 : BitVec 32 := 0#32
    let v38 : BitVec 32 := Scalar.addi c0_i32_18 v37
    let c2_i32_19 : BitVec 32 := 2#32
    let v39 : BitVec 32 := Scalar.muli v11 c2_i32_19
    let v40 : BitVec 32 := Scalar.addi v38 v39
    let c1_i32_20 : BitVec 32 := 1#32
    let v41 : BitVec 32 := Scalar.muli v8 c1_i32_20
    let v42 : BitVec 32 := Scalar.addi v40 v41
    semSignalWord (⟨k0_dev1 d0, k0_dev1_lt i d0 k0_h1⟩ : Dev nD) v34.sem 1#32
    let c1_i32_21 : BitVec 32 := 1#32
    let c4_i32_22 : BitVec 32 := 4#32
    let v43 : BitVec 32 := Scalar.muli v35 c4_i32_22
    let c0_i32_23 : BitVec 32 := 0#32
    let v44 : BitVec 32 := Scalar.addi c0_i32_23 v43
    let c2_i32_24 : BitVec 32 := 2#32
    let v45 : BitVec 32 := Scalar.muli v5 c2_i32_24
    let v46 : BitVec 32 := Scalar.addi v44 v45
    let c1_i32_25 : BitVec 32 := 1#32
    let v47 : BitVec 32 := Scalar.muli v8 c1_i32_25
    let v48 : BitVec 32 := Scalar.addi v46 v47
    semSignalWord (⟨k0_dev2 d0, k0_dev2_lt i d0 k0_h1⟩ : Dev nD) v34.sem 1#32
    let c1_i32_26 : BitVec 32 := 1#32
    let c4_i32_27 : BitVec 32 := 4#32
    let v49 : BitVec 32 := Scalar.muli v2 c4_i32_27
    let c0_i32_28 : BitVec 32 := 0#32
    let v50 : BitVec 32 := Scalar.addi c0_i32_28 v49
    let c2_i32_29 : BitVec 32 := 2#32
    let v51 : BitVec 32 := Scalar.muli v5 c2_i32_29
    let v52 : BitVec 32 := Scalar.addi v50 v51
    let c1_i32_30 : BitVec 32 := 1#32
    let v53 : BitVec 32 := Scalar.muli v36 c1_i32_30
    let v54 : BitVec 32 := Scalar.addi v52 v53
    semSignalWord (⟨k0_dev3 d0, k0_dev3_lt i d0 k0_h1⟩ : Dev nD) v34.sem 1#32
    let c3_i32_31 : BitVec 32 := 3#32
    let v_true : BitVec 1 := 1#1
    semWaitWord v34.sem 3#32
    R
  else
    R

/-- The partial product and its sending. -/
def stage0 {α : Type} (i : grid0.Coords) (d0 : Dev nD)
    (arg1 : Memref sig .tc .vmem S512x4096 .bf16) (harg1 : arg1.IsWhole) (arg2 : Memref sig .tc .vmem S4096x512 .f32) (harg2 : arg2.IsWhole)
    (arg3 : Memref sig .tc .vmem S1024x512 .f32) (harg3 : arg3.IsWhole)
    (arg0 v2 v5 v8 v10 v11 : BitVec 32) (R : Prog (TpuEff nD τ sig (Elt F) Λ₀ .tc) α) : Prog (TpuEff nD τ sig (Elt F) Λ₀ .tc) α := do
  if k0_h2 : k0_cond2 i = 1#1 then do
    let c4_i32_14 : BitVec 32 := 4#32
    let v34 : BitVec 32 := Scalar.remsi arg0 c4_i32_14
    let c4_i32_15 : BitVec 32 := 4#32
    let v35 : BitVec 1 := Scalar.cmpi .sge arg0 c4_i32_15
    let v36 : BitVec 32 := Scalar.extui v35
    let c0_i32_16 : BitVec 32 := 0#32
    let v37 : BitVec 1 := Scalar.cmpi .ne v36 c0_i32_16
    if k0_h3 : k0_cond3 i = 1#1 then do
      let c1_i32_32 : BitVec 32 := 1#32
      let v66 : BitVec 32 := Scalar.subi c1_i32_32 v5
      let c256_i32_33 : BitVec 32 := 256#32
      let v67 : BitVec 32 := Scalar.muli c256_i32_33 v66
      let c0_i32_34 : BitVec 32 := 0#32
      let v68 : DmaSems sig S1 := cc0_scratch6.slice (Rect.unit (s := S4) (k0_off1 i) S1.size (k0_off1_inb i k0_h2 k0_h3))
      let v69 : DmaSems sig S_ := v68.squeeze S_ squeezes_S1_S_
      let c0_i32_35 : BitVec 32 := 0#32
      let v70 : Memref sig .tc .vmem S1x256x512 .f32 := (Memref.whole cc0_scratch0).slice (Rect.unit (s := S4x512x512) (k0_off2 i d0) S1x256x512.size (k0_off2_inb i d0 k0_h2 k0_h3)) (fun _ => rfl)
      let v71 : Memref sig .tc .vmem S256x512 .f32 := v70.squeeze S256x512 squeezes_S1x256x512_S256x512
      let c0_i32_36 : BitVec 32 := 0#32
      let c0_i32_37 : BitVec 32 := 0#32
      let v72 : Memref sig .tc .vmem S1x256x512 .f32 := (Memref.whole cc0_scratch1).slice (Rect.unit (s := S4x256x512) (k0_off3 i) S1x256x512.size (k0_off3_inb i k0_h2 k0_h3)) (fun _ => rfl)
      let v73 : Memref sig .tc .vmem S256x512 .f32 := v72.squeeze S256x512 squeezes_S1x256x512_S256x512
      Prog.lift (.waitDma2 v69.sem v73 v71 ((View.wordExact_bits rfl).reshape _ _) ((View.wordExact_bits rfl).reshape _ _))
      pure ⟨⟩
    else do
      pure ⟨⟩
    let c0 : Index := 0#32
    let c0_17 : Index := 0#32
    let v38 : Vec F S512x4096 .bf16 ← Prog.lift (.load arg1 (Rect.unit (s := S512x4096) ![0, 0] S512x4096.size inb_S512x4096_S512x4096_0_0).toLoadRect (View.loadsAt_vmem h_S512x4096))
    have v39 : FVec F S512x4096 .bf16 := shapeCast S512x4096 v38 shapeCasts_S512x4096_S512x4096
    let c0_18 : Index := 0#32
    let c0_19 : Index := 0#32
    let v40 : Vec F S4096x512 .f32 ← Prog.lift (.load arg2 (Rect.unit (s := S4096x512) ![0, 0] S4096x512.size inb_S4096x512_S4096x512_0_0).toLoadRect (View.loadsAt_vmem h_S4096x512))
    have v41 : FVec F S4096x512 .f32 := shapeCast S4096x512 v40 shapeCasts_S4096x512_S4096x512
    have cst : FVec F S512x512 .f32 := constant S512x512 .f32 0x00000000#32
    have v42 : FVec F S512x512 .f32 := matmul dot_S512x4096_S4096x512_S512x512_1_0_0_1_n_n none v39 v41 cst
    let v43 : Index := Scalar.indexCast v34
    let c0_20 : Index := 0#32
    let c0_21 : Index := 0#32
    let v44 : Vec F S1x512x512 .f32 ← Prog.lift (.load (Memref.whole cc0_scratch0) (Rect.unit (s := S4x512x512) (k0_off4 i) S1x512x512.size (k0_off4_inb i k0_h2)).toLoadRect (View.loadsAt_vmem h_S1x512x512))
    have v45 : FVec F S512x512 .f32 := shapeCast S512x512 v44 shapeCasts_S1x512x512_S512x512
    have v46 : FVec F S1x512x512 .f32 := shapeCast S1x512x512 v42 shapeCasts_S512x512_S1x512x512
    Prog.lift (.store (Memref.whole cc0_scratch0) (Rect.unit (s := S4x512x512) (k0_off4 i) S1x512x512.size (k0_off4_inb i k0_h2)) v46 Finset.univ (View.stores_vmem_bits_univ h_S1x512x512 rfl) (.inl rfl))
    let c4_i32_22 : BitVec 32 := 4#32
    let v47 : BitVec 1 := Scalar.cmpi .sge arg0 c4_i32_22
    let v48 : BitVec 32 := Scalar.extui v47
    let c0_i32_23 : BitVec 32 := 0#32
    let v49 : BitVec 1 := Scalar.cmpi .ne v48 c0_i32_23
    if k0_h4 : v49 = 1#1 then do
      let c1_i32_32 : BitVec 32 := 1#32
      let v_true : BitVec 1 := 1#1
      semWaitWord cc0_scratch14.sem 1#32
      pure ⟨⟩
    else do
      pure ⟨⟩
    let c1_i32_24 : BitVec 32 := 1#32
    let v50 : BitVec 32 := Scalar.subi c1_i32_24 v5
    let c256_i32 : BitVec 32 := 256#32
    let v51 : BitVec 32 := Scalar.muli c256_i32 v50
    let c4_i32_25 : BitVec 32 := 4#32
    let v52 : BitVec 32 := Scalar.muli v2 c4_i32_25
    let c0_i32_26 : BitVec 32 := 0#32
    let v53 : BitVec 32 := Scalar.addi c0_i32_26 v52
    let c2_i32_27 : BitVec 32 := 2#32
    let v54 : BitVec 32 := Scalar.muli v11 c2_i32_27
    let v55 : BitVec 32 := Scalar.addi v53 v54
    let c1_i32_28 : BitVec 32 := 1#32
    let v56 : BitVec 32 := Scalar.muli v8 c1_i32_28
    let v57 : BitVec 32 := Scalar.addi v55 v56
    let v58 : DmaSems sig S1 := cc0_scratch6.slice (Rect.unit (s := S4) (k0_off5 i) S1.size (k0_off5_inb i k0_h2))
    let v59 : DmaSems sig S_ := v58.squeeze S_ squeezes_S1_S_
    let v60 : DmaSems sig S1 := cc0_scratch7.slice (Rect.unit (s := S4) (k0_off5 i) S1.size (k0_off5_inb i k0_h2))
    let v61 : DmaSems sig S_ := v60.squeeze S_ squeezes_S1_S_
    let c0_i32_29 : BitVec 32 := 0#32
    let c0_i32_30 : BitVec 32 := 0#32
    let v62 : Memref sig .tc .vmem S1x256x512 .f32 := (Memref.whole cc0_scratch1).slice (Rect.unit (s := S4x256x512) (k0_off6 i) S1x256x512.size (k0_off6_inb i k0_h2)) (fun _ => rfl)
    let v63 : Memref sig .tc .vmem S256x512 .f32 := v62.squeeze S256x512 squeezes_S1x256x512_S256x512
    let c0_i32_31 : BitVec 32 := 0#32
    let v64 : Memref sig .tc .vmem S1x256x512 .f32 := (Memref.whole cc0_scratch0).slice (Rect.unit (s := S4x512x512) (k0_off7 i d0) S1x256x512.size (k0_off7_inb i d0 k0_h2)) (fun _ => rfl)
    let v65 : Memref sig .tc .vmem S256x512 .f32 := v64.squeeze S256x512 squeezes_S1x256x512_S256x512
    Prog.lift (.enqueueDma v65 (.remote (Dev.tc (⟨k0_dev4 d0, k0_dev4_lt i d0 k0_h2⟩ : Dev nD)) v63 (.dma v59.sem)) (.dma v61.sem) ((View.wordExact_bits rfl).reshape _ _) ((View.wordExact_bits rfl).reshape _ _) ⟨⟨rfl, Or.inl rfl⟩, trivial⟩)
    R
  else
    R

/-- The sum and its sending to the first partner. -/
def stage1 {α : Type} (i : grid0.Coords) (d0 : Dev nD)
    (arg1 : Memref sig .tc .vmem S512x4096 .bf16) (harg1 : arg1.IsWhole) (arg2 : Memref sig .tc .vmem S4096x512 .f32) (harg2 : arg2.IsWhole)
    (arg3 : Memref sig .tc .vmem S1024x512 .f32) (harg3 : arg3.IsWhole)
    (arg0 v2 v5 v8 v10 v11 : BitVec 32) (R : Prog (TpuEff nD τ sig (Elt F) Λ₀ .tc) α) : Prog (TpuEff nD τ sig (Elt F) Λ₀ .tc) α := do
  if k0_h5 : k0_cond5 i = 1#1 then do
    let ⟨v34, v67, c2_i32_34⟩ : Σ' (v34 : BitVec 32) (v67 : BitVec 32), BitVec 32 ← k0_part1 i arg1 harg1 arg2 harg2 arg3 harg3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 arg0 d0 v2 v5 v8 v11 k0_h5
    k0_part2 i arg1 harg1 arg2 harg2 arg3 harg3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 d0 v2 v5 v8 v11 k0_h5 v34 v67 c2_i32_34
    let v103 : Memref sig .tc .vmem S1x256x512 .f32 := (Memref.whole cc0_scratch2).slice (Rect.unit (s := S4x256x512) (k0_off9 i) S1x256x512.size (k0_off9_inb i k0_h5)) (fun _ => rfl)
    let v104 : Memref sig .tc .vmem S256x512 .f32 := v103.squeeze S256x512 squeezes_S1x256x512_S256x512
    let v97 : DmaSems sig S1 := cc0_scratch8.slice (Rect.unit (s := S4) (k0_off8 i) S1.size (k0_off8_inb i k0_h5))
    let v98 : DmaSems sig S_ := v97.squeeze S_ squeezes_S1_S_
    let v99 : DmaSems sig S1 := cc0_scratch9.slice (Rect.unit (s := S4) (k0_off8 i) S1.size (k0_off8_inb i k0_h5))
    let v100 : DmaSems sig S_ := v99.squeeze S_ squeezes_S1_S_
    let v101 : Memref sig .tc .vmem S1x256x512 .f32 := (Memref.whole cc0_scratch3).slice (Rect.unit (s := S4x256x512) (k0_off9 i) S1x256x512.size (k0_off9_inb i k0_h5)) (fun _ => rfl)
    let v102 : Memref sig .tc .vmem S256x512 .f32 := v101.squeeze S256x512 squeezes_S1x256x512_S256x512
    Prog.lift (.enqueueDma v104 (.remote (Dev.tc (⟨k0_dev6 i d0, k0_dev6_lt i d0 k0_h5⟩ : Dev nD)) v102 (.dma v98.sem)) (.dma v100.sem) ((View.wordExact_bits rfl).reshape _ _) ((View.wordExact_bits rfl).reshape _ _) ⟨⟨rfl, Or.inl rfl⟩, trivial⟩)
    R
  else
    R

/-- The two sendings to the second partner. -/
def stage2 {α : Type} (i : grid0.Coords) (d0 : Dev nD)
    (arg1 : Memref sig .tc .vmem S512x4096 .bf16) (harg1 : arg1.IsWhole) (arg2 : Memref sig .tc .vmem S4096x512 .f32) (harg2 : arg2.IsWhole)
    (arg3 : Memref sig .tc .vmem S1024x512 .f32) (harg3 : arg3.IsWhole)
    (arg0 v2 v5 v8 v10 v11 : BitVec 32) (R : Prog (TpuEff nD τ sig (Elt F) Λ₀ .tc) α) : Prog (TpuEff nD τ sig (Elt F) Λ₀ .tc) α := do
  if k0_h9 : k0_cond9 i = 1#1 then do
    let ⟨v34, c2_i32_37⟩ : Σ' (v34 : BitVec 32), BitVec 32 ← k0_part3 i arg1 harg1 arg2 harg2 arg3 harg3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 arg0 v2 v5 v8 k0_h9
    k0_part4 i arg1 harg1 arg2 harg2 arg3 harg3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 d0 v2 v5 v8 k0_h9 v34 c2_i32_37
    let c0_i32_59 : BitVec 32 := 0#32
    let c0_i32_60 : BitVec 32 := 0#32
    let v105 : Memref sig .tc .vmem S1x256x512 .f32 := (Memref.whole cc0_scratch5).slice (Rect.unit (s := S4x256x512) (k0_off16 i) S1x256x512.size (k0_off16_inb i k0_h9)) (fun _ => rfl)
    let v106 : Memref sig .tc .vmem S256x512 .f32 := v105.squeeze S256x512 squeezes_S1x256x512_S256x512
    let c0_i32_61 : BitVec 32 := 0#32
    let c0_i32_62 : BitVec 32 := 0#32
    let v107 : Memref sig .tc .vmem S1x256x512 .f32 := (Memref.whole cc0_scratch3).slice (Rect.unit (s := S4x256x512) (k0_off16 i) S1x256x512.size (k0_off16_inb i k0_h9)) (fun _ => rfl)
    let v108 : Memref sig .tc .vmem S256x512 .f32 := v107.squeeze S256x512 squeezes_S1x256x512_S256x512
    let v101 : DmaSems sig S1 := cc0_scratch12.slice (Rect.unit (s := S4) (k0_off15 i) S1.size (k0_off15_inb i k0_h9))
    let v102 : DmaSems sig S_ := v101.squeeze S_ squeezes_S1_S_
    let v103 : DmaSems sig S1 := cc0_scratch13.slice (Rect.unit (s := S4) (k0_off15 i) S1.size (k0_off15_inb i k0_h9))
    let v104 : DmaSems sig S_ := v103.squeeze S_ squeezes_S1_S_
    Prog.lift (.enqueueDma v108 (.remote (Dev.tc (⟨k0_dev8 i d0, k0_dev8_lt i d0 k0_h9⟩ : Dev nD)) v106 (.dma v102.sem)) (.dma v104.sem) ((View.wordExact_bits rfl).reshape _ _) ((View.wordExact_bits rfl).reshape _ _) ⟨⟨rfl, Or.inl rfl⟩, trivial⟩)
    R
  else
    R

/-- The four results and the signals. -/
def stage3 {α : Type} (i : grid0.Coords) (d0 : Dev nD)
    (arg1 : Memref sig .tc .vmem S512x4096 .bf16) (harg1 : arg1.IsWhole) (arg2 : Memref sig .tc .vmem S4096x512 .f32) (harg2 : arg2.IsWhole)
    (arg3 : Memref sig .tc .vmem S1024x512 .f32) (harg3 : arg3.IsWhole)
    (arg0 v2 v5 v8 v10 v11 : BitVec 32) (R : Prog (TpuEff nD τ sig (Elt F) Λ₀ .tc) α) : Prog (TpuEff nD τ sig (Elt F) Λ₀ .tc) α := do
  if k0_h12 : k0_cond12 i = 1#1 then do
    let ⟨v34, v35, v36, v38, v64, v66⟩ : Σ' (v34 : BitVec 32) (v35 : BitVec 32) (v36 : BitVec 32) (v38 : BitVec 32) (v64 : BitVec 32), BitVec 32 ← k0_part5 i arg1 harg1 arg2 harg2 arg3 harg3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 arg0 v2 v5 v8 k0_h12
    k0_part6 i arg1 harg1 arg2 harg2 arg3 harg3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 v2 v5 v8 k0_h12 v34 v64 v66
    let ⟨v131, v132, c1_i32_84⟩ : Σ' (v131 : BitVec 32) (v132 : BitVec 1), BitVec 32 ← k0_part7 i arg1 harg1 arg2 harg2 arg3 harg3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 d0 v10 k0_h12 v34 v35 v38
    let v133 : BitVec 32 := Scalar.subi c1_i32_84 v2
    let v134 : BitVec 32 := Scalar.select v132 v133 v2
    let c0_i32_85 : BitVec 32 := 0#32
    let v135 : BitVec 1 := Scalar.cmpi .eq v131 c0_i32_85
    let c1_i32_86 : BitVec 32 := 1#32
    let v136 : BitVec 32 := Scalar.subi c1_i32_86 v8
    let v137 : BitVec 32 := Scalar.select v135 v8 v136
    let c0_i32_87 : BitVec 32 := 0#32
    let v138 : BitVec 1 := Scalar.cmpi .eq v131 c0_i32_87
    let c1_i32_88 : BitVec 32 := 1#32
    let v139 : BitVec 32 := Scalar.subi c1_i32_88 v2
    let v140 : BitVec 32 := Scalar.select v138 v2 v139
    let c0_i32_89 : BitVec 32 := 0#32
    let v141 : BitVec 1 := Scalar.cmpi .eq v131 c0_i32_89
    let c1_i32_90 : BitVec 32 := 1#32
    let v142 : BitVec 32 := Scalar.subi c1_i32_90 v8
    let v143 : BitVec 32 := Scalar.select v141 v142 v8
    let c0_i32_91 : BitVec 32 := 0#32
    let v144 : BitVec 1 := Scalar.cmpi .eq v36 c0_i32_91
    let v145 : BitVec 32 := Scalar.extui v144
    let c0_i32_92 : BitVec 32 := 0#32
    let v146 : BitVec 1 := Scalar.cmpi .ne v145 c0_i32_92
    if k0_h13 : k0_cond13 i = 1#1 then do
      let c1_i32_95 : BitVec 32 := 1#32
      let c4_i32_96 : BitVec 32 := 4#32
      let v150 : BitVec 32 := Scalar.muli v134 c4_i32_96
      let c0_i32_97 : BitVec 32 := 0#32
      let v151 : BitVec 32 := Scalar.addi c0_i32_97 v150
      let c2_i32_98 : BitVec 32 := 2#32
      let v152 : BitVec 32 := Scalar.muli v5 c2_i32_98
      let v153 : BitVec 32 := Scalar.addi v151 v152
      let c1_i32_99 : BitVec 32 := 1#32
      let v154 : BitVec 32 := Scalar.muli v137 c1_i32_99
      let v155 : BitVec 32 := Scalar.addi v153 v154
      semSignalWord (⟨k0_dev9 i d0, k0_dev9_lt i d0 k0_h12 k0_h13⟩ : Dev nD) cc0_scratch15.sem 1#32
      let c1_i32_100 : BitVec 32 := 1#32
      let c4_i32_101 : BitVec 32 := 4#32
      let v156 : BitVec 32 := Scalar.muli v140 c4_i32_101
      let c0_i32_102 : BitVec 32 := 0#32
      let v157 : BitVec 32 := Scalar.addi c0_i32_102 v156
      let c2_i32_103 : BitVec 32 := 2#32
      let v158 : BitVec 32 := Scalar.muli v5 c2_i32_103
      let v159 : BitVec 32 := Scalar.addi v157 v158
      let c1_i32_104 : BitVec 32 := 1#32
      let v160 : BitVec 32 := Scalar.muli v143 c1_i32_104
      let v161 : BitVec 32 := Scalar.addi v159 v160
      semSignalWord (⟨k0_dev10 i d0, k0_dev10_lt i d0 k0_h12 k0_h13⟩ : Dev nD) cc0_scratch17.sem 1#32
      pure ⟨⟩
    else do
      pure ⟨⟩
    let c1_i32_93 : BitVec 32 := 1#32
    let v147 : BitVec 1 := Scalar.cmpi .eq v36 c1_i32_93
    let v148 : BitVec 32 := Scalar.extui v147
    let c0_i32_94 : BitVec 32 := 0#32
    let v149 : BitVec 1 := Scalar.cmpi .ne v148 c0_i32_94
    if k0_h14 : k0_cond14 i = 1#1 then do
      let c1_i32_95 : BitVec 32 := 1#32
      let c4_i32_96 : BitVec 32 := 4#32
      let v150 : BitVec 32 := Scalar.muli v134 c4_i32_96
      let c0_i32_97 : BitVec 32 := 0#32
      let v151 : BitVec 32 := Scalar.addi c0_i32_97 v150
      let c2_i32_98 : BitVec 32 := 2#32
      let v152 : BitVec 32 := Scalar.muli v5 c2_i32_98
      let v153 : BitVec 32 := Scalar.addi v151 v152
      let c1_i32_99 : BitVec 32 := 1#32
      let v154 : BitVec 32 := Scalar.muli v137 c1_i32_99
      let v155 : BitVec 32 := Scalar.addi v153 v154
      semSignalWord (⟨k0_dev11 i d0, k0_dev11_lt i d0 k0_h12 k0_h14⟩ : Dev nD) cc0_scratch16.sem 1#32
      let c1_i32_100 : BitVec 32 := 1#32
      let c4_i32_101 : BitVec 32 := 4#32
      let v156 : BitVec 32 := Scalar.muli v140 c4_i32_101
      let c0_i32_102 : BitVec 32 := 0#32
      let v157 : BitVec 32 := Scalar.addi c0_i32_102 v156
      let c2_i32_103 : BitVec 32 := 2#32
      let v158 : BitVec 32 := Scalar.muli v5 c2_i32_103
      let v159 : BitVec 32 := Scalar.addi v157 v158
      let c1_i32_104 : BitVec 32 := 1#32
      let v160 : BitVec 32 := Scalar.muli v143 c1_i32_104
      let v161 : BitVec 32 := Scalar.addi v159 v160
      semSignalWord (⟨k0_dev12 i d0, k0_dev12_lt i d0 k0_h12 k0_h14⟩ : Dev nD) cc0_scratch18.sem 1#32
      pure ⟨⟩
    else do
      pure ⟨⟩
    R
  else
    R

/-- The last waits. -/
def finStage {α : Type} (i : grid0.Coords) (d0 : Dev nD)
    (arg1 : Memref sig .tc .vmem S512x4096 .bf16) (harg1 : arg1.IsWhole) (arg2 : Memref sig .tc .vmem S4096x512 .f32) (harg2 : arg2.IsWhole)
    (arg3 : Memref sig .tc .vmem S1024x512 .f32) (harg3 : arg3.IsWhole)
    (arg0 v2 v5 v8 v10 v11 : BitVec 32) (R : Prog (TpuEff nD τ sig (Elt F) Λ₀ .tc) α) : Prog (TpuEff nD τ sig (Elt F) Λ₀ .tc) α := do
  if k0_h15 : k0_cond15 i = 1#1 then do
    k0_part8 i arg1 harg1 arg2 harg2 arg3 harg3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 d0 v2 v5 v8 k0_h15
    k0_part9 i arg1 harg1 arg2 harg2 arg3 harg3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 d0 v2 v5 v8 k0_h15
    let ⟨c3_i32_107, c2_i32_108⟩ : Σ' (c3_i32_107 : BitVec 32), BitVec 32 ← k0_part10 i arg1 harg1 arg2 harg2 arg3 harg3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18 d0 v2 v5 v8 k0_h15
    let v105 : BitVec 32 := Scalar.remsi c3_i32_107 c2_i32_108
    let c0_i32_109 : BitVec 32 := 0#32
    let v106 : BitVec 1 := Scalar.cmpi .eq v105 c0_i32_109
    let c1_i32_110 : BitVec 32 := 1#32
    let v107 : BitVec 32 := Scalar.subi c1_i32_110 v2
    let v108 : BitVec 32 := Scalar.select v106 v107 v2
    let c0_i32_111 : BitVec 32 := 0#32
    let v109 : BitVec 1 := Scalar.cmpi .eq v105 c0_i32_111
    let c1_i32_112 : BitVec 32 := 1#32
    let v110 : BitVec 32 := Scalar.subi c1_i32_112 v8
    let v111 : BitVec 32 := Scalar.select v109 v8 v110
    let c3_i32_113 : BitVec 32 := 3#32
    let c3_i32_114 : BitVec 32 := 3#32
    let c3_i32_115 : BitVec 32 := 3#32
    let c3_i32_116 : BitVec 32 := 3#32
    let c0_i32_117 : BitVec 32 := 0#32
    let v112 : DmaSems sig S1 := cc0_scratch8.slice (Rect.unit (s := S4) ![3] S1.size inb_S4_S1_3)
    let v113 : DmaSems sig S_ := v112.squeeze S_ squeezes_S1_S_
    let c0_i32_118 : BitVec 32 := 0#32
    let c0_i32_119 : BitVec 32 := 0#32
    let v114 : Memref sig .tc .vmem S1x256x512 .f32 := (Memref.whole cc0_scratch2).slice (Rect.unit (s := S4x256x512) ![3, 0, 0] S1x256x512.size inb_S4x256x512_S1x256x512_3_0_0) (fun _ => rfl)
    let v115 : Memref sig .tc .vmem S256x512 .f32 := v114.squeeze S256x512 squeezes_S1x256x512_S256x512
    let c0_i32_120 : BitVec 32 := 0#32
    let c0_i32_121 : BitVec 32 := 0#32
    let v116 : Memref sig .tc .vmem S1x256x512 .f32 := (Memref.whole cc0_scratch3).slice (Rect.unit (s := S4x256x512) ![3, 0, 0] S1x256x512.size inb_S4x256x512_S1x256x512_3_0_0) (fun _ => rfl)
    let v117 : Memref sig .tc .vmem S256x512 .f32 := v116.squeeze S256x512 squeezes_S1x256x512_S256x512
    Prog.lift (.waitDma2 v113.sem v117 v115 ((View.wordExact_bits rfl).reshape _ _) ((View.wordExact_bits rfl).reshape _ _))
    R
  else
    R

/-! The words the body works with: the device's coordinates, and what is formed of them. -/

def wx (d : Dev nD) : BitVec 32 := Scalar.remsi (Scalar.divsi (Dev.word d) 4#32) 2#32
def wy (d : Dev nD) : BitVec 32 := Scalar.remsi (Scalar.divsi (Dev.word d) 2#32) 2#32
def wz (d : Dev nD) : BitVec 32 := Scalar.remsi (Scalar.divsi (Dev.word d) 1#32) 2#32
def wq (d : Dev nD) : BitVec 32 := Scalar.addi (Scalar.muli 2#32 (wx d)) (wz d)
def wn (d : Dev nD) : BitVec 32 := Scalar.subi 1#32 (wy d)
/-- The grid coordinate as a word. -/
def wi (i : grid0.Coords) : BitVec 32 := BitVec.ofNat 32 (i 0).val

/-- All but the last waits, on a device. -/
theorem part11_eq (i : grid0.Coords)
    (arg1 : Memref sig .tc .vmem S512x4096 .bf16) (harg1 : arg1.IsWhole) (arg2 : Memref sig .tc .vmem S4096x512 .f32) (harg2 : arg2.IsWhole)
    (arg3 : Memref sig .tc .vmem S1024x512 .f32) (harg3 : arg3.IsWhole) :
    k0_part11 (F := F) i arg1 harg1 arg2 harg2 arg3 harg3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18
      = (Prog.op .deviceId fun d0 => barStage i d0 arg1 harg1 arg2 harg2 arg3 harg3 (wi i) (wx d0) (wy d0) (wz d0) (wq d0) (wn d0) (stage0 i d0 arg1 harg1 arg2 harg2 arg3 harg3 (wi i) (wx d0) (wy d0) (wz d0) (wq d0) (wn d0) (stage1 i d0 arg1 harg1 arg2 harg2 arg3 harg3 (wi i) (wx d0) (wy d0) (wz d0) (wq d0) (wn d0) (stage2 i d0 arg1 harg1 arg2 harg2 arg3 harg3 (wi i) (wx d0) (wy d0) (wz d0) (wq d0) (wn d0) (stage3 i d0 arg1 harg1 arg2 harg2 arg3 harg3 (wi i) (wx d0) (wy d0) (wz d0) (wq d0) (wn d0) (.ret ⟨d0, wx d0, wy d0, wz d0, Scalar.cmpi .eq (wi i) 18#32⟩)))))) := by

  rfl

end Cert.Proof
-- ==== Proof.Turns.lean ====
module

public import proofs.«01_k».proof.Proof.Stages

/-! The conditional waits of the kernel's steps. -/

@[expose] public section

noncomputable section

namespace Cert.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (I : Inp F)
variable {κ : Dev nD × CK → ℕ} {ιs : Key → ℕ}

/-- Every block's transfer credits the same. -/
theorem credit_any (m : Memref sig .tc .vmem S256x512 .f32) : m.view.dmaCredit = NN := rfl

theorem sq_eq {d : Fin 3 → ℕ} (M : Memref sig .tc .vmem ⟨3, d⟩ .f32) {off off' : Fin 3 → ℕ} {inb : ∀ a, off a + S1x256x512.size a ≤ d a}
    {inb' : ∀ a, off' a + S1x256x512.size a ≤ d a} (h : off = off') : sq M off inb = sq M off' inb' := by subst h; rfl
theorem one_toInt : (1#32).toInt = 1 := rfl

theorem freeQ_open (c : Dev nD) (n : ℕ) : freeQ (F := F) c n
    ⊢ if n < 4 then iprop(some' c (sl qM (jj n)) shL ∗ at' c 2 (jj n) 0) else iprop(at' c 2 (jj n) (n / 4 - 1) ∗ snt c 2 (jj n)) := entails_refl _
theorem freeY_open (c : Dev nD) (n : ℕ) : freeY (F := F) c n
    ⊢ if n < 4 then iprop(some' c (hf (jj n) (nyb c)) fullShare ∗ at' c 0 (jj n) 0) else iprop(at' c 0 (jj n) (n / 4 - 1) ∗ snt c 0 (jj n)) := entails_refl _
theorem some'_open (c : Dev nD) (m : Memref sig .tc .vmem S256x512 .f32) (q : PosShare TreeShare) :
    some' (F := F) c m q ⊢ iprop(∃ X : V256 F, own c m q X) := entails_refl _
theorem some'_intro (c : Dev nD) (m : Memref sig .tc .vmem S256x512 .f32) (q : PosShare TreeShare) (X : V256 F) :
    own c m q X ⊢ some' c m q := by
  unfold some'; iintro H; iexists X; iexact H
theorem at'_reached (c : Dev nD) (k : Fin 8) (j : Fin 4) (r : ℕ) :
    at' (F := F) c k j r ⊢ iprop(at' c k j r ∗ reached ER (dcell c k j) r) := by
  unfold at'; iintro ⟨H, #Hr⟩
  isplitl
  · isplitl [H]
    · iexact H
    · iexact Hr
  · iexact Hr

theorem slotOf_0 (c : Dev nD) (j : Fin 4) : slotOf (F := F) (c, 0, j) = some' c (sl yM j) fullShare := rfl
theorem slotOf_1 (c : Dev nD) (j : Fin 4) : slotOf (F := F) (c, 1, j) = some' c (sl rM j) fullShare := rfl
theorem slotOf_2 (c : Dev nD) (j : Fin 4) : slotOf (F := F) (c, 2, j) = iprop(some' c (sl aM j) fullShare ∗ some' c (sl bM j) fullShare) := rfl
theorem snt_intro (c : Dev nD) (k : Fin 8) (j : Fin 4) : (cred (tallyAt (dcell c k j) 0 NN) : sProp 𝕄) ⊢ snt c k j := entails_refl _

/-- A load of a whole memref continues at its contents. -/
theorem wp_loadW {α : Type} {Q : α → sProp 𝕄} (c : Dev nD) {s : Shape} {e : EltTy} {m : Memref sig .tc .vmem s e} {off : Fin s.rank → ℕ}
    {inb : ∀ a, off a + s.size a ≤ s.size a} {hl : m.view.LoadsAt (Rect.unit (s := s) off s.size inb).toLoadRect} (h : off = fun _ => 0)
    {k : (s.Idx → Elt F e) → Prog (TpuEff nD τ sig (Elt F) Λ₀ .tc) α} {q : PosShare TreeShare} {X : s.Idx → Elt F e} :
    own c m q X ⊢ iprop((own c m q X -∗ wpc c (k X) Q)
        -∗ wpc c (.op (.load m (Rect.unit (s := s) off s.size inb).toLoadRect hl) k) Q) := by
  subst h
  unfold own owns
  have hS : (m.access (Rect.unit (s := s) (fun _ => 0) s.size inb)).set ⊆ m.view.set := m.view.set_slice_subset _
  have hrd (f : m.view.ty.Contents (Elt F)) : (m.access (Rect.unit (s := s) (fun _ => 0) s.size inb)).read (Elt F) f = m.view.read (Elt F) f := by
    funext x
    show m.view.read (Elt F) f ((Rect.unit (s := s) (fun _ => 0) s.size inb).emb x) = _
    congr 1
    funext a
    apply Fin.ext
    rw [Rect.emb_apply]
    show 0 + 1 * (x a).val = _
    rw [Nat.zero_add, Nat.one_mul]
  iintro ⟨%f, %hf, H⟩ Hk
  iapply (wp_load_rect 𝒱₀ (c : Thread nD τ) none Set.univ hS) $$ H
  iintro H
  rw [hrd, hf]
  iapply Hk
  iexists f
  isplitr
  · ipureintro; exact hf
  · iexact H

/-- What follows a conditional follows each of its sides. -/
theorem dite_bind {E : Type → Type} {α β : Type} {P : Prop} {dP : Decidable P} (A : P → Prog E α) (B : ¬P → Prog E α) (f : α → Prog E β) :
    (dite P A B >>= f) = dite P (fun h => A h >>= f) (fun h => B h >>= f) := by
  split <;> rfl

/-- A conditional wait on a transfer of the own side, made from the slots' second use on. -/
theorem wp_dif {α : Type} {Q : α → sProp 𝕄} (c : Dev nD) (k : Fin 8) (b : ℕ) (hb : b < 16) {s : ℕ} {O : CellTallies nD τ sig ℕ} (hO : Above s O)
    {P : Prop} {dP : Decidable P} (hP : P ↔ 4 ≤ b) (X : sProp 𝕄) (hX : 4 ≤ b → dpay I c k.val (b - 4) ⊢ X)
    {sm : P → DmaSem sig} (hsm : ∀ h, sm h = dsem k (jj b)) {src dst : P → Memref sig .tc .vmem S256x512 .f32} (hN : ∀ h, (dst h).view.dmaCredit = NN)
    {h1 : ∀ h, (src h).view.WordExact} {h2 : ∀ h, (dst h).view.WordExact} {R : Prog (TpuEff nD τ sig (Elt F) Λ₀ .tc) α} :
    iprop(ctx I κ ιs ∗ owesE c O ∗ (if b < 4 then iprop(X ∗ at' c k (jj b) 0) else iprop(at' c k (jj b) (b / 4 - 1) ∗ snt c k (jj b))))
      ⊢ iprop(((owesE c O ∗ at' c k (jj b) (b / 4) ∗ X) -∗ wpc c R Q)
        -∗ wpc c (dite P (fun h => .op (.waitDma2 (sm h) (src h) (dst h) (h1 h) (h2 h)) (fun _ => R)) (fun _ => R)) Q) := by
  by_cases hb4 : b < 4
  · rw [if_pos hb4, dif_neg (by rw [hP]; omega), show b / 4 = 0 by omega]
    iintro ⟨-, Ho, HX, Ha⟩ Hk
    iapply Hk
    isplitl [Ho]; · iexact Ho
    isplitl [Ha]; · iexact Ha
    iexact HX
  · have hp : P := hP.mpr (by omega)
    rw [if_neg hb4, dif_pos hp]
    unfold snt
    have hj : jj (b - 4) = jj b := by rw [← jj_add (b - 4), Nat.sub_add_cancel (by omega)]
    have hr : (b - 4) / 4 = b / 4 - 1 := by omega
    have hr' : (b - 4) / 4 + 1 = b / 4 := by omega
    have key := wp_dwait (Q := Q) I (κ := κ) (ιs := ιs) c k (b - 4) (by omega) (s := s) (i := 0) (Or.inl hO) (by omega) (by omega) (sm := sm hp)
      (by rw [hj]; exact hsm hp) (src := src hp) (dst := dst hp) (hN hp) (h1 := h1 hp) (h2 := h2 hp) (kk := fun _ => R)
    rw [hj, hr', hr] at key
    iintro ⟨#Hctx, Ho, Ha, Hc⟩ Hk
    iapply key $$ [Hc Ho Ha]
    · isplitr; · iexact Hctx
      isplitl [Hc]; · iexact Hc
      isplitl [Ho]; · iexact Ho
      iexact Ha
    iintro ⟨Ho, Ha, Hp⟩
    iapply Hk
    isplitl [Ho]; · iexact Ho
    isplitl [Ha]; · iexact Ha
    iapply (hX (by omega)); iexact Hp

/-- A wait for one more unit of a signal cell, from the cell's full state. -/
theorem wp_crd {α : Type} {Q : α → sProp 𝕄} (c : Dev nD) (q : Fin 6) (m : ℕ) (hm : m + 1 < units q.val) {s : ℕ} {O : CellTallies nD τ sig ℕ}
    (hO : Above s O) (hi : cix q.val m ≤ s + 1) (hi' : cix q.val m < 25) {sm : Sem sig} (hsm : sm = q)
    {kk : PUnit → Prog (TpuEff nD τ sig (Elt F) Λ₀ .tc) α} :
    iprop(ctx I κ ιs ∗ owesE c O ∗ crd c q m)
      ⊢ iprop(((∃ d, ⌜m ≤ d⌝ ∗ owesE c O ∗ crd c q (m + 1) ∗ rpay (F := F) c q.val d) -∗ wpc c (kk ⟨⟩) Q)
        -∗ wpc c (.op (.semWait sm 1) kk) Q) := by
  unfold crd
  iintro ⟨#Hctx, Ho, Hpos, Hcr⟩ Hk
  ihave Hcr := (bs_head (Φ := fun k => cred (tallyAt (rcell c q) (cix q.val k) 1)) (show m < units q.val by omega)) $$ Hcr
  icases Hcr with ⟨Hc, Hcr⟩
  iapply (wp_cwait I (κ := κ) (ιs := ιs) c q m hm hO hi hi' hsm) $$ [Hc Ho Hpos]
  · isplitr; · iexact Hctx
    isplitl [Hc]; · iexact Hc
    isplitl [Ho]; · iexact Ho
    iexact Hpos
  iintro ⟨%d, %hd, Ho, Hpos, Hp⟩
  iapply Hk
  iexists d
  isplitr; · ipureintro; exact hd
  isplitl [Ho]; · iexact Ho
  isplitr [Hp]
  · isplitl [Hpos] <;> iassumption
  iexact Hp

/-- The wait for a block's turn at the neighbour's landing slot in `y`. -/
theorem wp_turnY {α : Type} {Q : α → sProp 𝕄} (c : Dev nD) (b : ℕ) (hb : b < 16) {O : CellTallies nD τ sig ℕ} (hO : Above b O)
    {P : Prop} {dP : Decidable P} (hP : P ↔ 4 ≤ b) {sm : Sem sig} (hsm : sm = (0 : Fin 6)) {R : Prog (TpuEff nD τ sig (Elt F) Λ₀ .tc) α} :
    iprop(ctx I κ ιs ∗ greets c ∗ owesE c O ∗ crd c 0 (b - 4))
      ⊢ iprop(((owesE c O ∗ crd c 0 (b + 1 - 4) ∗ Rel (F := F) (yp c) 0 b) -∗ wpc c R Q)
        -∗ wpc c (dite P (fun _ => .op (.semWait sm 1) (fun _ => R)) (fun _ => R)) Q) := by
  by_cases hb4 : b < 4
  · rw [dif_neg (by rw [hP]; omega), show b - 4 = 0 by omega, show b + 1 - 4 = 0 by omega]
    iintro ⟨-, #Hg, Ho, Hc⟩ Hk
    iapply Hk
    isplitl [Ho]; · iexact Ho
    isplitl [Hc]; · iexact Hc
    iapply (greet_rel (yp c) 0 hb4); iapply (greets_y c); iexact Hg
  · rw [dif_pos (hP.mpr (by omega)), show b + 1 - 4 = b - 4 + 1 by omega]
    have hu : units ((0 : Fin 6) : ℕ) = 16 := rfl
    have hx : cix ((0 : Fin 6) : ℕ) (b - 4) = b - 4 + 3 := rfl
    iintro ⟨#Hctx, -, Ho, Hc⟩ Hk
    iapply (wp_crd I (κ := κ) (ιs := ιs) c 0 (b - 4) (by rw [hu]; omega) hO (by rw [hx]; omega) (by rw [hx]; omega) hsm) $$ [Ho Hc]
    · isplitr; · iexact Hctx
      isplitl [Ho] <;> iassumption
    iintro ⟨%d, %hd, Ho, Hc, Hp⟩
    iapply Hk
    isplitl [Ho]; · iexact Ho
    isplitl [Hc]; · iexact Hc
    have hp : rpay (F := F) c ((0 : Fin 6) : ℕ) d ⊢ Rel (yp c) 0 b := Rels_get (yp c) 0 (show b < d + 5 by omega)
    iapply hp; iexact Hp

theorem cnt_even {b : ℕ} (h : b < 16) (h4 : 4 ≤ b) (he : b % 2 = 0) : cnt 0 (b + 1) = cnt 0 b + 1 ∧ cnt 1 (b + 1) = cnt 1 b ∧ cnt 0 b = b / 2 - 2 := by
  unfold cnt; omega
theorem cnt_odd {b : ℕ} (h : b < 16) (h4 : 4 ≤ b) (he : b % 2 = 1) : cnt 0 (b + 1) = cnt 0 b ∧ cnt 1 (b + 1) = cnt 1 b + 1 ∧ cnt 1 b = b / 2 - 2 := by
  unfold cnt; omega
theorem cnt_small {b : ℕ} (p : ℕ) (h : b ≤ 4) : cnt p b = 0 := by
  unfold cnt; omega

/-- The waits for a block's turn at a partner's landing slot, at the cells of its parity. -/
theorem wp_turn {α : Type} {Q : α → sProp 𝕄} (c p : Dev nD) (k : Fin 3) (qe qo : Fin 6) (b : ℕ) (hb : b < 16)
    (hk : (k = 1 ∧ qe = 1 ∧ qo = 2 ∧ p = fstp c b) ∨ (k = 2 ∧ qe = 3 ∧ qo = 4 ∧ p = sndp c b))
    {s : ℕ} (hs : b + 1 ≤ s + 1) {O : CellTallies nD τ sig ℕ} (hO : Above s O)
    {P P' : Prop} {dP : Decidable P} {dP' : Decidable P'} (hP : P ↔ 4 ≤ b ∧ b % 2 = 0) (hP' : P' ↔ 4 ≤ b ∧ b % 2 = 1)
    {sm sm' : Sem sig} (hsm : sm = qe) (hsm' : sm' = qo) {R : Prog (TpuEff nD τ sig (Elt F) Λ₀ .tc) α} :
    iprop(ctx I κ ιs ∗ greet (F := F) p ∗ owesE c O ∗ crd c qe (cnt 0 b) ∗ crd c qo (cnt 1 b))
      ⊢ iprop(((owesE c O ∗ crd c qe (cnt 0 (b + 1)) ∗ crd c qo (cnt 1 (b + 1)) ∗ Rel (F := F) p k b) -∗ wpc c R Q)
        -∗ wpc c (dite P (fun _ => .op (.semWait sm 1) (fun _ => dite P' (fun _ => .op (.semWait sm' 1) (fun _ => R)) (fun _ => R)))
          (fun _ => dite P' (fun _ => .op (.semWait sm' 1) (fun _ => R)) (fun _ => R))) Q) := by
  by_cases hb4 : b < 4
  · rw [dif_neg (by rw [hP]; omega), dif_neg (by rw [hP']; omega), cnt_small 0 (by omega), cnt_small 1 (by omega), cnt_small 0 (by omega), cnt_small 1 (by omega)]
    iintro ⟨-, #Hg, Ho, Hc, Hc'⟩ Hk
    iapply Hk
    isplitl [Ho]; · iexact Ho
    isplitl [Hc]; · iexact Hc
    isplitl [Hc']; · iexact Hc'
    iapply (greet_rel p k hb4); iexact Hg
  rcases Nat.mod_two_eq_zero_or_one b with he | he
  · obtain ⟨e1, e2, e3⟩ := cnt_even hb (by omega) he
    rw [dif_pos (hP.mpr ⟨by omega, he⟩), dif_neg (by rw [hP']; omega), e1, e2]
    have hu : units qe.val = 8 := by rcases hk with ⟨-, rfl, -⟩ | ⟨-, rfl, -⟩ <;> rfl
    have hx : cix qe.val (cnt 0 b) = 2 * cnt 0 b + 5 := by rcases hk with ⟨-, rfl, -⟩ | ⟨-, rfl, -⟩ <;> rfl
    have hp (d : ℕ) (hd : cnt 0 b ≤ d) : rpay (F := F) c qe.val d ⊢ Rel p k b := by
      have hd' : b < 2 * d + 0 + 5 := by omega
      rcases hk with ⟨rfl, rfl, -, rfl⟩ | ⟨rfl, rfl, -, rfl⟩
      · rw [← fstp_mod, he]; exact Rels_get _ 1 hd'
      · rw [← sndp_mod, he]; exact Rels_get _ 2 hd'
    iintro ⟨#Hctx, -, Ho, Hc, Hc'⟩ Hk
    iapply (wp_crd I (κ := κ) (ιs := ιs) c qe (cnt 0 b) (by rw [hu]; omega) hO (by rw [hx]; omega) (by rw [hx]; omega) hsm) $$ [Ho Hc]
    · isplitr; · iexact Hctx
      isplitl [Ho] <;> iassumption
    iintro ⟨%d, %hd, Ho, Hc, Hp⟩
    iapply Hk
    isplitl [Ho]; · iexact Ho
    isplitl [Hc]; · iexact Hc
    isplitl [Hc']; · iexact Hc'
    iapply (hp d hd); iexact Hp
  · obtain ⟨e1, e2, e3⟩ := cnt_odd hb (by omega) he
    rw [dif_neg (by rw [hP]; omega), dif_pos (hP'.mpr ⟨by omega, he⟩), e1, e2]
    have hu : units qo.val = 8 := by rcases hk with ⟨-, -, rfl, -⟩ | ⟨-, -, rfl, -⟩ <;> rfl
    have hx : cix qo.val (cnt 1 b) = 2 * cnt 1 b + 6 := by rcases hk with ⟨-, -, rfl, -⟩ | ⟨-, -, rfl, -⟩ <;> rfl
    have hp (d : ℕ) (hd : cnt 1 b ≤ d) : rpay (F := F) c qo.val d ⊢ Rel p k b := by
      have hd' : b < 2 * d + 1 + 5 := by omega
      rcases hk with ⟨rfl, -, rfl, rfl⟩ | ⟨rfl, -, rfl, rfl⟩
      · rw [← fstp_mod, he]; exact Rels_get _ 1 hd'
      · rw [← sndp_mod, he]; exact Rels_get _ 2 hd'
    iintro ⟨#Hctx, -, Ho, Hc, Hc'⟩ Hk
    iapply (wp_crd I (κ := κ) (ιs := ιs) c qo (cnt 1 b) (by rw [hu]; omega) hO (by rw [hx]; omega) (by rw [hx]; omega) hsm') $$ [Ho Hc']
    · isplitr; · iexact Hctx
      isplitl [Ho] <;> iassumption
    iintro ⟨%d, %hd, Ho, Hc', Hp⟩
    iapply Hk
    isplitl [Ho]; · iexact Ho
    isplitl [Hc]; · iexact Hc
    isplitl [Hc']; · iexact Hc'
    iapply (hp d hd); iexact Hp

end Cert.Proof
-- ==== Proof.Stage0.lean ====
module

public import proofs.«01_k».proof.Proof.Turns

/-! The first stage of a step: the partial product, and its other half sent to the neighbour. -/

@[expose] public section

noncomputable section

namespace Cert.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (I : Inp F)
variable {κ : Dev nD × CK → ℕ} {ιs : Key → ℕ}

theorem w4_iff (i : grid0.Coords) : Scalar.cmpi .ne (Scalar.extui (Scalar.cmpi .sge (wi i) 4#32)) 0#32 = 1#1 ↔ 4 ≤ (i 0).val := by
  revert i; decide +kernel

theorem halves_join (c : Dev nD) (j : Fin 4) : iprop(some' (F := F) c (hf j (yb c)) fullShare ∗ some' c (hf j (nyb c)) fullShare) ⊢ iprop(∃ f, slotAll c j f) := by
  have hy : (yb c = 0 ∧ nyb c = 1) ∨ (yb c = 1 ∧ nyb c = 0) := by revert c; decide
  rcases hy with ⟨h, h'⟩ | ⟨h, h'⟩ <;> rw [h, h'] <;> iintro ⟨H, H'⟩ <;> iapply (slotAll_join c j)
  · isplitl [H] <;> iassumption
  · isplitl [H'] <;> iassumption

theorem halves_split (c : Dev nD) (j : Fin 4) (X : Fin 2 → V256 F) : iprop(own c (hf j 0) fullShare (X 0) ∗ own c (hf j 1) fullShare (X 1))
    ⊢ iprop(own c (hf j (yb c)) fullShare (X (yb c)) ∗ own c (hf j (nyb c)) fullShare (X (nyb c))) := by
  have hy : (yb c = 0 ∧ nyb c = 1) ∨ (yb c = 1 ∧ nyb c = 0) := by revert c; decide
  rcases hy with ⟨h, h'⟩ | ⟨h, h'⟩ <;> rw [h, h']
  iintro ⟨H, H'⟩
  isplitl [H'] <;> iassumption

/-- The first stage: the partial product is formed and its other half sent. -/
theorem stage0_core {α : Type} {Q : α → sProp 𝕄} (c : Dev nD) (i : grid0.Coords) (b : ℕ) (hb : b < 16) (hi : (i 0).val = b)
    {arg1 : Memref sig .tc .vmem S512x4096 .bf16} {harg1 : arg1.IsWhole} {arg2 : Memref sig .tc .vmem S4096x512 .f32} {harg2 : arg2.IsWhole}
    {arg3 : Memref sig .tc .vmem S1024x512 .f32} {harg3 : arg3.IsWhole} {R : Prog (TpuEff nD τ sig (Elt F) Λ₀ .tc) α}
    {O : CellTallies nD τ sig ℕ} (hO : Above b O) {q1 q2 : PosShare TreeShare} :
    iprop(ctx I κ ιs ∗ greets c ∗ own c arg1 q1 (I.A c) ∗ own c arg2 q2 (I.B c b) ∗ owesE c (O + due0 c b) ∗ St4 c b ∗ tok0 c b ∗ crd c 0 (b - 4))
      ⊢ iprop(((own c arg1 q1 (I.A c) ∗ own c arg2 q2 (I.B c b) ∗ owesE c O ∗ St1 I c b ∗ crd c 0 (b + 1 - 4)) -∗ wpc c R Q)
        -∗ wpc c (stage0 i c arg1 harg1 arg2 harg2 arg3 harg3 (wi i) (wx c) (wy c) (wz c) (wq c) (wn c) R) Q) := by
  have h2 : k0_cond2 i = 1#1 := (cond2_iff i).mpr (by omega)
  unfold stage0
  rw [dif_pos h2]
  simp only [semSignalWord, semWaitWord, Prog.lift, Prog.bind_op, Prog.bind_ret, Prog.pure_eq_ret, dite_bind, one_toInt]
  unfold St4 tok0
  have hOA : Above b (O + tallyAt (dcell (yp c) 1 (jj b)) (b + 2) NN) := hO.add (Above.tally _ _ _ (by omega) (by omega))
  have hX : 4 ≤ b → dpay I c ((0 : Fin 8) : ℕ) (b - 4) ⊢ some' c (hf (jj b) (nyb c)) fullShare := by
    intro h
    show some' c (hf (jj (b - 4)) (nyb c)) fullShare ⊢ _
    rw [show jj (b - 4) = jj b by rw [← jj_add (b - 4), Nat.sub_add_cancel h]]
  have o1 : k0_off1 i = ![b % 4] := by rw [k0_off1_eq, hi]
  have o5 : k0_off5 i = ![b % 4] := by rw [k0_off5_eq, hi]
  have o4 : k0_off4 i = ![(jj b).val, 0, 0] := by rw [k0_off4_eq, hi]; rfl
  have o6 : k0_off6 i = ![(jj b).val, 0, 0] := by rw [k0_off6_eq, hi]; rfl
  have o7 : k0_off7 i c = ![(jj b).val, 256 * (nyb c).val, 0] := by rw [off7_eq', hi]; rfl
  unfold due0
  iintro ⟨#Hctx, #Hg, Ha1, Ha2, Ho, ⟨Hh, HfY, Hs, HfQ, H1, H3, H4, Hrd0, Hrd1, Hrd2⟩, ⟨Hd0, Hd1, Hw⟩, Hc0⟩ Hk
  -- the other half's slot is free again
  iapply (wp_dif I (κ := κ) (ιs := ιs) c 0 b hb hOA
    (show k0_cond3 i = 1#1 ↔ 4 ≤ b by rw [cond3_iff i, hi]) (some' c (hf (jj b) (nyb c)) fullShare) hX
    (fun h => sem_slice _ _ _ _ _ (Nat.mod_lt _ (by decide)) o1) (fun _ => credit_any _)) $$ [HfY Ho]
  · isplitr; · iexact Hctx
    isplitl [Ho]; · iexact Ho
    iapply (freeY_open c b); iexact HfY
  iintro ⟨Ho, H0, Hn⟩
  ihave H0 := (at'_reached _ _ _ _) $$ H0
  icases H0 with ⟨H0, #Hr0⟩
  -- the partial product
  iapply (wp_loadW c (by funext a; fin_cases a <;> rfl)) $$ Ha1
  iintro Ha1
  iapply (wp_loadW c (by funext a; fin_cases a <;> rfl)) $$ Ha2
  iintro Ha2
  ihave Hf := (halves_join c (jj b)) $$ [Hh Hn]
  · isplitl [Hh] <;> iassumption
  icases Hf with ⟨%f, Hf⟩
  iapply (wp_loadFull c o4) $$ Hf
  iintro %X Hf
  iapply (wp_storeFull c o4) $$ Hf
  iintro Hf
  simp only [shapeCast_self]
  ihave Hf := (Entails.of_eq (show _ = iprop(own c (hf (jj b) 0) fullShare (ph I c 0 b) ∗ own c (hf (jj b) 1) fullShare (ph I c 1 b)) by
    rw [← half_of_cast I c 0 b, ← half_of_cast I c 1 b]; rfl)) $$ Hf
  ihave Hf := (halves_split c (jj b) (fun h => ph I c h b)) $$ Hf
  icases Hf with ⟨Hh, Hn⟩
  -- the block's turn at the neighbour's slot
  iapply (wp_turnY I (κ := κ) (ιs := ιs) c b hb hOA ((w4_iff i).trans (by rw [hi])) rfl) $$ [Ho Hc0]
  · isplitr; · iexact Hctx
    isplitr; · iexact Hg
    isplitl [Ho] <;> iassumption
  iintro ⟨Ho, Hc0, #Hrl⟩
  imod (rel_take I (κ := κ) (ιs := ιs) (yp c) 0 b) $$ [Hw] with Hdst
  · isplitr; · iexact Hctx
    isplitr; · iexact Hrl
    iexact Hw
  ihave Hdst := (Entails.of_eq (slotOf_0 (F := F) (yp c) (jj b))) $$ Hdst
  iapply (wp_snd I (κ := κ) (ιs := ιs) c (yp c) _ (dev4_yp c _) 0 1 b hb (b + 2) O
    (sem_slice _ _ _ _ _ (Nat.mod_lt _ (by decide)) o5) (sem_slice _ _ _ _ _ (Nat.mod_lt _ (by decide)) o5)
    (dst₀ := sl yM (jj b)) (sq_eq yM o6) (credit_any _) (src₀ := hf (jj b) (nyb c)) (sq_eq pM o7)
    (q := fullShare) (X := ph I c (nyb c) b) (some'_intro _ _ _ _)
    (Entails.of_eq (show own (yp c) (sl yM (jj b)) fullShare (ph I c (nyb c) b) = own (yp c) (sl yM (jj b)) fullShare (ph I (yp (yp c)) (yb (yp c)) b) by rw [yp_yp, yb_yp]))) $$ [Hdst Hn Ho Hd0 Hd1]
  · isplitr; · iexact Hctx
    isplitl [Hn]; · iexact Hn
    isplitl [Hdst]; · iexact Hdst
    isplitl [Ho]; · iexact Ho
    isplitl [Hd0]; · iexact Hd0
    isplitr; · iexact Hr0
    isplitl [Hd1]; · iexact Hd1
    unfold Rel
    icases Hrl with ⟨-, #Hx, -⟩
    iexact Hx
  iintro ⟨Hsnt, Ho⟩
  iapply Hk
  isplitl [Ha1]; · iexact Ha1
  isplitl [Ha2]; · iexact Ha2
  isplitl [Ho]; · iexact Ho
  isplitr [Hc0]
  · unfold St1
    rw [freeY_add]
    isplitl [Hh]; · iexact Hh
    isplitl [H0 Hsnt]
    · isplitl [H0]; · iexact H0
      iapply (snt_intro c 0 (jj b)); iexact Hsnt
    isplitl [Hs]; · iexact Hs
    isplitl [HfQ]; · iexact HfQ
    isplitl [H1]; · iexact H1
    isplitl [H3]; · iexact H3
    isplitl [H4]; · iexact H4
    isplitl [Hrd0]; · iexact Hrd0
    isplitl [Hrd1]; · iexact Hrd1
    iexact Hrd2
  iexact Hc0

end Cert.Proof
-- ==== Proof.Stage1.lean ====
module

public import proofs.«01_k».proof.Proof.Turns

/-! The second stage of a step: forming the sum and sending it to the first partner. -/

@[expose] public section

noncomputable section

namespace Cert.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (I : Inp F)
variable {κ : Dev nD × CK → ℕ} {ιs : Key → ℕ}

/-- The two slices of a sum add up to the sum held. -/
theorem pay1_eq (f g : V256 F) : shapeCast S256x512 (k0_pay1 (shapeCast S1x256x512 f shapeCasts_S256x512_S1x256x512) (shapeCast S1x256x512 g shapeCasts_S256x512_S1x256x512)) shapeCasts_S1x256x512_S256x512 = addf (F := F) (φ := .f32) f g := by
  unfold k0_pay1; simp only [shapeCast_shapeCast, shapeCast_self]

/-- The turn's conditions, in numbers. -/
theorem w7_iff (i : grid0.Coords) : Scalar.cmpi .ne (Scalar.extui (Scalar.andi (Scalar.cmpi .sge (Scalar.subi (wi i) 1#32) 4#32) (Scalar.cmpi .eq (Scalar.remsi (Scalar.subi (wi i) 1#32) 2#32) 0#32))) 0#32 = 1#1
    ↔ 4 ≤ (i 0).val - 1 ∧ ((i 0).val - 1) % 2 = 0 := by
  revert i; decide +kernel

theorem w8_iff (i : grid0.Coords) : Scalar.cmpi .ne (Scalar.extui (Scalar.andi (Scalar.cmpi .sge (Scalar.subi (wi i) 1#32) 4#32) (Scalar.cmpi .eq (Scalar.remsi (Scalar.subi (wi i) 1#32) 2#32) 1#32))) 0#32 = 1#1
    ↔ 4 ≤ (i 0).val - 1 ∧ ((i 0).val - 1) % 2 = 1 := by
  revert i; decide +kernel

/-- What is owed from a block's second stage, the signal first. -/
theorem due1_eq (c : Dev nD) (b : ℕ) (O : CellTallies nD τ sig ℕ) :
    O + due1 c b = (O + tallyAt (dcell (fstp c b) 3 (jj b)) (b + 3) NN) + tallyAt (rcell (yp c) 0) (b + 3) 1 := by
  unfold due1; rw [add_comm (tallyAt (rcell (yp c) 0) (b + 3) 1), add_assoc]

/-- The second stage: the neighbour's half arrives, the sum is formed, the slot is given back, the sum is sent. -/
theorem stage1_core {α : Type} {Q : α → sProp 𝕄} (c : Dev nD) (i : grid0.Coords) (b : ℕ) (hb : b < 16) (hi : (i 0).val = b + 1)
    {arg1 : Memref sig .tc .vmem S512x4096 .bf16} {harg1 : arg1.IsWhole} {arg2 : Memref sig .tc .vmem S4096x512 .f32} {harg2 : arg2.IsWhole}
    {arg3 : Memref sig .tc .vmem S1024x512 .f32} {harg3 : arg3.IsWhole} {R : Prog (TpuEff nD τ sig (Elt F) Λ₀ .tc) α}
    {O : CellTallies nD τ sig ℕ} (hO : Above (b + 1) O) :
    iprop(ctx I κ ιs ∗ greets c ∗ Rels (F := F) c 0 (b + 4) ∗ owesE c (O + due1 c b) ∗ St1 I c b ∗ tok1 c b ∗ crd c 1 (cnt 0 b) ∗ crd c 2 (cnt 1 b))
      ⊢ iprop(((Rels (F := F) c 0 (b + 5) ∗ owesE c O ∗ St2 I c b ∗ crd c 1 (cnt 0 (b + 1)) ∗ crd c 2 (cnt 1 (b + 1))) -∗ wpc c R Q)
        -∗ wpc c (stage1 i c arg1 harg1 arg2 harg2 arg3 harg3 (wi i) (wx c) (wy c) (wz c) (wq c) (wn c) R) Q) := by
  have h5 : k0_cond5 i = 1#1 := (cond5_iff i).mpr (by omega)
  have hb' : (i 0).val - 1 = b := by omega
  unfold stage1
  rw [dif_pos h5]
  unfold k0_part1 k0_part2
  simp only [semSignalWord, semWaitWord, Prog.lift, Prog.bind_op, Prog.bind_ret, Prog.pure_eq_ret, dite_bind, one_toInt]
  unfold St1 tok1
  have hj : jj ((i 0).val - 1) = jj b := by rw [hb']
  have hOd : Above (b + 1) (O + tallyAt (dcell (fstp c b) 3 (jj b)) (b + 3) NN) := hO.add (Above.tally _ _ _ (by omega) (by omega))
  have hOA := hOd.add (O' := tallyAt (rcell (yp c) 0) (b + 3) 1) (Above.tally _ _ _ (by omega) (by omega))
  have hX : 4 ≤ b → dpay I c ((2 : Fin 8) : ℕ) (b - 4) ⊢ some' c (sl qM (jj b)) shL := by
    intro h
    show some' c (sl qM (jj (b - 4))) shL ⊢ _
    rw [show jj (b - 4) = jj b by rw [← jj_add (b - 4), Nat.sub_add_cancel h]]
  have o9 : k0_off9 i = ![(jj b).val, 0, 0] := by rw [off9_eq' i h5, hb']; rfl
  have o13 : k0_off13 i c = ![(jj b).val, 256 * (yb c).val, 0] := by rw [off13_eq' i c h5, hb']; rfl
  have o14 : k0_off14 i = ![(jj b).val, 0, 0] := by rw [off14_eq' i h5, hb']; rfl
  rw [due1_eq]
  iintro ⟨#Hctx, #Hg, #Hr0, Ho, ⟨Hh, HfY, Hs, HfQ, H1, H3, H4, Hrd0, Hrd1, Hrd2⟩, ⟨Hc, Hd0, Hd2, Hd3, Hw⟩, Hc1, Hc2⟩ Hk
  -- the neighbour's half has arrived
  iapply (wp_dwait I (κ := κ) (ιs := ιs) c 1 b hb (s := b + 1) (i := b + 2)
    (Or.inl hOA) (by omega) (by omega) (sem_slice _ _ _ _ _ (Nat.mod_lt _ (by decide)) (by rw [off8_eq' i h5, hb'])) (credit_any _)) $$ [Hc Ho H1]
  · isplitr; · iexact Hctx
    isplitl [Hc]; · iexact Hc
    isplitl [Ho]; · iexact Ho
    iexact H1
  iintro ⟨Ho, H1, Hy⟩
  ihave Hy := (show dpay I c ((1 : Fin 8) : ℕ) b ⊢ own c (sl yM (jj b)) fullShare (ph I (yp c) (yb c) b) from entails_refl _) $$ Hy
  -- the sum's slot is free again
  iapply (wp_dif I (κ := κ) (ιs := ιs) c 2 b hb hOA
    (show k0_cond6 i = 1#1 ↔ 4 ≤ b by rw [cond6_iff i h5]; omega) (some' c (sl qM (jj b)) shL) hX
    (fun h => sem_slice _ _ _ _ _ (Nat.mod_lt _ (by decide)) (by rw [off11_eq' i h5 h, hb'])) (fun _ => credit_any _)) $$ [HfQ Ho]
  · isplitr; · iexact Hctx
    isplitl [Ho]; · iexact Ho
    iapply (freeQ_open c b); iexact HfQ
  iintro ⟨Ho, H2, HsL⟩
  ihave Hs := (some'_open _ _ _) $$ Hs
  icases Hs with ⟨%X, Hs⟩
  ihave Hq := (own_unhalve c (sl qM (jj b)) X) $$ [HsL Hs]
  · isplitl [HsL] <;> iassumption
  -- the sum
  iapply (wp_loadSq c o13 (inb₀ := hf_inb _ _)) $$ Hh
  iintro Hh
  iapply (wp_loadSq c o14 (inb₀ := sl_inb _)) $$ Hy
  iintro Hy
  iapply (wp_loadSq c o14 (inb₀ := sl_inb _)) $$ Hq
  iintro Hq
  iapply (wp_storeSq c o14 (inb₀ := sl_inb _)) $$ Hq
  rw [show shapeCast S256x512 (shapeCast S1x256x512 (addf (F := F) (φ := .f32) (shapeCast S256x512 (shapeCast S1x256x512 (ph I c (yb c) b) shapeCasts_S256x512_S1x256x512) shapeCasts_S1x256x512_S256x512) (shapeCast S256x512 (shapeCast S1x256x512 (ph I (yp c) (yb c) b) shapeCasts_S256x512_S1x256x512) shapeCasts_S1x256x512_S256x512)) shapeCasts_S256x512_S1x256x512) shapeCasts_S1x256x512_S256x512 = qv I c b from pay1_eq _ _]
  iintro Hq
  -- the landing slot is given back
  ihave H1 := (at'_reached _ _ _ _) $$ H1
  icases H1 with ⟨H1, #Hr1⟩
  ihave H2 := (at'_reached _ _ _ _) $$ H2
  icases H2 with ⟨H2, #Hr2⟩
  have hgive := rel_give I (κ := κ) (ιs := ιs) c 0 (b + 4)
  rw [jj_add, show (b + 4) / 4 = b / 4 + 1 by omega] at hgive
  imod hgive $$ [Hrd0 Hy] with ⟨Hrd0, #Hrel⟩
  · isplitr; · iexact Hctx
    isplitl [Hrd0]; · iexact Hrd0
    isplitl [Hy]; · iapply (Entails.of_eq (slotOf_0 c (jj b)).symm); iapply (some'_intro _ _ _ _); iexact Hy
    isplitr
    · iexact Hr1
    · iexact Hr1
  ihave #Hrs := (Rels_succ c 0 (b + 4)) $$ [Hr0 Hrel]
  · isplitl
    · iexact Hr0
    · iexact Hrel
  iapply (wp_sig I (κ := κ) (ιs := ιs) c (yp c) _ (dev5_yp c _) 0 b (show b < units 0 from hb) (b + 3) _ rfl) $$ [Ho Hd0]
  · isplitr; · iexact Hctx
    isplitl [Ho]; · iexact Ho
    isplitl [Hd0]; · iexact Hd0
    isplitr
    · iapply (Entails.of_eq (show Rels (F := F) c 0 (b + 5) = rpay (yp c) 0 b by show _ = Rels (yp (yp c)) 0 (b + 5); rw [yp_yp]))
      iexact Hrs
    · iapply (greet_open (yp c) 0 (by decide)); iapply (greets_y c); iexact Hg
  iintro Ho
  -- the block's turn at the first partner's slot
  iapply (wp_turn I (κ := κ) (ιs := ιs) c (fstp c b) 1 1 2 b hb (Or.inl ⟨rfl, rfl, rfl, rfl⟩) (s := b + 1) (by omega) hOd
    ((w7_iff i).trans (by rw [hb'])) ((w8_iff i).trans (by rw [hb'])) rfl rfl) $$ [Ho Hc1 Hc2]
  · isplitr; · iexact Hctx
    isplitr; · iapply (greets_fst c b); iexact Hg
    isplitl [Ho]; · iexact Ho
    isplitl [Hc1] <;> iassumption
  iintro ⟨Ho, Hc1, Hc2, #Hrl⟩
  imod (rel_take I (κ := κ) (ιs := ιs) (fstp c b) 1 b) $$ [Hw] with Hdst
  · isplitr; · iexact Hctx
    isplitr; · iexact Hrl
    iexact Hw
  ihave Hdst := (Entails.of_eq (slotOf_1 (F := F) (fstp c b) (jj b))) $$ Hdst
  ihave Hq := (own_halve c (sl qM (jj b)) (qv I c b)) $$ Hq
  icases Hq with ⟨HqL, HqR⟩
  iapply (wp_snd I (κ := κ) (ιs := ιs) c (fstp c b) _ ((dev6_fst i c h5 _).trans (by rw [hb'])) 2 3 b hb (b + 3) O
    (sem_slice _ _ _ _ _ (Nat.mod_lt _ (by decide)) (by rw [off8_eq' i h5, hb'])) (sem_slice _ _ _ _ _ (Nat.mod_lt _ (by decide)) (by rw [off8_eq' i h5, hb']))
    (dst₀ := sl rM (jj b)) (sq_eq rM o9) (credit_any _) (src₀ := sl qM (jj b)) (sq_eq qM o9)
    (q := shL) (X := qv I c b) (some'_intro _ _ _ _)
    (Entails.of_eq (show own (fstp c b) (sl rM (jj b)) fullShare (qv I c b) = own (fstp c b) (sl rM (jj b)) fullShare (q1 I (fstp c b) b) by unfold q1; rw [fstp_fstp]))) $$ [Hdst HqL Ho Hd2 Hd3]
  · isplitr; · iexact Hctx
    isplitl [HqL]; · iexact HqL
    isplitl [Hdst]; · iexact Hdst
    isplitl [Ho]; · iexact Ho
    isplitl [Hd2]; · iexact Hd2
    isplitr; · iexact Hr2
    isplitl [Hd3]; · iexact Hd3
    unfold Rel
    icases Hrl with ⟨-, #Hx, -⟩
    iexact Hx
  iintro ⟨Hsnt, Ho⟩
  iapply Hk
  isplitr; · iexact Hrs
  isplitl [Ho]; · iexact Ho
  isplitr [Hc1 Hc2]
  · unfold St2
    rw [freeQ_add]
    isplitl [Hh]; · iapply (some'_intro _ _ _ _); iexact Hh
    isplitl [HfY]; · iexact HfY
    isplitl [HqR]; · iexact HqR
    isplitl [H2 Hsnt]
    · isplitl [H2]; · iexact H2
      iapply (snt_intro c 2 (jj b)); iexact Hsnt
    isplitl [H1]; · iexact H1
    isplitl [H3]; · iexact H3
    isplitl [H4]; · iexact H4
    isplitl [Hrd0]; · iexact Hrd0
    isplitl [Hrd1]; · iexact Hrd1
    iexact Hrd2
  isplitl [Hc1]; · iexact Hc1
  iexact Hc2

end Cert.Proof
-- ==== Proof.Stage2.lean ====
module

public import proofs.«01_k».proof.Proof.Turns

/-! The third stage of a step: the two sums sent to the second partner. -/

@[expose] public section

noncomputable section

namespace Cert.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (I : Inp F)
variable {κ : Dev nD × CK → ℕ} {ιs : Key → ℕ}

theorem w10_iff (i : grid0.Coords) : Scalar.cmpi .ne (Scalar.extui (Scalar.andi (Scalar.cmpi .sge (Scalar.subi (wi i) 2#32) 4#32) (Scalar.cmpi .eq (Scalar.remsi (Scalar.subi (wi i) 2#32) 2#32) 0#32))) 0#32 = 1#1
    ↔ 4 ≤ (i 0).val - 2 ∧ ((i 0).val - 2) % 2 = 0 := by
  revert i; decide +kernel
theorem w11_iff (i : grid0.Coords) : Scalar.cmpi .ne (Scalar.extui (Scalar.andi (Scalar.cmpi .sge (Scalar.subi (wi i) 2#32) 4#32) (Scalar.cmpi .eq (Scalar.remsi (Scalar.subi (wi i) 2#32) 2#32) 1#32))) 0#32 = 1#1
    ↔ 4 ≤ (i 0).val - 2 ∧ ((i 0).val - 2) % 2 = 1 := by
  revert i; decide +kernel

theorem due2_eq (c : Dev nD) (b : ℕ) (O : CellTallies nD τ sig ℕ) :
    O + due2 c b = (O + tallyAt (dcell (sndp c b) 7 (jj b)) (b + 4) NN) + tallyAt (dcell (sndp c b) 5 (jj b)) (b + 4) NN := by
  unfold due2; rw [add_comm (tallyAt (dcell (sndp c b) 5 (jj b)) (b + 4) NN), add_assoc]

/-- The third stage: the first partner's sum arrives; it and the own sum go to the second partner. -/
theorem stage2_core {α : Type} {Q : α → sProp 𝕄} (c : Dev nD) (i : grid0.Coords) (b : ℕ) (hb : b < 16) (hi : (i 0).val = b + 2)
    {arg1 : Memref sig .tc .vmem S512x4096 .bf16} {harg1 : arg1.IsWhole} {arg2 : Memref sig .tc .vmem S4096x512 .f32} {harg2 : arg2.IsWhole}
    {arg3 : Memref sig .tc .vmem S1024x512 .f32} {harg3 : arg3.IsWhole} {R : Prog (TpuEff nD τ sig (Elt F) Λ₀ .tc) α}
    {O : CellTallies nD τ sig ℕ} (hO : Above (b + 2) O) :
    iprop(ctx I κ ιs ∗ greets c ∗ owesE c (O + due2 c b) ∗ St2 I c b ∗ tok2 c b ∗ crd c 3 (cnt 0 b) ∗ crd c 4 (cnt 1 b))
      ⊢ iprop(((owesE c O ∗ St3 c b ∗ crd c 3 (cnt 0 (b + 1)) ∗ crd c 4 (cnt 1 (b + 1))) -∗ wpc c R Q)
        -∗ wpc c (stage2 i c arg1 harg1 arg2 harg2 arg3 harg3 (wi i) (wx c) (wy c) (wz c) (wq c) (wn c) R) Q) := by
  have h9 : k0_cond9 i = 1#1 := (cond9_iff i).mpr (by omega)
  have hb' : (i 0).val - 2 = b := by omega
  unfold stage2
  rw [dif_pos h9]
  unfold k0_part3 k0_part4
  simp only [semSignalWord, semWaitWord, Prog.lift, Prog.bind_op, Prog.bind_ret, Prog.pure_eq_ret, dite_bind, one_toInt]
  unfold St2 tok2
  have o15 : k0_off15 i = ![b % 4] := by rw [off15_eq' i h9, hb']
  have o16 : k0_off16 i = ![(jj b).val, 0, 0] := by rw [off16_eq' i h9, hb']; rfl
  have hO7 : Above (b + 2) (O + tallyAt (dcell (sndp c b) 7 (jj b)) (b + 4) NN) := hO.add (Above.tally _ _ _ (by omega) (by omega))
  have hOA := hO7.add (O' := tallyAt (dcell (sndp c b) 5 (jj b)) (b + 4) NN) (Above.tally _ _ _ (by omega) (by omega))
  rw [due2_eq]
  iintro ⟨#Hctx, #Hg, Ho, ⟨Hh, HfY, Hs, HfQ, H1, H3, H4, Hrd0, Hrd1, Hrd2⟩, ⟨Hc, Hd4, Hd5, Hd6, Hd7, Hw⟩, Hc3, Hc4⟩ Hk
  -- the first partner's sum has arrived
  iapply (wp_dwait I (κ := κ) (ιs := ιs) c 3 b hb (s := b + 2) (i := b + 3)
    (Or.inl hOA) (by omega) (by omega) (sem_slice _ _ _ _ _ (Nat.mod_lt _ (by decide)) o15) (credit_any _)) $$ [Hc Ho H3]
  · isplitr; · iexact Hctx
    isplitl [Hc]; · iexact Hc
    isplitl [Ho]; · iexact Ho
    iexact H3
  iintro ⟨Ho, H3, Hq⟩
  ihave Hq := (show dpay I c ((3 : Fin 8) : ℕ) b ⊢ own c (sl rM (jj b)) fullShare (q1 I c b) from entails_refl _) $$ Hq
  -- the block's turn at the second partner's slots
  iapply (wp_turn I (κ := κ) (ιs := ιs) c (sndp c b) 2 3 4 b hb (Or.inr ⟨rfl, rfl, rfl, rfl⟩) (s := b + 2) (by omega) hOA
    ((w10_iff i).trans (by rw [hb'])) ((w11_iff i).trans (by rw [hb'])) rfl rfl) $$ [Ho Hc3 Hc4]
  · isplitr; · iexact Hctx
    isplitr; · iapply (greets_snd c b); iexact Hg
    isplitl [Ho]; · iexact Ho
    isplitl [Hc3] <;> iassumption
  iintro ⟨Ho, Hc3, Hc4, #Hrl⟩
  imod (rel_take I (κ := κ) (ιs := ιs) (sndp c b) 2 b) $$ [Hw] with Hdst
  · isplitr; · iexact Hctx
    isplitr; · iexact Hrl
    iexact Hw
  ihave Hdst := (Entails.of_eq (slotOf_2 (F := F) (sndp c b) (jj b))) $$ Hdst
  icases Hdst with ⟨HdA, HdB⟩
  unfold rest4
  icases H4 with ⟨H4, H5, H6, H7⟩
  ihave H4 := (at'_reached _ _ _ _) $$ H4
  icases H4 with ⟨H4, #Hr4⟩
  ihave H6 := (at'_reached _ _ _ _) $$ H6
  icases H6 with ⟨H6, #Hr6⟩
  unfold Rel
  icases Hrl with ⟨-, #Hra, #Hrb⟩
  iapply (wp_snd I (κ := κ) (ιs := ιs) c (sndp c b) _ ((dev7_snd i c h9 _).trans (by rw [hb'])) 4 5 b hb (b + 4) _
    (sem_slice _ _ _ _ _ (Nat.mod_lt _ (by decide)) o15) (sem_slice _ _ _ _ _ (Nat.mod_lt _ (by decide)) o15)
    (dst₀ := sl aM (jj b)) (sq_eq aM o16) (credit_any _) (src₀ := sl qM (jj b)) (sq_eq qM o16)
    (q := shR) (X := qv I c b) (entails_refl _)
    (Entails.of_eq (show own (sndp c b) (sl aM (jj b)) fullShare (qv I c b) = own (sndp c b) (sl aM (jj b)) fullShare (qa I (sndp c b) b) by unfold qa; rw [sndp_sndp]))) $$ [HdA Hs Ho Hd4 Hd5]
  · isplitr; · iexact Hctx
    isplitl [Hs]; · iexact Hs
    isplitl [HdA]; · iexact HdA
    isplitl [Ho]; · iexact Ho
    isplitl [Hd4]; · iexact Hd4
    isplitr; · iexact Hr4
    isplitl [Hd5]; · iexact Hd5
    iexact Hra
  iintro ⟨Hs4, Ho⟩
  iapply (wp_snd I (κ := κ) (ιs := ιs) c (sndp c b) _ ((dev8_snd i c h9 _).trans (by rw [hb'])) 6 7 b hb (b + 4) _
    (sem_slice _ _ _ _ _ (Nat.mod_lt _ (by decide)) o15) (sem_slice _ _ _ _ _ (Nat.mod_lt _ (by decide)) o15)
    (dst₀ := sl bM (jj b)) (sq_eq bM o16) (credit_any _) (src₀ := sl rM (jj b)) (sq_eq rM o16)
    (q := fullShare) (X := q1 I c b) (entails_refl _)
    (Entails.of_eq (show own (sndp c b) (sl bM (jj b)) fullShare (q1 I c b) = own (sndp c b) (sl bM (jj b)) fullShare (qb I (sndp c b) b) by unfold qb; rw [sndp_sndp]))) $$ [HdB Hq Ho Hd6 Hd7]
  · isplitr; · iexact Hctx
    isplitl [Hq]; · iexact Hq
    isplitl [HdB]; · iexact HdB
    isplitl [Ho]; · iexact Ho
    isplitl [Hd6]; · iexact Hd6
    isplitr; · iexact Hr6
    isplitl [Hd7]; · iexact Hd7
    iexact Hrb
  iintro ⟨Hs6, Ho⟩
  iapply Hk
  isplitl [Ho]; · iexact Ho
  isplitr [Hc3 Hc4]
  · unfold St3 rest4
    isplitl [Hh]; · iexact Hh
    isplitl [HfY]; · iexact HfY
    isplitl [HfQ]; · iexact HfQ
    isplitl [H1]; · iexact H1
    isplitl [H3]; · iexact H3
    isplitl [H4 H5 H6 H7]
    · isplitl [H4]; · iexact H4
      isplitl [H5]; · iexact H5
      isplitl [H6] <;> iassumption
    isplitl [Hs4]; · iapply (snt_intro c 4 (jj b)); iexact Hs4
    isplitl [Hs6]; · iapply (snt_intro c 6 (jj b)); iexact Hs6
    isplitl [Hrd0]; · iexact Hrd0
    isplitl [Hrd1]; · iexact Hrd1
    iexact Hrd2
  isplitl [Hc3]; · iexact Hc3
  iexact Hc4

end Cert.Proof
-- ==== Proof.Stage3.lean ====
module

public import proofs.«01_k».proof.Proof.Turns

/-! The last stage of a step: the four results stored to the output block, and the slots given back. -/

@[expose] public section

noncomputable section

namespace Cert.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (I : Inp F)
variable {κ : Dev nD × CK → ℕ} {ιs : Key → ℕ}

/-! ## The output block -/

/-- The device that computes a quarter of the rows, among those of one `y`. -/
def qdev (c : Dev nD) (q : ℕ) : Dev nD := ⟨(4 * (q / 2) + 2 * (yb c).val + q % 2) % 8, Nat.mod_lt _ (by decide)⟩
/-- A row of the output block, within its quarter. -/
def rowOf (y : S1024x512.Idx) : S256x512.Idx := fun a => match a with
  | ⟨0, _⟩ => ⟨(y 0).val % 256, Nat.mod_lt _ (by decide)⟩
  | ⟨1, _⟩ => y 1
/-- The output block of a step. -/
def outv (c : Dev nD) (b : ℕ) : S1024x512.Idx → Elt F .f32 := fun y => qv I (qdev c ((y 0).val / 256)) b (rowOf y)
/-- A block of the output with one quarter's rows replaced. -/
def updR (X : S1024x512.Idx → Elt F .f32) (q : ℕ) (w : V256 F) : S1024x512.Idx → Elt F .f32 :=
  fun y => if (y 0).val / 256 = q then w (rowOf y) else X y

theorem qdev_qr : ∀ c d : Dev nD, yb d = yb c → qdev c (qr d) = d := by decide
theorem yb_fstp : ∀ (c : Dev nD) (p : Fin 2), yb (fstp c p.val) = yb c := by decide
theorem yb_sndp : ∀ (c : Dev nD) (p : Fin 2), yb (sndp c p.val) = yb c := by decide
theorem yb_fst (c : Dev nD) (b : ℕ) : yb (fstp c b) = yb c := by rw [← fstp_mod]; exact yb_fstp c ⟨b % 2, Nat.mod_lt _ (by decide)⟩
theorem yb_snd (c : Dev nD) (b : ℕ) : yb (sndp c b) = yb c := by rw [← sndp_mod]; exact yb_sndp c ⟨b % 2, Nat.mod_lt _ (by decide)⟩
theorem qr_cover' : ∀ (c : Dev nD) (p : Fin 2) (q : Fin 4), q.val = qr c ∨ q.val = qr (fstp c p.val) ∨ q.val = qr (sndp c p.val) ∨ q.val = qr (fstp (sndp c p.val) p.val) := by
  decide
theorem qr_cover (c : Dev nD) (b : ℕ) {q : ℕ} (hq : q < 4) : q = qr c ∨ q = qr (fstp c b) ∨ q = qr (sndp c b) ∨ q = qr (fstp (sndp c b) b) := by
  have h := qr_cover' c ⟨b % 2, Nat.mod_lt _ (by decide)⟩ ⟨q, hq⟩
  simpa only [fstp_mod, sndp_mod] using h

/-- The four stores make the output block. -/
theorem outv_eq (c : Dev nD) (b : ℕ) (X : S1024x512.Idx → Elt F .f32) :
    updR (updR (updR (updR X (qr c) (qv I c b)) (qr (fstp c b)) (q1 I c b)) (qr (sndp c b)) (qa I c b)) (qr (fstp (sndp c b) b)) (qb I c b) = outv I c b := by
  funext y
  have hy : (y 0).val / 256 < 4 := by have := (y 0).isLt; have e : S1024x512.size 0 = 1024 := rfl; omega
  have hc := qr_cover c b hy
  unfold updR outv
  split
  · next h => rw [h, qdev_qr c _ (by rw [yb_fst, yb_snd])]; rfl
  split
  · next h => rw [h, qdev_qr c _ (yb_snd c b)]; rfl
  split
  · next h => rw [h, qdev_qr c _ (yb_fst c b)]; rfl
  split
  · next h => rw [h, qdev_qr c _ rfl]
  · next h1 h2 h3 h4 => rcases hc with h | h | h | h <;> contradiction

/-- A load of a quarter's rows continues at some contents. -/
theorem wp_loadRows {α : Type} {Q : α → sProp 𝕄} (c : Dev nD) {m : Memref sig .tc .vmem S1024x512 .f32} {off : Fin 2 → ℕ}
    {inb : ∀ a, off a + S256x512.size a ≤ S1024x512.size a} {hl : m.view.LoadsAt (Rect.unit (s := S1024x512) off S256x512.size inb).toLoadRect}
    {k : (S256x512.Idx → Elt F .f32) → Prog (TpuEff nD τ sig (Elt F) Λ₀ .tc) α} {X : S1024x512.Idx → Elt F .f32} :
    own c m fullShare X ⊢ iprop((∀ Y, own c m fullShare X -∗ wpc c (k Y) Q)
        -∗ wpc c (.op (.load m (Rect.unit (s := S1024x512) off S256x512.size inb).toLoadRect hl) k) Q) := by
  unfold own owns
  have hS : (m.access (Rect.unit (s := S1024x512) off S256x512.size inb)).set ⊆ m.view.set := m.view.set_slice_subset _
  iintro ⟨%f, %hf, H⟩ Hk
  iapply (wp_load_rect 𝒱₀ (c : Thread nD τ) none Set.univ hS) $$ H
  iintro H
  iapply Hk
  iexists f
  isplitr
  · ipureintro; exact hf
  · iexact H

theorem row_emb {off : Fin 2 → ℕ} {q : ℕ} (h : off = ![256 * q, 0]) (inb : ∀ a, off a + S256x512.size a ≤ S1024x512.size a) (x : S256x512.Idx) :
    (((Rect.unit (s := S1024x512) off S256x512.size inb).emb x) 0).val = 256 * q + (x 0).val
      ∧ rowOf ((Rect.unit (s := S1024x512) off S256x512.size inb).emb x) = x := by
  subst h
  have hx : (x 0).val < 256 := (x 0).isLt
  have e0 : (((Rect.unit (s := S1024x512) ![256 * q, 0] S256x512.size inb).emb x) 0).val = 256 * q + 1 * (x 0).val := Rect.emb_apply _ _ _
  have e1 : (((Rect.unit (s := S1024x512) ![256 * q, 0] S256x512.size inb).emb x) 1).val = 0 + 1 * (x 1).val := Rect.emb_apply _ _ _
  refine ⟨by rw [e0]; omega, ?_⟩
  funext a
  apply Fin.ext
  match a with
  | ⟨0, _⟩ =>
    show (((Rect.unit (s := S1024x512) ![256 * q, 0] S256x512.size inb).emb x) 0).val % 256 = (x 0).val
    rw [e0]; omega
  | ⟨1, _⟩ =>
    show (((Rect.unit (s := S1024x512) ![256 * q, 0] S256x512.size inb).emb x) 1).val = (x 1).val
    rw [e1]; omega

theorem emb_row {off : Fin 2 → ℕ} {q : ℕ} (h : off = ![256 * q, 0]) (inb : ∀ a, off a + S256x512.size a ≤ S1024x512.size a) (y : S1024x512.Idx)
    (hy : (y 0).val / 256 = q) : (Rect.unit (s := S1024x512) off S256x512.size inb).emb (rowOf y) = y := by
  subst h
  have e0 : (((Rect.unit (s := S1024x512) ![256 * q, 0] S256x512.size inb).emb (rowOf y)) 0).val = 256 * q + 1 * ((y 0).val % 256) := Rect.emb_apply _ _ _
  have e1 : (((Rect.unit (s := S1024x512) ![256 * q, 0] S256x512.size inb).emb (rowOf y)) 1).val = 0 + 1 * (y 1).val := Rect.emb_apply _ _ _
  funext a
  apply Fin.ext
  match a with
  | ⟨0, _⟩ => exact e0.trans (show 256 * q + 1 * ((y 0).val % 256) = (y 0).val by omega)
  | ⟨1, _⟩ => exact e1.trans (show 0 + 1 * (y 1).val = (y 1).val by omega)

/-- A store to a quarter's rows replaces them. -/
theorem wp_storeRows {α : Type} {Q : α → sProp 𝕄} (c : Dev nD) {m : Memref sig .tc .vmem S1024x512 .f32} {off : Fin 2 → ℕ}
    {inb : ∀ a, off a + S256x512.size a ≤ S1024x512.size a} {q : ℕ} (h : off = ![256 * q, 0]) {w : S256x512.Idx → Elt F .f32}
    {hx : (m.access (Rect.unit (s := S1024x512) off S256x512.size inb)).Stores Finset.univ}
    {hm : (Finset.univ : Finset S256x512.Idx) = Finset.univ ∨ ∀ a, (Rect.unit (s := S1024x512) off S256x512.size inb).stride a = 1}
    {k : PUnit → Prog (TpuEff nD τ sig (Elt F) Λ₀ .tc) α} {X : S1024x512.Idx → Elt F .f32} :
    own c m fullShare X ⊢ iprop((own c m fullShare (updR X q w) -∗ wpc c (k ⟨⟩) Q)
        -∗ wpc c (.op (.store m (Rect.unit (s := S1024x512) off S256x512.size inb) w Finset.univ hx hm) k) Q) := by
  unfold own owns
  have hS : (m.access (Rect.unit (s := S1024x512) off S256x512.size inb)).setOn Finset.univ ⊆ m.view.set := m.view.set_slice_subset _
  have hrd (f : m.view.ty.Contents (Elt F)) (hf : m.view.read (Elt F) f = X) :
      m.view.read (Elt F) ((m.access (Rect.unit (s := S1024x512) off S256x512.size inb)).write (Elt F) f w Finset.univ) = updR X q w := by
    funext y
    unfold updR
    by_cases hy : (y 0).val / 256 = q
    · rw [if_pos hy]
      conv_lhs => rw [← emb_row h inb y hy]
      exact View.read_slice_write_emb _ _ _ (Finset.mem_univ _)
    · rw [if_neg hy, ← hf]
      refine View.read_slice_write_of_not_mem _ _ _ _ ?_
      intro hm
      obtain ⟨x, -, rfl⟩ := Finset.mem_map.mp hm
      have hx : (x 0).val < 256 := (x 0).isLt
      exact hy (by rw [(row_emb h inb x).1]; omega)
  iintro ⟨%f, %hf, H⟩ Hk
  iapply (wp_store 𝒱₀ (c : Thread nD τ) none Set.univ hS) $$ H
  iintro H
  iapply Hk
  iexists ((m.access (Rect.unit (s := S1024x512) off S256x512.size inb)).write (Elt F) f w Finset.univ)
  isplitr
  · ipureintro; exact hrd f hf
  · iexact H

/-! ## The slots given back -/

theorem rpay_fst (c : Dev nD) (b : ℕ) : rpay (F := F) (fstp c b) (q1c b).val (b / 2) = Rels c 1 (b + 5) := by
  rcases Nat.mod_two_eq_zero_or_one b with he | he
  · have e : fstp (fstp c b) 0 = c := by rw [← he, fstp_mod, fstp_fstp]
    unfold q1c; rw [if_pos he]
    show Rels (fstp (fstp c b) 0) 1 (2 * (b / 2) + 0 + 5) = _
    rw [e]; congr 1; omega
  · have e : fstp (fstp c b) 1 = c := by rw [← he, fstp_mod, fstp_fstp]
    unfold q1c; rw [if_neg (by omega)]
    show Rels (fstp (fstp c b) 1) 1 (2 * (b / 2) + 1 + 5) = _
    rw [e]; congr 1; omega
theorem rpay_snd (c : Dev nD) (b : ℕ) : rpay (F := F) (sndp c b) (q2c b).val (b / 2) = Rels c 2 (b + 5) := by
  rcases Nat.mod_two_eq_zero_or_one b with he | he
  · have e : sndp (sndp c b) 0 = c := by rw [← he, sndp_mod, sndp_sndp]
    unfold q2c; rw [if_pos he]
    show Rels (sndp (sndp c b) 0) 2 (2 * (b / 2) + 0 + 5) = _
    rw [e]; congr 1; omega
  · have e : sndp (sndp c b) 1 = c := by rw [← he, sndp_mod, sndp_sndp]
    unfold q2c; rw [if_neg (by omega)]
    show Rels (sndp (sndp c b) 1) 2 (2 * (b / 2) + 1 + 5) = _
    rw [e]; congr 1; omega

theorem due3_eq (c : Dev nD) (b : ℕ) (O : CellTallies nD τ sig ℕ) :
    O + due3 c b = (O + tallyAt (rcell (sndp c b) (q2c b)) (b + 5) 1) + tallyAt (rcell (fstp c b) (q1c b)) (b + 5) 1 := by
  unfold due3; rw [add_comm (tallyAt (rcell (fstp c b) (q1c b)) (b + 5) 1), add_assoc]

/-- The two signals of a block's last stage. -/
theorem wp_give {α : Type} {Q : α → sProp 𝕄} (c n n' : Dev nD) (b : ℕ) (hb : b < 16) (hn : n = fstp c b) (hn' : n' = sndp c b) {sm sm' : Sem sig}
    (hsm : sm = q1c b) (hsm' : sm' = q2c b) (O : CellTallies nD τ sig ℕ) {R : Prog (TpuEff nD τ sig (Elt F) Λ₀ .tc) α} :
    iprop(ctx I κ ιs ∗ greets c ∗ Rels (F := F) c 1 (b + 5) ∗ Rels (F := F) c 2 (b + 5) ∗ owesE c (O + due3 c b)
        ∗ dutyTok ER (rcell (fstp c b) (q1c b)) 0 (b / 2) ∗ dutyTok ER (rcell (sndp c b) (q2c b)) 0 (b / 2))
      ⊢ iprop((owesE c O -∗ wpc c R Q)
        -∗ wpc c (.op (.semSignal (n : Thread nD τ) sm 1) (fun _ => .op (.semSignal (n' : Thread nD τ) sm' 1) (fun _ => R))) Q) := by
  rw [due3_eq]
  have hu : b / 2 < units (q1c b).val := by unfold q1c; split <;> (show b / 2 < 8; omega)
  have hu' : b / 2 < units (q2c b).val := by unfold q2c; split <;> (show b / 2 < 8; omega)
  iintro ⟨#Hctx, #Hg, #Hr1, #Hr2, Ho, Hd1, Hd2⟩ Hk
  iapply (wp_sig I (κ := κ) (ιs := ιs) c (fstp c b) n hn (q1c b) (b / 2) hu (b + 5) _ hsm) $$ [Ho Hd1]
  · isplitr; · iexact Hctx
    isplitl [Ho]; · iexact Ho
    isplitl [Hd1]; · iexact Hd1
    isplitr
    · iapply (Entails.of_eq (rpay_fst c b).symm); iexact Hr1
    · iapply (greet_open (fstp c b) (q1c b) (by unfold q1c; split <;> decide)); iapply (greets_fst c b); iexact Hg
  iintro Ho
  iapply (wp_sig I (κ := κ) (ιs := ιs) c (sndp c b) n' hn' (q2c b) (b / 2) hu' (b + 5) _ hsm') $$ [Ho Hd2]
  · isplitr; · iexact Hctx
    isplitl [Ho]; · iexact Ho
    isplitl [Hd2]; · iexact Hd2
    isplitr
    · iapply (Entails.of_eq (rpay_snd c b).symm); iexact Hr2
    · iapply (greet_open (sndp c b) (q2c b) (by unfold q2c; split <;> decide)); iapply (greets_snd c b); iexact Hg
  iintro Ho
  iapply Hk
  iexact Ho

/-- The last stage: the second partner's sums arrive, the four results are stored, the slots are given back. -/
theorem stage3_core {α : Type} {Q : α → sProp 𝕄} (c : Dev nD) (i : grid0.Coords) (b : ℕ) (hb : b < 16) (hi : (i 0).val = b + 3)
    {arg1 : Memref sig .tc .vmem S512x4096 .bf16} {harg1 : arg1.IsWhole} {arg2 : Memref sig .tc .vmem S4096x512 .f32} {harg2 : arg2.IsWhole}
    {arg3 : Memref sig .tc .vmem S1024x512 .f32} {harg3 : arg3.IsWhole} {R : Prog (TpuEff nD τ sig (Elt F) Λ₀ .tc) α}
    {O : CellTallies nD τ sig ℕ} (hO : Above (b + 3) O) {X : S1024x512.Idx → Elt F .f32} :
    iprop(ctx I κ ιs ∗ greets c ∗ Rels (F := F) c 1 (b + 4) ∗ Rels (F := F) c 2 (b + 4) ∗ own c arg3 fullShare X ∗ owesE c (O + due3 c b) ∗ St3 c b ∗ tok3 c b)
      ⊢ iprop(((Rels (F := F) c 1 (b + 5) ∗ Rels (F := F) c 2 (b + 5) ∗ own c arg3 fullShare (outv I c b) ∗ owesE c O ∗ St4 c (b + 4)) -∗ wpc c R Q)
        -∗ wpc c (stage3 i c arg1 harg1 arg2 harg2 arg3 harg3 (wi i) (wx c) (wy c) (wz c) (wq c) (wn c) R) Q) := by
  have h12 : k0_cond12 i = 1#1 := (cond12_iff i).mpr (by omega)
  have hb' : (i 0).val - 3 = b := by omega
  unfold stage3
  rw [dif_pos h12]
  unfold k0_part5 k0_part6 k0_part7
  simp only [semSignalWord, semWaitWord, Prog.lift, Prog.bind_op, Prog.bind_ret, Prog.pure_eq_ret, dite_bind, one_toInt]
  unfold St3 tok3 rest4
  have o17 : k0_off17 i = ![b % 4] := by rw [off17_eq' i h12, hb']
  have o19 : k0_off19 i = ![(jj b).val, 0, 0] := by rw [off19_eq' i h12, hb']; rfl
  have o20 := off20_eq' c
  have o21 := off21_eq' i c h12
  have o22 := off22_eq' i c h12
  have o23 := off23_eq' i c h12
  rw [hb'] at o21 o22 o23
  have hOA : Above (b + 3) (O + due3 c b) := by
    rw [due3_eq]; exact (hO.add (Above.tally _ _ _ (by omega) (by omega))).add (Above.tally _ _ _ (by omega) (by omega))
  iintro ⟨#Hctx, #Hg, #Hr1, #Hr2, HX, Ho, ⟨Hh, HfY, HfQ, H1, H3, ⟨H4, H5, H6, H7⟩, Hs4, Hs6, Hrd0, Hrd1, Hrd2⟩, ⟨Hc5, Hc7, Hd1, Hd2⟩⟩ Hk
  -- the second partner's sums have arrived
  iapply (wp_dwait I (κ := κ) (ιs := ιs) c 5 b hb (s := b + 3) (i := b + 4)
    (Or.inl hOA) (by omega) (by omega) (sem_slice _ _ _ _ _ (Nat.mod_lt _ (by decide)) o17) (credit_any _)) $$ [Hc5 Ho H5]
  · isplitr; · iexact Hctx
    isplitl [Hc5]; · iexact Hc5
    isplitl [Ho] <;> iassumption
  iintro ⟨Ho, H5, HA⟩
  ihave HA := (show dpay I c ((5 : Fin 8) : ℕ) b ⊢ own c (sl aM (jj b)) fullShare (qa I c b) from entails_refl _) $$ HA
  iapply (wp_dwait I (κ := κ) (ιs := ιs) c 7 b hb (s := b + 3) (i := b + 4)
    (Or.inl hOA) (by omega) (by omega) (sem_slice _ _ _ _ _ (Nat.mod_lt _ (by decide)) o17) (credit_any _)) $$ [Hc7 Ho H7]
  · isplitr; · iexact Hctx
    isplitl [Hc7]; · iexact Hc7
    isplitl [Ho] <;> iassumption
  iintro ⟨Ho, H7, HB⟩
  ihave HB := (show dpay I c ((7 : Fin 8) : ℕ) b ⊢ own c (sl bM (jj b)) fullShare (qb I c b) from entails_refl _) $$ HB
  -- the own two are home again
  unfold snt
  iapply (wp_dwait I (κ := κ) (ιs := ιs) c 4 b hb (s := b + 3) (i := 0)
    (Or.inl hOA) (by omega) (by omega) (sem_slice _ _ _ _ _ (Nat.mod_lt _ (by decide)) o17) (credit_any _)) $$ [Hs4 Ho H4]
  · isplitr; · iexact Hctx
    isplitl [Hs4]; · iexact Hs4
    isplitl [Ho] <;> iassumption
  iintro ⟨Ho, H4, HQ⟩
  ihave HQ := (show dpay I c ((4 : Fin 8) : ℕ) b ⊢ own c (sl qM (jj b)) shR (qv I c b) from entails_refl _) $$ HQ
  iapply (wp_dwait I (κ := κ) (ιs := ιs) c 6 b hb (s := b + 3) (i := 0)
    (Or.inl hOA) (by omega) (by omega) (sem_slice _ _ _ _ _ (Nat.mod_lt _ (by decide)) o17) (credit_any _)) $$ [Hs6 Ho H6]
  · isplitr; · iexact Hctx
    isplitl [Hs6]; · iexact Hs6
    isplitl [Ho] <;> iassumption
  iintro ⟨Ho, H6, HR⟩
  ihave HR := (show dpay I c ((6 : Fin 8) : ℕ) b ⊢ own c (sl rM (jj b)) fullShare (q1 I c b) from entails_refl _) $$ HR
  -- the four results
  iapply (wp_loadSq c o19 (inb₀ := sl_inb _)) $$ HQ
  iintro HQ
  iapply (wp_loadRows c) $$ HX
  iintro %Y HX
  iapply (wp_storeRows c o20) $$ HX
  iintro HX
  iapply (wp_loadSq c o19 (inb₀ := sl_inb _)) $$ HR
  iintro HR
  iapply (wp_loadRows c) $$ HX
  iintro %Y HX
  iapply (wp_storeRows c o21) $$ HX
  iintro HX
  iapply (wp_loadSq c o19 (inb₀ := sl_inb _)) $$ HA
  iintro HA
  iapply (wp_loadRows c) $$ HX
  iintro %Y HX
  iapply (wp_storeRows c o22) $$ HX
  iintro HX
  iapply (wp_loadSq c o19 (inb₀ := sl_inb _)) $$ HB
  iintro HB
  iapply (wp_loadRows c) $$ HX
  iintro %Y HX
  iapply (wp_storeRows c o23) $$ HX
  simp only [k0_pay2, k0_pay3, k0_pay4, k0_pay5, shapeCast_shapeCast, shapeCast_self]
  iintro HX
  ihave HX := (Entails.of_eq (show own c arg3 fullShare _ = own c arg3 fullShare (outv I c b) by rw [outv_eq])) $$ HX
  -- the slots are given back
  ihave H3 := (at'_reached _ _ _ _) $$ H3
  icases H3 with ⟨H3, #Hr3⟩
  ihave H5 := (at'_reached _ _ _ _) $$ H5
  icases H5 with ⟨H5, #Hr5⟩
  ihave H7 := (at'_reached _ _ _ _) $$ H7
  icases H7 with ⟨H7, #Hr7⟩
  have hgive1 := rel_give I (κ := κ) (ιs := ιs) c 1 (b + 4)
  have hgive2 := rel_give I (κ := κ) (ιs := ιs) c 2 (b + 4)
  rw [jj_add, show (b + 4) / 4 = b / 4 + 1 by omega] at hgive1 hgive2
  imod hgive1 $$ [Hrd1 HR] with ⟨Hrd1, #Hrel1⟩
  · isplitr; · iexact Hctx
    isplitl [Hrd1]; · iexact Hrd1
    isplitl [HR]; · iapply (Entails.of_eq (slotOf_1 c (jj b)).symm); iapply (some'_intro _ _ _ _); iexact HR
    isplitr
    · iexact Hr3
    · iexact Hr3
  imod hgive2 $$ [Hrd2 HA HB] with ⟨Hrd2, #Hrel2⟩
  · isplitr; · iexact Hctx
    isplitl [Hrd2]; · iexact Hrd2
    isplitl [HA HB]
    · iapply (Entails.of_eq (slotOf_2 c (jj b)).symm)
      isplitl [HA]
      · iapply (some'_intro _ _ _ _); iexact HA
      · iapply (some'_intro _ _ _ _); iexact HB
    isplitr
    · iexact Hr5
    · iexact Hr7
  ihave #Hrs1 := (Rels_succ c 1 (b + 4)) $$ [Hr1 Hrel1]
  · isplitl
    · iexact Hr1
    · iexact Hrel1
  ihave #Hrs2 := (Rels_succ c 2 (b + 4)) $$ [Hr2 Hrel2]
  · isplitl
    · iexact Hr2
    · iexact Hrel2
  have hst : iprop(some' (F := F) c (hf (jj b) (yb c)) fullShare ∗ freeY c (b + 4) ∗ own c (sl qM (jj b)) shR (qv I c b) ∗ freeQ c (b + 4)
      ∗ at' c 1 (jj b) (b / 4 + 1) ∗ at' c 3 (jj b) (b / 4 + 1) ∗ (at' c 4 (jj b) (b / 4 + 1) ∗ at' c 5 (jj b) (b / 4 + 1) ∗ at' c 6 (jj b) (b / 4 + 1) ∗ at' c 7 (jj b) (b / 4 + 1))
      ∗ rdr c 0 (jj b) (b / 4 + 2) ∗ rdr c 1 (jj b) (b / 4 + 2) ∗ rdr c 2 (jj b) (b / 4 + 2)) ⊢ St4 c (b + 4) := by
    unfold St4 rest4
    rw [jj_add, show (b + 4) / 4 = b / 4 + 1 by omega]
    iintro ⟨Hh, HfY, HQ, HfQ, H⟩
    isplitl [Hh]; · iexact Hh
    isplitl [HfY]; · iexact HfY
    isplitl [HQ]; · iapply (some'_intro _ _ _ _); iexact HQ
    isplitl [HfQ]; · iexact HfQ
    iexact H
  ihave HS := hst $$ [Hh HfY HQ HfQ H1 H3 H4 H5 H6 H7 Hrd0 Hrd1 Hrd2]
  · isplitl [Hh]; · iexact Hh
    isplitl [HfY]; · iexact HfY
    isplitl [HQ]; · iexact HQ
    isplitl [HfQ]; · iexact HfQ
    isplitl [H1]; · iexact H1
    isplitl [H3]; · iexact H3
    isplitl [H4 H5 H6 H7]
    · isplitl [H4]; · iexact H4
      isplitl [H5]; · iexact H5
      isplitl [H6] <;> iassumption
    isplitl [Hrd0]; · iexact Hrd0
    isplitl [Hrd1] <;> iassumption
  rcases Nat.mod_two_eq_zero_or_one b with he | he
  · have h13 : k0_cond13 i = 1#1 := (cond13_iff i h12).mpr (by rw [hb']; exact he)
    have h14 : ¬ k0_cond14 i = 1#1 := by rw [cond14_iff i h12, hb']; omega
    rw [dif_pos h13, dif_neg h14]
    iapply (wp_give I (κ := κ) (ιs := ιs) c _ _ b hb ((dev9_fst i c h12 h13 _).trans (by rw [hb'])) ((dev10_snd i c h12 h13 _).trans (by rw [hb']))
      (by unfold q1c; rw [if_pos he]; rfl) (by unfold q2c; rw [if_pos he]; rfl) O) $$ [Ho Hd1 Hd2]
    · isplitr; · iexact Hctx
      isplitr; · iexact Hg
      isplitr; · iexact Hrs1
      isplitr; · iexact Hrs2
      isplitl [Ho]; · iexact Ho
      isplitl [Hd1] <;> iassumption
    iintro Ho
    iapply Hk
    isplitr; · iexact Hrs1
    isplitr; · iexact Hrs2
    isplitl [HX]; · iexact HX
    isplitl [Ho] <;> iassumption
  · have h13 : ¬ k0_cond13 i = 1#1 := by rw [cond13_iff i h12, hb']; omega
    have h14 : k0_cond14 i = 1#1 := (cond14_iff i h12).mpr (by rw [hb']; exact he)
    rw [dif_neg h13, dif_pos h14]
    iapply (wp_give I (κ := κ) (ιs := ιs) c _ _ b hb ((dev11_fst i c h12 h14 _).trans (by rw [hb'])) ((dev12_snd i c h12 h14 _).trans (by rw [hb']))
      (by unfold q1c; rw [if_neg (by omega)]; rfl) (by unfold q2c; rw [if_neg (by omega)]; rfl) O) $$ [Ho Hd1 Hd2]
    · isplitr; · iexact Hctx
      isplitr; · iexact Hg
      isplitr; · iexact Hrs1
      isplitr; · iexact Hrs2
      isplitl [Ho]; · iexact Ho
      isplitl [Hd1] <;> iassumption
    iintro Ho
    iapply Hk
    isplitr; · iexact Hrs1
    isplitr; · iexact Hrs2
    isplitl [HX]; · iexact HX
    isplitl [Ho] <;> iassumption

end Cert.Proof
-- ==== Proof.Bar.lean ====
module

public import proofs.«01_k».proof.Proof.Turns

/-! The barrier at the kernel's first step. -/

@[expose] public section

noncomputable section

namespace Cert.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (I : Inp F)
variable {κ : Dev nD × CK → ℕ} {ιs : Key → ℕ}

/-- A slot at the start: nothing sent, nothing released. -/
def slot0 (c : Dev nD) (n : ℕ) : sProp 𝕄 :=
  iprop(some' c (hf (jj n) (yb c)) fullShare ∗ some' c (hf (jj n) (nyb c)) fullShare ∗ some' c (sl qM (jj n)) shR ∗ some' c (sl qM (jj n)) shL
    ∗ at' c 0 (jj n) 0 ∗ at' c 1 (jj n) 0 ∗ at' c 2 (jj n) 0 ∗ at' c 3 (jj n) 0 ∗ rest4 c (jj n) 0
    ∗ (rdr c 0 (jj n) 0 ∗ rdr c 1 (jj n) 0 ∗ rdr c 2 (jj n) 0) ∗ slotOf (c, 0, jj n) ∗ slotOf (c, 1, jj n) ∗ slotOf (c, 2, jj n))

/-- A slot's landing buffers are released for their first block. -/
theorem slot_open (c : Dev nD) (n : ℕ) (hn : n < 4) :
    iprop(ctx I κ ιs ∗ slot0 (F := F) c n) ⊢ (|={Set.univ}=> (St4 c n ∗ Rel c 0 n ∗ Rel c 1 n ∗ Rel c 2 n) : sProp 𝕄) := by
  have h0 : n / 4 = 0 := by omega
  unfold slot0 rest4
  iintro ⟨#Hctx, Hy, Hn, Hr, Hl, H0, H1, H2, H3, ⟨H4, H5, H6, H7⟩, ⟨Hd0, Hd1, Hd2⟩, Hs0, Hs1, Hs2⟩
  ihave H1 := (at'_reached c 1 (jj n) 0) $$ H1
  icases H1 with ⟨H1, #R1⟩
  ihave H3 := (at'_reached c 3 (jj n) 0) $$ H3
  icases H3 with ⟨H3, #R3⟩
  ihave H5 := (at'_reached c 5 (jj n) 0) $$ H5
  icases H5 with ⟨H5, #R5⟩
  ihave H7 := (at'_reached c 7 (jj n) 0) $$ H7
  icases H7 with ⟨H7, #R7⟩
  have g0 := rel_give I (κ := κ) (ιs := ιs) c 0 n
  have g1 := rel_give I (κ := κ) (ιs := ιs) c 1 n
  have g2 := rel_give I (κ := κ) (ιs := ιs) c 2 n
  rw [h0] at g0 g1 g2
  imod g0 $$ [Hd0 Hs0] with ⟨Hd0, HR0⟩
  · isplitr; · iexact Hctx
    isplitl [Hd0]; · iexact Hd0
    isplitl [Hs0]; · iexact Hs0
    isplitr <;> iexact R1
  imod g1 $$ [Hd1 Hs1] with ⟨Hd1, HR1⟩
  · isplitr; · iexact Hctx
    isplitl [Hd1]; · iexact Hd1
    isplitl [Hs1]; · iexact Hs1
    isplitr <;> iexact R3
  imod g2 $$ [Hd2 Hs2] with ⟨Hd2, HR2⟩
  · isplitr; · iexact Hctx
    isplitl [Hd2]; · iexact Hd2
    isplitl [Hs2]; · iexact Hs2
    isplitr
    · iexact R5
    · iexact R7
  imodintro
  isplitr [HR0 HR1 HR2]
  · unfold St4 freeY freeQ rest4
    rw [if_pos hn, if_pos hn, h0]
    isplitl [Hy]; · iexact Hy
    isplitl [Hn H0]; · isplitl [Hn] <;> iassumption
    isplitl [Hr]; · iexact Hr
    isplitl [Hl H2]; · isplitl [Hl] <;> iassumption
    isplitl [H1]; · iexact H1
    isplitl [H3]; · iexact H3
    isplitl [H4 H5 H6 H7]
    · isplitl [H4]; · iexact H4
      isplitl [H5]; · iexact H5
      isplitl [H6] <;> iassumption
    isplitl [Hd0]; · iexact Hd0
    isplitl [Hd1] <;> iassumption
  isplitl [HR0]; · iexact HR0
  isplitl [HR1] <;> iassumption

theorem Rels_four (c : Dev nD) (k : Fin 3) :
    iprop(Rel (F := F) c k 0 ∗ Rel c k 1 ∗ Rel c k 2 ∗ Rel c k 3) ⊢ Rels c k 4 := by
  iintro ⟨H0, H1, H2, H3⟩
  iapply (Rels_succ c k 3); isplitr [H3]; swap; · iexact H3
  iapply (Rels_succ c k 2); isplitr [H2]; swap; · iexact H2
  iapply (Rels_succ c k 1); isplitr [H1]; swap; · iexact H1
  iapply (Rels_succ c k 0); isplitr [H0]; swap; · iexact H0
  unfold Rels
  rw [Finset.range_zero, BI.bigSep_empty]
  iempintro

/-- The barrier's three units. -/
def dueB (c : Dev nD) : CellTallies nD τ sig ℕ :=
  tallyAt (rcell (yp c) 5) 1 1 + tallyAt (rcell (xp c) 5) 1 1 + tallyAt (rcell (zp c) 5) 1 1
/-- What the barrier uses up. -/
def tokB (c : Dev nD) : sProp 𝕄 :=
  iprop(dutyTok ER (rcell (yp c) 5) 0 0 ∗ dutyTok ER (rcell (xp c) 5) 0 1 ∗ dutyTok ER (rcell (zp c) 5) 0 2
    ∗ reached ER (rcell (yp c) 5) 0 ∗ reached ER (rcell (xp c) 5) 0 ∗ reached ER (rcell (zp c) 5) 0
    ∗ cred (tallyAt (rcell c 5) 1 3) ∗ atPos ER (rcell c 5) 0 ∅ 0)
/-- The signal cells are open. -/
def opens (c : Dev nD) : sProp 𝕄 :=
  iprop(reached ER (rcell c 0) 0 ∗ reached ER (rcell c 1) 0 ∗ reached ER (rcell c 2) 0 ∗ reached ER (rcell c 3) 0 ∗ reached ER (rcell c 4) 0)

theorem greets_of (c : Dev nD) :
    BI.bigSep ((Rd I).duties ((c : Thread nD τ), SemLoc.reg (5 : Fin 6)) 0 \ ∅) ((Rd I).payload ((c : Thread nD τ), SemLoc.reg (5 : Fin 6)) 0) ⊢ greets c := by
  rw [Finset.sdiff_empty, show (Rd I).duties ((c : Thread nD τ), SemLoc.reg (5 : Fin 6)) 0 = Finset.range 3 from rfl]
  have p (d : ℕ) (n : Dev nD) (hn : nbr c d = n) : (Rd I).payload ((c : Thread nD τ), SemLoc.reg (5 : Fin 6)) 0 d ⊢ greet n := by
    rw [← hn]; exact entails_refl _
  have q (d : ℕ) (hd : d < 3) (n : Dev nD) (hn : nbr c d = n) :
      BI.bigSep (Finset.range 3) ((Rd I).payload ((c : Thread nD τ), SemLoc.reg (5 : Fin 6)) 0) ⊢ greet n :=
    BIBase.Entails.trans (bs_get (Finset.mem_range.mpr hd)) (p d n hn)
  have e0 := bs_take (Φ := (Rd I).payload ((c : Thread nD τ), SemLoc.reg (5 : Fin 6)) 0) (s := Finset.range 3) (a := 0) (by decide)
  have e1 := bs_take (Φ := (Rd I).payload ((c : Thread nD τ), SemLoc.reg (5 : Fin 6)) 0) (s := (Finset.range 3).erase 0) (a := 1) (by decide)
  have e2 := bs_take (Φ := (Rd I).payload ((c : Thread nD τ), SemLoc.reg (5 : Fin 6)) 0) (s := ((Finset.range 3).erase 0).erase 1) (a := 2) (by decide)
  unfold greets
  iintro H
  ihave H := e0 $$ H
  icases H with ⟨H0, H⟩
  ihave H := e1 $$ H
  icases H with ⟨H1, H⟩
  ihave H := e2 $$ H
  icases H with ⟨H2, -⟩
  isplitl [H0]; · iapply (p 0 (yp c) rfl); iexact H0
  isplitl [H1]
  · iapply (p 1 (xp c) rfl); iexact H1
  · iapply (p 2 (zp c) rfl); iexact H2

theorem rpay_bar (c n : Dev nD) (d : ℕ) (hn : nbr n d = c) : greet (F := F) c ⊢ rpay n ((5 : Fin 6) : ℕ) d := by
  rw [← hn]; exact entails_refl _

theorem add_three {M : Type} [AddCommMonoid M] (o a b d : M) : o + (a + b + d) = o + d + b + a := by
  rw [add_assoc, add_assoc o d b, add_assoc o, add_comm (d + b) a, add_comm d b]

/-- The barrier: the landing slots are released, the neighbours greeted, their greetings awaited. -/
theorem bar_core {α : Type} {Q : α → sProp 𝕄} (c : Dev nD) (i : grid0.Coords) (hi : (i 0).val = 0) {O : CellTallies nD τ sig ℕ} (hO : Above 0 O)
    {arg1 : Memref sig .tc .vmem S512x4096 .bf16} {harg1 : arg1.IsWhole} {arg2 : Memref sig .tc .vmem S4096x512 .f32} {harg2 : arg2.IsWhole}
    {arg3 : Memref sig .tc .vmem S1024x512 .f32} {harg3 : arg3.IsWhole} {R : Prog (TpuEff nD τ sig (Elt F) Λ₀ .tc) α} :
    iprop(ctx I κ ιs ∗ (slot0 (F := F) c 0 ∗ slot0 c 1 ∗ slot0 c 2 ∗ slot0 c 3) ∗ opens c ∗ owesE c (O + dueB c) ∗ tokB c)
      ⊢ iprop((((St4 c 0 ∗ St4 c 1 ∗ St4 c 2 ∗ St4 c 3) ∗ (Rels c 0 4 ∗ Rels c 1 4 ∗ Rels c 2 4) ∗ greets c ∗ owesE c O
            ∗ atPos ER (rcell c 5) 1 ∅ 0) -∗ wpc c R Q)
        -∗ wpc c (barStage i c arg1 harg1 arg2 harg2 arg3 harg3 (wi i) (wx c) (wy c) (wz c) (wq c) (wn c) R) Q) := by
  have h1 : k0_cond1 i = 1#1 := (cond1_iff i).mpr hi
  unfold barStage
  rw [dif_pos h1]
  simp only [semSignalWord, semWaitWord, Prog.lift, Prog.bind_op, Prog.bind_ret, Prog.pure_eq_ret, dite_bind, one_toInt]
  unfold tokB opens
  iintro ⟨#Hctx, ⟨HS0, HS1, HS2, HS3⟩, ⟨#P0, #P1, #P2, #P3, #P4⟩, Ho, Ht0, Ht1, Ht2, #B0, #B1, #B2, Hcr, Hat⟩ Hk
  imod (slot_open I (κ := κ) (ιs := ιs) c 0 (by decide)) $$ [HS0] with ⟨HS0, #R00, #R01, #R02⟩
  · isplitr; · iexact Hctx
    iexact HS0
  imod (slot_open I (κ := κ) (ιs := ιs) c 1 (by decide)) $$ [HS1] with ⟨HS1, #R10, #R11, #R12⟩
  · isplitr; · iexact Hctx
    iexact HS1
  imod (slot_open I (κ := κ) (ιs := ιs) c 2 (by decide)) $$ [HS2] with ⟨HS2, #R20, #R21, #R22⟩
  · isplitr; · iexact Hctx
    iexact HS2
  imod (slot_open I (κ := κ) (ιs := ιs) c 3 (by decide)) $$ [HS3] with ⟨HS3, #R30, #R31, #R32⟩
  · isplitr; · iexact Hctx
    iexact HS3
  ihave #HR0 : iprop(Rels (F := F) c 0 4) $$ []
  · iapply (Rels_four c 0)
    isplitr; · iexact R00
    isplitr; · iexact R10
    isplitr; · iexact R20
    iexact R30
  ihave #HR1 : iprop(Rels (F := F) c 1 4) $$ []
  · iapply (Rels_four c 1)
    isplitr; · iexact R01
    isplitr; · iexact R11
    isplitr; · iexact R21
    iexact R31
  ihave #HR2 : iprop(Rels (F := F) c 2 4) $$ []
  · iapply (Rels_four c 2)
    isplitr; · iexact R02
    isplitr; · iexact R12
    isplitr; · iexact R22
    iexact R32
  ihave #HG : iprop(greet (F := F) c) $$ []
  · unfold greet
    isplitr; · iexact HR0
    isplitr; · iexact HR1
    isplitr; · iexact HR2
    isplitr; · iexact P0
    isplitr; · iexact P1
    isplitr; · iexact P2
    isplitr; · iexact P3
    iexact P4
  have e : O + dueB c = ((O + tallyAt (rcell (zp c) 5) 1 1) + tallyAt (rcell (xp c) 5) 1 1) + tallyAt (rcell (yp c) 5) 1 1 := by
    exact add_three O _ _ _
  ihave Ho := (Entails.of_eq (congrArg (owesE (F := F) c) e)) $$ Ho
  iapply (wp_sig I (κ := κ) (ιs := ιs) c (yp c) _ (dev1_yp c _) 5 0 (by decide) 1 _ barrier_eq) $$ [Ho Ht0]
  · isplitr; · iexact Hctx
    isplitl [Ho]; · iexact Ho
    isplitl [Ht0]; · iexact Ht0
    isplitr; · iapply (rpay_bar c (yp c) 0 (nbr_nbr c 0)); iexact HG
    iexact B0
  iintro Ho
  iapply (wp_sig I (κ := κ) (ιs := ιs) c (xp c) _ (dev2_xp c _) 5 1 (by decide) 1 _ barrier_eq) $$ [Ho Ht1]
  · isplitr; · iexact Hctx
    isplitl [Ho]; · iexact Ho
    isplitl [Ht1]; · iexact Ht1
    isplitr; · iapply (rpay_bar c (xp c) 1 (nbr_nbr c 1)); iexact HG
    iexact B1
  iintro Ho
  iapply (wp_sig I (κ := κ) (ιs := ιs) c (zp c) _ (dev3_zp c _) 5 2 (by decide) 1 _ barrier_eq) $$ [Ho Ht2]
  · isplitr; · iexact Hctx
    isplitl [Ho]; · iexact Ho
    isplitl [Ht2]; · iexact Ht2
    isplitr; · iapply (rpay_bar c (zp c) 2 (nbr_nbr c 2)); iexact HG
    iexact B2
  iintro Ho
  unfold owesE
  icases Ho with ⟨%W, Ho⟩
  ihave #Hg := (ctx_r I c 5) $$ Hctx
  ihave #Hl := (ctx_lev I) $$ Hctx
  have hw := fun (K : PUnit → sProp 𝕄) => (wpE_semWait_eq (defs := defs₀ (F := F)) (sem := (5 : Fin 6)) (k := 3) 𝒱₀ (c : Thread nD τ) none Set.univ K)
  iapply (Rounds.wp_wait_rest_token 𝒱₀ ER (Rd I) (c : Thread nD τ) none (κ := κ (c, .inr 5)) hw (Set.mem_univ _) 1 (O := O) (W := W) (R := 0) (m := 0) (T := ∅)
    (by rw [expect_r I c 5]; rfl)) $$ [Hcr Ho Hat]
  · isplitr; · iexact Hg
    isplitl [Hcr]; · iexact Hcr
    isplitl [Ho]; · iexact Ho
    isplitr
    · iapply (mayWait c (.reg (5 : Fin 6)) hO (by decide) (by decide)); iexact Hl
    iexact Hat
  iintro ⟨Ho, Hat, -, Hp⟩
  ihave #HGS := (greets_of I c) $$ Hp
  iapply Hk
  isplitl [HS0 HS1 HS2 HS3]
  · isplitl [HS0]; · iexact HS0
    isplitl [HS1]; · iexact HS1
    isplitl [HS2] <;> iassumption
  isplitr
  · isplitr; · iexact HR0
    isplitr; · iexact HR1
    iexact HR2
  isplitr; · iexact HGS
  isplitl [Ho]; · iexists _; iexact Ho
  iexact Hat

end Cert.Proof
-- ==== Proof.Fin.lean ====
module

public import proofs.«01_k».proof.Proof.Turns

/-! The waits at the end of the kernel's last step. -/

@[expose] public section

noncomputable section

namespace Cert.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (I : Inp F)
variable {κ : Dev nD × CK → ℕ} {ιs : Key → ℕ}

/-- Credits of single units at one cell join. -/
theorem creds_join (g : GSem nD τ sig) (f : ℕ → ℕ) (m n : ℕ) :
    BI.bigSep (Finset.Ico m n) (fun k => (cred (tallyAt g (f k) 1) : sProp 𝕄)) ⊢ iprop(∃ cr : ℕ →₀ ℕ, ⌜Util.total cr = n - m⌝ ∗ cred (tallyOn g cr)) := by
  induction hd : n - m generalizing m with
  | zero =>
    rw [Finset.Ico_eq_empty (by omega), BI.bigSep_empty]
    iintro -
    iexists 0
    isplitr; · ipureintro; rfl
    rw [show (tallyOn g 0 : CellTallies nD τ sig ℕ) = 0 from Pi.single_zero _, cred_zero]
    iempintro
  | succ d ih =>
    have h := bs_head (Φ := fun k => (cred (tallyAt g (f k) 1) : sProp 𝕄)) (show m < n by omega)
    iintro H
    ihave H := h $$ H
    icases H with ⟨H0, H⟩
    ihave H := (ih (m + 1) (by omega)) $$ H
    icases H with ⟨%cr, %hcr, H⟩
    iexists (Finsupp.single (f m) 1 + cr)
    isplitr
    · ipureintro
      rw [Util.total_add, Util.total_single, hcr, Nat.add_comm]
    rw [show (tallyOn g (Finsupp.single (f m) 1 + cr) : CellTallies nD τ sig ℕ) = tallyAt g (f m) 1 + tallyOn g cr from Pi.single_add _ _ _]
    iapply (cred_add _ _).2
    isplitl [H0] <;> iassumption

/-- The wait for the rest of a signal cell's units, when nothing is owed any more. -/
theorem wp_fwait {α : Type} {Q : α → sProp 𝕄} (c : Dev nD) (q : Fin 6) (m w : ℕ) (hm : m + w = units q.val)
    {sm : Sem sig} (hsm : sm = q) {kk : PUnit → Prog (TpuEff nD τ sig (Elt F) Λ₀ .tc) α} :
    iprop(ctx I κ ιs ∗ owesE c 0 ∗ crd (F := F) c q m)
      ⊢ iprop(((owesE c 0 ∗ atPos ER (rcell c q) 1 ∅ 0) -∗ wpc c (kk ⟨⟩) Q) -∗ wpc c (.op (.semWait sm w) kk) Q) := by
  subst hsm
  unfold owesE crd crPos
  iintro ⟨#Hctx, ⟨%W, Ho⟩, ⟨%T, %hT, Hat, #HT⟩, Hcr⟩ Hk
  ihave #Hg := (ctx_r I c sm) $$ Hctx
  ihave Hcr := (creds_join (rcell c sm) (cix sm.val) m (units sm.val)) $$ Hcr
  icases Hcr with ⟨%cr, %htot, Hcr⟩
  have hw := fun (K : PUnit → sProp 𝕄) => (wpE_semWait_eq (defs := defs₀ (F := F)) (sem := sm) (k := w) 𝒱₀ (c : Thread nD τ) none Set.univ K)
  iapply (Rounds.wp_wait_rest 𝒱₀ ER (Rd I) (c : Thread nD τ) none (κ := κ (c, .inr sm)) hw (Set.mem_univ _) (cr := cr) (O := 0) (W := W)
    (cr.support.image ((.reg sm : SemLoc sig), ·)) (R := 0) (m := m) (T := T) (by rw [show (Rd I).expect ((c : Thread nD τ), SemLoc.reg sm) 0 = units sm.val from expect_r I c sm]; exact hm)
    (by rw [htot]; omega) (Finset.Subset.refl _)) $$ [Hcr Ho Hat]
  · isplitr; · iexact Hg
    isplitl [Hcr]; · iexact Hcr
    isplitl [Ho]; · iexact Ho
    isplitr
    · rw [MayOwe_zero]; iempintro
    iexact Hat
  iintro ⟨Ho, Hat, -, -⟩
  iapply Hk
  isplitl [Ho]; · iexists _; iexact Ho
  iexact Hat

/-- A slot at the end: all its buffers at home, all its cells at their last round. -/
def slotE (c : Dev nD) (n : ℕ) : sProp 𝕄 :=
  iprop(some' c (hf (jj n) (yb c)) fullShare ∗ some' c (hf (jj n) (nyb c)) fullShare ∗ some' c (sl qM (jj n)) shR ∗ some' c (sl qM (jj n)) shL
    ∗ at' c 0 (jj n) 4 ∗ at' c 1 (jj n) 4 ∗ at' c 2 (jj n) 4 ∗ at' c 3 (jj n) 4 ∗ rest4 c (jj n) 4)

/-- The last waits for a slot's own transfers. -/
theorem wp_fin2 {α : Type} {Q : α → sProp 𝕄} (c : Dev nD) (n : ℕ) (hn : 16 ≤ n) (hn' : n < 20)
    {s₀ s₂ : DmaSem sig} (hs₀ : s₀ = dsem 0 (jj n)) (hs₂ : s₂ = dsem 2 (jj n))
    {src₀ dst₀ src₂ dst₂ : Memref sig .tc .vmem S256x512 .f32}
    {h1 : src₀.view.WordExact} {h2 : dst₀.view.WordExact} {h3 : src₂.view.WordExact} {h4 : dst₂.view.WordExact} {R : Prog (TpuEff nD τ sig (Elt F) Λ₀ .tc) α} :
    iprop(ctx I κ ιs ∗ owesE c 0 ∗ St4 (F := F) c n)
      ⊢ iprop(((owesE c 0 ∗ slotE c n) -∗ wpc c R Q)
        -∗ wpc c (.op (.waitDma2 s₀ src₀ dst₀ h1 h2) fun _ => .op (.waitDma2 s₂ src₂ dst₂ h3 h4) fun _ => R) Q) := by
  obtain ⟨b, rfl⟩ : ∃ b, n = b + 4 := ⟨n - 4, by omega⟩
  have hb : b < 16 := by omega
  rw [jj_add] at hs₀ hs₂
  unfold St4 slotE
  rw [freeY_add, freeQ_add, show (b + 4) / 4 = 4 by omega, jj_add]
  unfold snt
  have hd : b / 4 + 1 = 4 := by omega
  have w0 := wp_dwait (Q := Q) I (κ := κ) (ιs := ιs) c 0 b hb (s := 0) (i := 0) (O := 0) (Or.inr rfl) (by omega) (by omega) hs₀ (src := src₀) (dst := dst₀) (credit_any _) (h1 := h1) (h2 := h2)
    (kk := fun _ => .op (.waitDma2 s₂ src₂ dst₂ h3 h4) fun _ => R)
  have w2 := wp_dwait (Q := Q) I (κ := κ) (ιs := ιs) c 2 b hb (s := 0) (i := 0) (O := 0) (Or.inr rfl) (by omega) (by omega) hs₂ (src := src₂) (dst := dst₂) (credit_any _) (h1 := h3) (h2 := h4)
    (kk := fun _ => R)
  rw [hd] at w0 w2
  iintro ⟨#Hctx, Ho, Hy, ⟨H0, Hc0⟩, Hr, ⟨H2, Hc2⟩, H1, H3, H4, -⟩ Hk
  iapply w0 $$ [Ho H0 Hc0]
  · isplitr; · iexact Hctx
    isplitl [Hc0]; · iexact Hc0
    isplitl [Ho] <;> iassumption
  iintro ⟨Ho, H0, Hp0⟩
  iapply w2 $$ [Ho H2 Hc2]
  · isplitr; · iexact Hctx
    isplitl [Hc2]; · iexact Hc2
    isplitl [Ho] <;> iassumption
  iintro ⟨Ho, H2, Hp2⟩
  ihave Hp0 := (show dpay I c ((0 : Fin 8) : ℕ) b ⊢ some' c (hf (jj b) (nyb c)) fullShare from entails_refl _) $$ Hp0
  ihave Hp2 := (show dpay I c ((2 : Fin 8) : ℕ) b ⊢ some' c (sl qM (jj b)) shL from entails_refl _) $$ Hp2
  iapply Hk
  isplitl [Ho]; · iexact Ho
  isplitl [Hy]; · iexact Hy
  isplitl [Hp0]; · iexact Hp0
  isplitl [Hr]; · iexact Hr
  isplitl [Hp2]; · iexact Hp2
  isplitl [H0]; · iexact H0
  isplitl [H1]; · iexact H1
  isplitl [H2]; · iexact H2
  isplitl [H3] <;> iassumption

/-- The last step's waits. -/
theorem fin_core {α : Type} {Q : α → sProp 𝕄} (c : Dev nD) (i : grid0.Coords) (hi : (i 0).val = 18)
    {arg1 : Memref sig .tc .vmem S512x4096 .bf16} {harg1 : arg1.IsWhole} {arg2 : Memref sig .tc .vmem S4096x512 .f32} {harg2 : arg2.IsWhole}
    {arg3 : Memref sig .tc .vmem S1024x512 .f32} {harg3 : arg3.IsWhole} {R : Prog (TpuEff nD τ sig (Elt F) Λ₀ .tc) α} :
    iprop(ctx I κ ιs ∗ owesE c 0 ∗ (crd (F := F) c 0 12 ∗ crd c 1 6 ∗ crd c 2 6 ∗ crd c 3 6 ∗ crd c 4 6)
        ∗ (St4 c 16 ∗ St4 c 17 ∗ St4 c 18 ∗ St4 c 19))
      ⊢ iprop(((owesE c 0 ∗ (atPos ER (rcell c 0) 1 ∅ 0 ∗ atPos ER (rcell c 1) 1 ∅ 0 ∗ atPos ER (rcell c 2) 1 ∅ 0 ∗ atPos ER (rcell c 3) 1 ∅ 0
            ∗ atPos ER (rcell c 4) 1 ∅ 0) ∗ (slotE c 16 ∗ slotE c 17 ∗ slotE c 18 ∗ slotE c 19)) -∗ wpc c R Q)
        -∗ wpc c (finStage i c arg1 harg1 arg2 harg2 arg3 harg3 (wi i) (wx c) (wy c) (wz c) (wq c) (wn c) R) Q) := by
  have h1 : k0_cond15 i = 1#1 := (cond15_iff i).mpr hi
  unfold finStage
  rw [dif_pos h1]
  unfold k0_part8 k0_part9 k0_part10
  simp only [semSignalWord, semWaitWord, Prog.lift, Prog.bind_op, Prog.bind_ret, Prog.pure_eq_ret, dite_bind, one_toInt]
  iintro ⟨#Hctx, Ho, ⟨C0, C1, C2, C3, C4⟩, ⟨S0, S1, S2, S3⟩⟩ Hk
  iapply (wp_fwait I (κ := κ) (ιs := ιs) c 0 12 4 rfl rfl) $$ [Ho C0]
  · isplitr; · iexact Hctx
    isplitl [Ho] <;> iassumption
  iintro ⟨Ho, C0⟩
  iapply (wp_fwait I (κ := κ) (ιs := ιs) c 1 6 2 rfl rfl) $$ [Ho C1]
  · isplitr; · iexact Hctx
    isplitl [Ho] <;> iassumption
  iintro ⟨Ho, C1⟩
  iapply (wp_fwait I (κ := κ) (ιs := ιs) c 2 6 2 rfl rfl) $$ [Ho C2]
  · isplitr; · iexact Hctx
    isplitl [Ho] <;> iassumption
  iintro ⟨Ho, C2⟩
  iapply (wp_fwait I (κ := κ) (ιs := ιs) c 3 6 2 rfl rfl) $$ [Ho C3]
  · isplitr; · iexact Hctx
    isplitl [Ho] <;> iassumption
  iintro ⟨Ho, C3⟩
  iapply (wp_fwait I (κ := κ) (ιs := ιs) c 4 6 2 rfl rfl) $$ [Ho C4]
  · isplitr; · iexact Hctx
    isplitl [Ho] <;> iassumption
  iintro ⟨Ho, C4⟩
  iapply (wp_fin2 I (κ := κ) (ιs := ιs) c 16 (by decide) (by decide) (sem_slice _ _ _ _ 0 (by decide) rfl) (sem_slice _ _ _ _ 0 (by decide) rfl)) $$ [Ho S0]
  · isplitr; · iexact Hctx
    isplitl [Ho] <;> iassumption
  iintro ⟨Ho, S0⟩
  iapply (wp_fin2 I (κ := κ) (ιs := ιs) c 17 (by decide) (by decide) (sem_slice _ _ _ _ 1 (by decide) rfl) (sem_slice _ _ _ _ 1 (by decide) rfl)) $$ [Ho S1]
  · isplitr; · iexact Hctx
    isplitl [Ho] <;> iassumption
  iintro ⟨Ho, S1⟩
  iapply (wp_fin2 I (κ := κ) (ιs := ιs) c 18 (by decide) (by decide) (sem_slice _ _ _ _ 2 (by decide) rfl) (sem_slice _ _ _ _ 2 (by decide) rfl)) $$ [Ho S2]
  · isplitr; · iexact Hctx
    isplitl [Ho] <;> iassumption
  iintro ⟨Ho, S2⟩
  iapply (wp_fin2 I (κ := κ) (ιs := ιs) c 19 (by decide) (by decide) (sem_slice _ _ _ _ 3 (by decide) rfl) (sem_slice _ _ _ _ 3 (by decide) rfl)) $$ [Ho S3]
  · isplitr; · iexact Hctx
    isplitl [Ho] <;> iassumption
  iintro ⟨Ho, S3⟩
  iapply Hk
  isplitl [Ho]; · iexact Ho
  isplitl [C0 C1 C2 C3 C4]
  · isplitl [C0]; · iexact C0
    isplitl [C1]; · iexact C1
    isplitl [C2]; · iexact C2
    isplitl [C3] <;> iassumption
  isplitl [S0]; · iexact S0
  isplitl [S1]; · iexact S1
  isplitl [S2] <;> iassumption

end Cert.Proof
-- ==== Proof.Mid.lean ====
module

public import proofs.«01_k».proof.Proof.Stage0
public import proofs.«01_k».proof.Proof.Stage1
public import proofs.«01_k».proof.Proof.Stage2
public import proofs.«01_k».proof.Proof.Stage3
public import proofs.«01_k».proof.Proof.Bar
public import proofs.«01_k».proof.Proof.Fin

/-! A step's stages, whether they have work or not. -/

@[expose] public section

noncomputable section

namespace Cert.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (I : Inp F)
variable {κ : Dev nD × CK → ℕ} {ιs : Key → ℕ}

/-! ## What is owed at a step -/

def A0 (c : Dev nD) (a : ℕ) : CellTallies nD τ sig ℕ := ∑ b ∈ Finset.Ico a 16, due0 c b
def A1 (c : Dev nD) (a : ℕ) : CellTallies nD τ sig ℕ := ∑ b ∈ Finset.Ico a 16, due1 c b
def A2 (c : Dev nD) (a : ℕ) : CellTallies nD τ sig ℕ := ∑ b ∈ Finset.Ico a 16, due2 c b
def A3 (c : Dev nD) (a : ℕ) : CellTallies nD τ sig ℕ := ∑ b ∈ Finset.Ico a 16, due3 c b

theorem above0 (c : Dev nD) {s a : ℕ} (h : s ≤ a) : Above s (A0 c a) :=
  Above.sum _ _ fun b hb => by
    have := Finset.mem_Ico.mp hb
    exact Above.tally _ _ _ (by omega) (by omega)
theorem above1 (c : Dev nD) {s a : ℕ} (h : s ≤ a + 1) : Above s (A1 c a) :=
  Above.sum _ _ fun b hb => by
    have := Finset.mem_Ico.mp hb
    exact (Above.tally _ _ _ (by omega) (by omega)).add (Above.tally _ _ _ (by omega) (by omega))
theorem above2 (c : Dev nD) {s a : ℕ} (h : s ≤ a + 2) : Above s (A2 c a) :=
  Above.sum _ _ fun b hb => by
    have := Finset.mem_Ico.mp hb
    exact (Above.tally _ _ _ (by omega) (by omega)).add (Above.tally _ _ _ (by omega) (by omega))
theorem above3 (c : Dev nD) {s a : ℕ} (h : s ≤ a + 3) : Above s (A3 c a) :=
  Above.sum _ _ fun b hb => by
    have := Finset.mem_Ico.mp hb
    exact (Above.tally _ _ _ (by omega) (by omega)).add (Above.tally _ _ _ (by omega) (by omega))

theorem sum_head {M : Type} [AddCommMonoid M] (D : ℕ → M) (O : M) {a : ℕ} (h : a < 16) :
    O + ∑ b ∈ Finset.Ico a 16, D b = (O + ∑ b ∈ Finset.Ico (a + 1) 16, D b) + D a := by
  have e : Finset.Ico a 16 = insert a (Finset.Ico (a + 1) 16) := by
    ext x; simp only [Finset.mem_insert, Finset.mem_Ico]; omega
  rw [e, Finset.sum_insert (by simp), add_comm (D a), add_assoc]
theorem sum_end {M : Type} [AddCommMonoid M] (D : ℕ → M) {a : ℕ} (h : 16 ≤ a) : ∑ b ∈ Finset.Ico a 16, D b = 0 := by
  rw [Finset.Ico_eq_empty (by omega), Finset.sum_empty]
theorem add_four {M : Type} [AddCommMonoid M] (p q r t : M) : p + q + r + t = (q + r + t) + p ∧ p + q + r + t = (p + r + t) + q ∧ p + q + r + t = (p + q + t) + r := by
  refine ⟨?_, ?_, ?_⟩
  · rw [add_comm (q + r + t) p, add_assoc, add_assoc, add_assoc]
  · rw [add_assoc (p + r), add_comm t q, ← add_assoc, add_assoc p r q, add_comm r q, ← add_assoc]
  · rw [add_assoc (p + q), add_comm r t, ← add_assoc]

/-- What a device owes before step `s`, the barrier behind it. -/
def owedM (c : Dev nD) (s : ℕ) : CellTallies nD τ sig ℕ := A0 c s + A1 c (s - 1) + A2 c (s - 2) + A3 c (s - 3)

theorem owedM_above (c : Dev nD) (s : ℕ) : Above s (owedM c s) :=
  (((above0 c le_rfl).add (above1 c (by omega))).add (above2 c (by omega))).add (above3 c (by omega))
theorem owedM_end (c : Dev nD) {s : ℕ} (h : 19 ≤ s) : owedM c s = 0 := by
  unfold owedM A0 A1 A2 A3
  rw [sum_end _ (by omega), sum_end _ (by omega), sum_end _ (by omega), sum_end _ (by omega), add_zero, add_zero, add_zero]

/-! ## The slots between the steps -/

/-- A slot after a stage, in the blocks' order: before its first block and after its last the same at every stage. -/
def Pos (S : ℕ → sProp 𝕄) (c : Dev nD) (n : ℕ) : sProp 𝕄 := if 4 ≤ n ∧ n < 20 then S (n - 4) else if n < 4 then St4 c n else St4 c (n - 4)

theorem Pos_mid (S : ℕ → sProp 𝕄) (c : Dev nD) {n : ℕ} (h : n < 16) : Pos S c (n + 4) = S n := by
  unfold Pos; rw [if_pos (by omega)]; rfl
theorem Pos_out (S S' : ℕ → sProp 𝕄) (c : Dev nD) {n : ℕ} (h : n < 4 ∨ 20 ≤ n) : Pos S c n = Pos S' c n := by
  unfold Pos; rw [if_neg (show ¬(4 ≤ n ∧ n < 20) by omega), if_neg (show ¬(4 ≤ n ∧ n < 20) by omega)]
theorem Pos_low (S : ℕ → sProp 𝕄) (c : Dev nD) {n : ℕ} (h : n < 4) : Pos S c n = St4 c n := by
  unfold Pos; rw [if_neg (by omega), if_pos h]
theorem Pos_high (S : ℕ → sProp 𝕄) (c : Dev nD) {n : ℕ} (h : 16 ≤ n) : Pos S c (n + 4) = St4 c n := by
  unfold Pos; rw [if_neg (by omega), if_neg (by omega)]; rfl

/-- How far the releases are known. -/
def kr (n : ℕ) : ℕ := max 4 (min n 20)

/-- A stage that has nothing left to do. -/
theorem stay {α : Type} {Q : α → sProp 𝕄} (c : Dev nD) (A B : sProp 𝕄) (h : A ⊢ B) (R : Prog (TpuEff nD τ sig (Elt F) Λ₀ .tc) α) :
    A ⊢ iprop((B -∗ wpc c R Q) -∗ wpc c R Q) := by
  iintro H Hk
  iapply Hk
  iapply h; iexact H

section
variable (c : Dev nD) (i : grid0.Coords) (s : ℕ) (hs : s < 19) (hi : (i 0).val = s)
  {arg1 : Memref sig .tc .vmem S512x4096 .bf16} {harg1 : arg1.IsWhole} {arg2 : Memref sig .tc .vmem S4096x512 .f32} {harg2 : arg2.IsWhole}
  {arg3 : Memref sig .tc .vmem S1024x512 .f32} {harg3 : arg3.IsWhole}

include hs hi

/-- The first stage at any step. -/
theorem mid0 {α : Type} {Q : α → sProp 𝕄} {R : Prog (TpuEff nD τ sig (Elt F) Λ₀ .tc) α} {O : CellTallies nD τ sig ℕ} (hO : Above s O) {q1 q2 : PosShare TreeShare} :
    iprop(ctx I κ ιs ∗ greets c ∗ (own c arg1 q1 (I.A c) ∗ own c arg2 q2 (I.B c (min s 15))) ∗ owesE c (O + A0 c s) ∗ St4 c s
        ∗ BI.bigSep (Finset.Ico s 16) (tok0 c) ∗ crd c 0 (min s 16 - 4))
      ⊢ iprop((((own c arg1 q1 (I.A c) ∗ own c arg2 q2 (I.B c (min s 15))) ∗ owesE c (O + A0 c (s + 1)) ∗ Pos (St1 I c) c (s + 4)
          ∗ BI.bigSep (Finset.Ico (s + 1) 16) (tok0 c) ∗ crd c 0 (min (s + 1) 16 - 4)) -∗ wpc c R Q)
        -∗ wpc c (stage0 i c arg1 harg1 arg2 harg2 arg3 harg3 (wi i) (wx c) (wy c) (wz c) (wq c) (wn c) R) Q) := by
  by_cases hb : s < 16
  · rw [Pos_mid _ _ hb, show min s 15 = s by omega, show min s 16 = s by omega, show min (s + 1) 16 = s + 1 by omega,
      show O + A0 c s = (O + A0 c (s + 1)) + due0 c s from sum_head _ _ hb]
    have hO' : Above s (O + A0 c (s + 1)) := hO.add (above0 c (by omega))
    iintro ⟨#Hctx, #Hg, ⟨H1, H2⟩, Ho, HS, Ht, Hc⟩ Hk
    ihave Ht := (bs_head (Φ := tok0 (F := F) c) hb) $$ Ht
    icases Ht with ⟨Ht, Hts⟩
    iapply (stage0_core I (κ := κ) (ιs := ιs) c i s hb hi hO') $$ [H1 H2 Ho HS Ht Hc]
    · isplitr; · iexact Hctx
      isplitr; · iexact Hg
      isplitl [H1]; · iexact H1
      isplitl [H2]; · iexact H2
      isplitl [Ho]; · iexact Ho
      isplitl [HS]; · iexact HS
      isplitl [Ht] <;> iassumption
    iintro ⟨H1, H2, Ho, HS, Hc⟩
    iapply Hk
    isplitl [H1 H2]; · isplitl [H1] <;> iassumption
    isplitl [Ho]; · iexact Ho
    isplitl [HS]; · iexact HS
    isplitl [Hts] <;> iassumption
  · have h2 : ¬ k0_cond2 i = 1#1 := by rw [cond2_iff]; omega
    unfold stage0
    rw [dif_neg h2, Pos_high _ _ (by omega), show min s 16 = 16 by omega, show min (s + 1) 16 = 16 by omega,
      Finset.Ico_eq_empty (show ¬ s < 16 by omega), Finset.Ico_eq_empty (show ¬ s + 1 < 16 by omega),
      show A0 c s = 0 from sum_end _ (by omega), show A0 c (s + 1) = 0 from sum_end _ (by omega)]
    apply stay
    iintro ⟨-, -, H1, Ho, HS, Ht, Hc⟩
    isplitl [H1]; · iexact H1
    isplitl [Ho]; · iexact Ho
    isplitl [HS]; · iexact HS
    isplitl [Ht] <;> iassumption

/-- The second stage at any step. -/
theorem mid1 {α : Type} {Q : α → sProp 𝕄} {R : Prog (TpuEff nD τ sig (Elt F) Λ₀ .tc) α} {O : CellTallies nD τ sig ℕ} (hO : Above s O) :
    iprop(ctx I κ ιs ∗ greets c ∗ Rels (F := F) c 0 (kr (s + 3)) ∗ owesE c (O + A1 c (s - 1)) ∗ Pos (St1 I c) c (s + 3)
        ∗ BI.bigSep (Finset.Ico (s - 1) 16) (tok1 c) ∗ crd c 1 (cnt 0 (s - 1)) ∗ crd c 2 (cnt 1 (s - 1)))
      ⊢ iprop(((Rels (F := F) c 0 (kr (s + 4)) ∗ owesE c (O + A1 c s) ∗ Pos (St2 I c) c (s + 3)
          ∗ BI.bigSep (Finset.Ico s 16) (tok1 c) ∗ crd c 1 (cnt 0 s) ∗ crd c 2 (cnt 1 s)) -∗ wpc c R Q)
        -∗ wpc c (stage1 i c arg1 harg1 arg2 harg2 arg3 harg3 (wi i) (wx c) (wy c) (wz c) (wq c) (wn c) R) Q) := by
  by_cases hb : 1 ≤ s ∧ s ≤ 16
  · obtain ⟨b, rfl⟩ : ∃ b, s = b + 1 := ⟨s - 1, by omega⟩
    have hb' : b < 16 := by omega
    rw [show b + 1 + 3 = b + 4 by omega, Pos_mid _ _ hb', Pos_mid _ _ hb', Nat.add_sub_cancel, show kr (b + 4) = b + 4 by unfold kr; omega,
      show kr (b + 1 + 4) = b + 5 by unfold kr; omega, show O + A1 c b = (O + A1 c (b + 1)) + due1 c b from sum_head _ _ hb']
    have hO' : Above (b + 1) (O + A1 c (b + 1)) := hO.add (above1 c (by omega))
    iintro ⟨#Hctx, #Hg, Hr, Ho, HS, Ht, Hc, Hc'⟩ Hk
    ihave Ht := (bs_head (Φ := tok1 (F := F) c) hb') $$ Ht
    icases Ht with ⟨Ht, Hts⟩
    iapply (stage1_core I (κ := κ) (ιs := ιs) c i b hb' hi hO') $$ [Hr Ho HS Ht Hc Hc']
    · isplitr; · iexact Hctx
      isplitr; · iexact Hg
      isplitl [Hr]; · iexact Hr
      isplitl [Ho]; · iexact Ho
      isplitl [HS]; · iexact HS
      isplitl [Ht]; · iexact Ht
      isplitl [Hc] <;> iassumption
    iintro ⟨Hr, Ho, HS, Hc, Hc'⟩
    iapply Hk
    isplitl [Hr]; · iexact Hr
    isplitl [Ho]; · iexact Ho
    isplitl [HS]; · iexact HS
    isplitl [Hts]; · iexact Hts
    isplitl [Hc] <;> iassumption
  · have h2 : ¬ k0_cond5 i = 1#1 := by rw [cond5_iff]; omega
    have e1 : Finset.Ico (s - 1) 16 = Finset.Ico s 16 := by ext x; simp only [Finset.mem_Ico]; omega
    unfold stage1
    rw [dif_neg h2, Pos_out (St1 I c) (St2 I c) c (by omega), show kr (s + 4) = kr (s + 3) by unfold kr; omega,
      show cnt 0 s = cnt 0 (s - 1) by unfold cnt; omega, show cnt 1 s = cnt 1 (s - 1) by unfold cnt; omega, show A1 c (s - 1) = A1 c s by unfold A1; rw [e1], e1]
    apply stay
    iintro ⟨-, -, Hr, Ho, HS, Ht, Hc⟩
    isplitl [Hr]; · iexact Hr
    isplitl [Ho]; · iexact Ho
    isplitl [HS]; · iexact HS
    isplitl [Ht] <;> iassumption

/-- The third stage at any step. -/
theorem mid2 {α : Type} {Q : α → sProp 𝕄} {R : Prog (TpuEff nD τ sig (Elt F) Λ₀ .tc) α} {O : CellTallies nD τ sig ℕ} (hO : Above s O) :
    iprop(ctx I κ ιs ∗ greets c ∗ owesE c (O + A2 c (s - 2)) ∗ Pos (St2 I c) c (s + 2)
        ∗ BI.bigSep (Finset.Ico (s - 2) 16) (tok2 c) ∗ crd (F := F) c 3 (cnt 0 (s - 2)) ∗ crd c 4 (cnt 1 (s - 2)))
      ⊢ iprop(((owesE c (O + A2 c (s - 1)) ∗ Pos (St3 (F := F) c) c (s + 2)
          ∗ BI.bigSep (Finset.Ico (s - 1) 16) (tok2 c) ∗ crd c 3 (cnt 0 (s - 1)) ∗ crd c 4 (cnt 1 (s - 1))) -∗ wpc c R Q)
        -∗ wpc c (stage2 i c arg1 harg1 arg2 harg2 arg3 harg3 (wi i) (wx c) (wy c) (wz c) (wq c) (wn c) R) Q) := by
  by_cases hb : 2 ≤ s ∧ s ≤ 17
  · obtain ⟨b, rfl⟩ : ∃ b, s = b + 2 := ⟨s - 2, by omega⟩
    have hb' : b < 16 := by omega
    rw [show b + 2 + 2 = b + 4 by omega, Pos_mid _ _ hb', Pos_mid _ _ hb', Nat.add_sub_cancel, show b + 2 - 1 = b + 1 by omega,
      show O + A2 c b = (O + A2 c (b + 1)) + due2 c b from sum_head _ _ hb']
    have hO' : Above (b + 2) (O + A2 c (b + 1)) := hO.add (above2 c (by omega))
    iintro ⟨#Hctx, #Hg, Ho, HS, Ht, Hc, Hc'⟩ Hk
    ihave Ht := (bs_head (Φ := tok2 (F := F) c) hb') $$ Ht
    icases Ht with ⟨Ht, Hts⟩
    iapply (stage2_core I (κ := κ) (ιs := ιs) c i b hb' hi hO') $$ [Ho HS Ht Hc Hc']
    · isplitr; · iexact Hctx
      isplitr; · iexact Hg
      isplitl [Ho]; · iexact Ho
      isplitl [HS]; · iexact HS
      isplitl [Ht]; · iexact Ht
      isplitl [Hc] <;> iassumption
    iintro ⟨Ho, HS, Hc, Hc'⟩
    iapply Hk
    isplitl [Ho]; · iexact Ho
    isplitl [HS]; · iexact HS
    isplitl [Hts]; · iexact Hts
    isplitl [Hc] <;> iassumption
  · have h2 : ¬ k0_cond9 i = 1#1 := by rw [cond9_iff]; omega
    have e1 : Finset.Ico (s - 2) 16 = Finset.Ico (s - 1) 16 := by ext x; simp only [Finset.mem_Ico]; omega
    unfold stage2
    rw [dif_neg h2, Pos_out (St2 I c) (St3 c) c (by omega),
      show cnt 0 (s - 1) = cnt 0 (s - 2) by unfold cnt; omega, show cnt 1 (s - 1) = cnt 1 (s - 2) by unfold cnt; omega, show A2 c (s - 2) = A2 c (s - 1) by unfold A2; rw [e1], e1]
    apply stay
    iintro ⟨-, -, Ho, HS, Ht, Hc⟩
    isplitl [Ho]; · iexact Ho
    isplitl [HS]; · iexact HS
    isplitl [Ht] <;> iassumption

/-- The last stage at any step. -/
theorem mid3 {α : Type} {Q : α → sProp 𝕄} {R : Prog (TpuEff nD τ sig (Elt F) Λ₀ .tc) α} {O : CellTallies nD τ sig ℕ} (hO : Above s O) {X : S1024x512.Idx → Elt F .f32} :
    iprop(ctx I κ ιs ∗ greets c ∗ (Rels (F := F) c 1 (kr (s + 1)) ∗ Rels c 2 (kr (s + 1))) ∗ own c arg3 fullShare X ∗ owesE c (O + A3 c (s - 3))
        ∗ Pos (St3 c) c (s + 1) ∗ BI.bigSep (Finset.Ico (s - 3) 16) (tok3 c))
      ⊢ iprop((((Rels (F := F) c 1 (kr (s + 2)) ∗ Rels c 2 (kr (s + 2))) ∗ own c arg3 fullShare (if s < 3 then X else outv I c (s - 3)) ∗ owesE c (O + A3 c (s - 2))
          ∗ St4 c (s + 1) ∗ BI.bigSep (Finset.Ico (s - 2) 16) (tok3 c)) -∗ wpc c R Q)
        -∗ wpc c (stage3 i c arg1 harg1 arg2 harg2 arg3 harg3 (wi i) (wx c) (wy c) (wz c) (wq c) (wn c) R) Q) := by
  by_cases hb : 3 ≤ s
  · obtain ⟨b, rfl⟩ : ∃ b, s = b + 3 := ⟨s - 3, by omega⟩
    have hb' : b < 16 := by omega
    rw [show b + 3 + 1 = b + 4 by omega, Pos_mid _ _ hb', Nat.add_sub_cancel, show b + 3 - 2 = b + 1 by omega, if_neg (by omega), show kr (b + 4) = b + 4 by unfold kr; omega,
      show kr (b + 3 + 2) = b + 5 by unfold kr; omega,
      show O + A3 c b = (O + A3 c (b + 1)) + due3 c b from sum_head _ _ hb']
    have hO' : Above (b + 3) (O + A3 c (b + 1)) := hO.add (above3 c (by omega))
    iintro ⟨#Hctx, #Hg, ⟨Hr, Hr'⟩, H3, Ho, HS, Ht⟩ Hk
    ihave Ht := (bs_head (Φ := tok3 (F := F) c) hb') $$ Ht
    icases Ht with ⟨Ht, Hts⟩
    iapply (stage3_core I (κ := κ) (ιs := ιs) c i b hb' hi hO') $$ [Hr Hr' H3 Ho HS Ht]
    · isplitr; · iexact Hctx
      isplitr; · iexact Hg
      isplitl [Hr]; · iexact Hr
      isplitl [Hr']; · iexact Hr'
      isplitl [H3]; · iexact H3
      isplitl [Ho]; · iexact Ho
      isplitl [HS] <;> iassumption
    iintro ⟨Hr, Hr', H3, Ho, HS⟩
    iapply Hk
    isplitl [Hr Hr']; · isplitl [Hr] <;> iassumption
    isplitl [H3]; · iexact H3
    isplitl [Ho]; · iexact Ho
    isplitl [HS] <;> iassumption
  · have h2 : ¬ k0_cond12 i = 1#1 := by rw [cond12_iff]; omega
    have e1 : Finset.Ico (s - 3) 16 = Finset.Ico (s - 2) 16 := by ext x; simp only [Finset.mem_Ico]; omega
    unfold stage3
    rw [dif_neg h2, Pos_low _ _ (by omega), if_pos (by omega), show kr (s + 2) = kr (s + 1) by unfold kr; omega,
      show A3 c (s - 3) = A3 c (s - 2) by unfold A3; rw [e1], e1]
    apply stay
    iintro ⟨-, -, Hr, H3, Ho, HS, Ht⟩
    isplitl [Hr]; · iexact Hr
    isplitl [H3]; · iexact H3
    isplitl [Ho]; · iexact Ho
    isplitl [HS] <;> iassumption

end

end Cert.Proof
-- ==== Proof.Step.lean ====
module

public import proofs.«01_k».proof.Proof.Mid

/-! A step of the kernel. -/

@[expose] public section

noncomputable section

namespace Cert.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (I : Inp F)
variable {κ : Dev nD × CK → ℕ} {ιs : Key → ℕ}

/-! ## What a device holds before each step -/

/-- What the blocks' steps from step `s` on use up. -/
def toks (c : Dev nD) (s : ℕ) : sProp 𝕄 :=
  iprop(BI.bigSep (Finset.Ico s 16) (tok0 (F := F) c) ∗ BI.bigSep (Finset.Ico (s - 1) 16) (tok1 c) ∗ BI.bigSep (Finset.Ico (s - 2) 16) (tok2 c)
    ∗ BI.bigSep (Finset.Ico (s - 3) 16) (tok3 c))
/-- The signal cells before step `s`. -/
def crds (c : Dev nD) (s : ℕ) : sProp 𝕄 :=
  iprop(crd (F := F) c 0 (min s 16 - 4) ∗ (crd c 1 (cnt 0 (s - 1)) ∗ crd c 2 (cnt 1 (s - 1))) ∗ (crd c 3 (cnt 0 (s - 2)) ∗ crd c 4 (cnt 1 (s - 2))))
/-- The slots before step `s`. -/
def slots (c : Dev nD) (s : ℕ) : sProp 𝕄 :=
  iprop(Pos (St1 I c) c (s + 3) ∗ Pos (St2 I c) c (s + 2) ∗ Pos (St3 c) c (s + 1) ∗ St4 c s)
/-- What is known of releases before step `s`. -/
def knows (c : Dev nD) (s : ℕ) : sProp 𝕄 :=
  iprop(Rels (F := F) c 0 (kr (s + 3)) ∗ Rels c 1 (kr (s + 1)) ∗ Rels c 2 (kr (s + 1)))
def Mid (c : Dev nD) (s : ℕ) : sProp 𝕄 := iprop(slots I c s ∗ toks c s ∗ crds c s ∗ greets c ∗ knows c s)

/-- What an owner keeps to take a slot's landing buffers back at the end. -/
def last1 (c : Dev nD) (n : ℕ) : sProp 𝕄 :=
  iprop(writeTok ES ((c, 0, jj n) : Key) (n / 4 + 1) ∗ writeTok ES ((c, 1, jj n) : Key) (n / 4 + 1) ∗ writeTok ES ((c, 2, jj n) : Key) (n / 4 + 1))
def lasts (c : Dev nD) : sProp 𝕄 := iprop(last1 (F := F) c 16 ∗ last1 c 17 ∗ last1 c 18 ∗ last1 c 19)

/-- Before the first step. -/
def Init (c : Dev nD) : sProp 𝕄 :=
  iprop((slot0 (F := F) c 0 ∗ slot0 c 1 ∗ slot0 c 2 ∗ slot0 c 3) ∗ opens c ∗ tokB c ∗ toks c 0 ∗ crds c 0)

/-- A slot's buffers, at the end. -/
def slotD (c : Dev nD) (n : ℕ) : sProp 𝕄 :=
  iprop(some' (F := F) c (hf (jj n) (yb c)) fullShare ∗ some' c (hf (jj n) (nyb c)) fullShare ∗ some' c (sl qM (jj n)) shR ∗ some' c (sl qM (jj n)) shL
    ∗ slotOf (c, 0, jj n) ∗ slotOf (c, 1, jj n) ∗ slotOf (c, 2, jj n))
/-- A slot's counters, at the end. -/
def slotZ (c : Dev nD) (n : ℕ) : sProp 𝕄 :=
  iprop(semVal (dcell c 0 (jj n)) 0 ∗ semVal (dcell c 1 (jj n)) 0 ∗ semVal (dcell c 2 (jj n)) 0 ∗ semVal (dcell c 3 (jj n)) 0
    ∗ semVal (dcell c 4 (jj n)) 0 ∗ semVal (dcell c 5 (jj n)) 0 ∗ semVal (dcell c 6 (jj n)) 0 ∗ semVal (dcell c 7 (jj n)) 0)
def regsZ (c : Dev nD) : sProp 𝕄 :=
  iprop(semVal (rcell c 0) 0 ∗ semVal (rcell c 1) 0 ∗ semVal (rcell c 2) 0 ∗ semVal (rcell c 3) 0 ∗ semVal (rcell c 4) 0)
/-- After the last step. -/
def Fin' (c : Dev nD) : sProp 𝕄 :=
  iprop((slotD (F := F) c 16 ∗ slotD c 17 ∗ slotD c 18 ∗ slotD c 19) ∗ (slotZ c 16 ∗ slotZ c 17 ∗ slotZ c 18 ∗ slotZ c 19) ∗ regsZ c ∗ semVal (rcell c 5) 0)

/-- The barrier's cell, behind it. -/
def barD (c : Dev nD) : sProp 𝕄 := atPos ER (rcell c 5) 1 ∅ 0
/-- What a device holds before step `s`. -/
def Hold (c : Dev nD) (s : ℕ) : sProp 𝕄 :=
  if s = 0 then iprop(Init c ∗ lasts c) else if s < 19 then iprop(Mid I c s ∗ lasts c ∗ barD c) else Fin' c
/-- What a device owes before step `s`. -/
def owedS (c : Dev nD) (s : ℕ) : CellTallies nD τ sig ℕ := if s = 0 then owedM c 0 + dueB c else owedM c s

/-! ## Closing -/

theorem close_d (c : Dev nD) (k : Fin 8) (j : Fin 4) :
    iprop(ctx I κ ιs ∗ at' (F := F) c k j 4) ⊢ (|={Set.univ}=> semVal (dcell c k j) 0 : sProp 𝕄) := by
  unfold at'
  iintro ⟨#Hctx, Hat, -⟩
  ihave #Hg := (ctx_d I c k j) $$ Hctx
  iapply (Rounds.cell_close ER (Rd I) (Set.mem_univ (κ (c, .inl (k, j)))) id (R := 4) (fun r hr => duties_d_end I c k j hr))
  isplitr; · iexact Hg
  iexact Hat
theorem close_r (c : Dev nD) (q : Fin 6) :
    iprop(ctx I κ ιs ∗ atPos ER (rcell c q) 1 ∅ 0) ⊢ (|={Set.univ}=> semVal (rcell c q) 0 : sProp 𝕄) := by
  iintro ⟨#Hctx, Hat⟩
  ihave #Hg := (ctx_r I c q) $$ Hctx
  iapply (Rounds.cell_close ER (Rd I) (Set.mem_univ (κ (c, .inr q))) id (R := 1) (fun r hr => duties_r_end I c q hr))
  isplitr; · iexact Hg
  iexact Hat

/-- A slot closed: the landing buffers taken back, the counters at zero. -/
theorem close_slot (c : Dev nD) (n : ℕ) (hn : n < 20) :
    iprop(ctx I κ ιs ∗ (Rels (F := F) c 0 20 ∗ Rels c 1 20 ∗ Rels c 2 20) ∗ slotE c n ∗ last1 c n) ⊢ (|={Set.univ}=> (slotD c n ∗ slotZ c n) : sProp 𝕄) := by
  unfold slotE last1 slotD slotZ rest4
  iintro ⟨#Hctx, ⟨#R0, #R1, #R2⟩, ⟨Ha, Hb, Hr, Hl, H0, H1, H2, H3, H4, H5, H6, H7⟩, W0, W1, W2⟩
  imod (rel_take I (κ := κ) (ιs := ιs) c 0 n) $$ [W0] with S0
  · isplitr; · iexact Hctx
    isplitr; · iapply (Rels_get c 0 hn); iexact R0
    iexact W0
  imod (rel_take I (κ := κ) (ιs := ιs) c 1 n) $$ [W1] with S1
  · isplitr; · iexact Hctx
    isplitr; · iapply (Rels_get c 1 hn); iexact R1
    iexact W1
  imod (rel_take I (κ := κ) (ιs := ιs) c 2 n) $$ [W2] with S2
  · isplitr; · iexact Hctx
    isplitr; · iapply (Rels_get c 2 hn); iexact R2
    iexact W2
  imod (close_d I (κ := κ) (ιs := ιs) c 0 (jj n)) $$ [H0] with H0
  · isplitr; · iexact Hctx
    iexact H0
  imod (close_d I (κ := κ) (ιs := ιs) c 1 (jj n)) $$ [H1] with H1
  · isplitr; · iexact Hctx
    iexact H1
  imod (close_d I (κ := κ) (ιs := ιs) c 2 (jj n)) $$ [H2] with H2
  · isplitr; · iexact Hctx
    iexact H2
  imod (close_d I (κ := κ) (ιs := ιs) c 3 (jj n)) $$ [H3] with H3
  · isplitr; · iexact Hctx
    iexact H3
  imod (close_d I (κ := κ) (ιs := ιs) c 4 (jj n)) $$ [H4] with H4
  · isplitr; · iexact Hctx
    iexact H4
  imod (close_d I (κ := κ) (ιs := ιs) c 5 (jj n)) $$ [H5] with H5
  · isplitr; · iexact Hctx
    iexact H5
  imod (close_d I (κ := κ) (ιs := ιs) c 6 (jj n)) $$ [H6] with H6
  · isplitr; · iexact Hctx
    iexact H6
  imod (close_d I (κ := κ) (ιs := ιs) c 7 (jj n)) $$ [H7] with H7
  · isplitr; · iexact Hctx
    iexact H7
  imodintro
  isplitl [Ha Hb Hr Hl S0 S1 S2]
  · isplitl [Ha]; · iexact Ha
    isplitl [Hb]; · iexact Hb
    isplitl [Hr]; · iexact Hr
    isplitl [Hl]; · iexact Hl
    isplitl [S0]; · iexact S0
    isplitl [S1] <;> iassumption
  isplitl [H0]; · iexact H0
  isplitl [H1]; · iexact H1
  isplitl [H2]; · iexact H2
  isplitl [H3]; · iexact H3
  isplitl [H4]; · iexact H4
  isplitl [H5]; · iexact H5
  isplitl [H6] <;> iassumption

/-! ## A step -/

theorem owedM_at (c : Dev nD) (s : ℕ) (O : CellTallies nD τ sig ℕ) (h : owedM c s = O) : owesE (F := F) c (owedM c s) ⊢ owesE c O := by
  rw [h]

/-- The four stages of a step. -/
theorem four_mid {α : Type} {Q : α → sProp 𝕄} {R : Prog (TpuEff nD τ sig (Elt F) Λ₀ .tc) α} (c : Dev nD) (i : grid0.Coords) (s : ℕ) (hs : s < 19) (hi : (i 0).val = s)
    {arg1 : Memref sig .tc .vmem S512x4096 .bf16} {harg1 : arg1.IsWhole} {arg2 : Memref sig .tc .vmem S4096x512 .f32} {harg2 : arg2.IsWhole}
    {arg3 : Memref sig .tc .vmem S1024x512 .f32} {harg3 : arg3.IsWhole} {q1 q2 : PosShare TreeShare} {X : S1024x512.Idx → Elt F .f32} :
    iprop(ctx I κ ιs ∗ (own c arg1 q1 (I.A c) ∗ own c arg2 q2 (I.B c (min s 15))) ∗ own c arg3 fullShare X ∗ owesE c (owedM c s) ∗ Mid I c s)
      ⊢ iprop((((own c arg1 q1 (I.A c) ∗ own c arg2 q2 (I.B c (min s 15))) ∗ own c arg3 fullShare (if s < 3 then X else outv I c (s - 3))
          ∗ owesE c (owedM c (s + 1)) ∗ Mid I c (s + 1)) -∗ wpc c R Q)
        -∗ wpc c (stage0 i c arg1 harg1 arg2 harg2 arg3 harg3 (wi i) (wx c) (wy c) (wz c) (wq c) (wn c)
          (stage1 i c arg1 harg1 arg2 harg2 arg3 harg3 (wi i) (wx c) (wy c) (wz c) (wq c) (wn c)
            (stage2 i c arg1 harg1 arg2 harg2 arg3 harg3 (wi i) (wx c) (wy c) (wz c) (wq c) (wn c)
              (stage3 i c arg1 harg1 arg2 harg2 arg3 harg3 (wi i) (wx c) (wy c) (wz c) (wq c) (wn c) R)))) Q) := by
  have a0 (x : ℕ) (h : s ≤ x) := above0 c h
  have e0 := (add_four (A0 c s) (A1 c (s - 1)) (A2 c (s - 2)) (A3 c (s - 3))).1
  have e1 := (add_four (A0 c (s + 1)) (A1 c (s - 1)) (A2 c (s - 2)) (A3 c (s - 3)))
  have e2 := (add_four (A0 c (s + 1)) (A1 c s) (A2 c (s - 2)) (A3 c (s - 3)))
  have e3 := (add_four (A0 c (s + 1)) (A1 c s) (A2 c (s - 1)) (A3 c (s - 3)))
  have e4 := (add_four (A0 c (s + 1)) (A1 c s) (A2 c (s - 1)) (A3 c (s - 2)))
  have h0 : Above s (A1 c (s - 1) + A2 c (s - 2) + A3 c (s - 3)) := ((above1 c (by omega)).add (above2 c (by omega))).add (above3 c (by omega))
  have h1 : Above s (A0 c (s + 1) + A2 c (s - 2) + A3 c (s - 3)) := ((above0 c (by omega)).add (above2 c (by omega))).add (above3 c (by omega))
  have h2 : Above s (A0 c (s + 1) + A1 c s + A3 c (s - 3)) := ((above0 c (by omega)).add (above1 c (by omega))).add (above3 c (by omega))
  have h3 : Above s (A0 c (s + 1) + A1 c s + A2 c (s - 1)) := ((above0 c (by omega)).add (above1 c (by omega))).add (above2 c (by omega))
  unfold Mid slots toks crds knows owedM
  rw [show s + 1 - 1 = s by omega, show s + 1 - 2 = s - 1 by omega, show s + 1 - 3 = s - 2 by omega,
    show s + 1 + 3 = s + 4 by omega, show s + 1 + 2 = s + 3 by omega, show s + 1 + 1 = s + 2 by omega]
  iintro ⟨#Hctx, Hin, H3, Ho, ⟨P1, P2, P3, P4⟩, ⟨T0, T1, T2, T3⟩, ⟨C0, ⟨C1, C2⟩, ⟨C3, C4⟩⟩, #Hg, K0, K12⟩ Hk
  ihave Ho := (Entails.of_eq (congrArg (owesE (F := F) c) e0)) $$ Ho
  iapply (mid0 I (κ := κ) (ιs := ιs) c i s hs hi h0) $$ [Hin Ho P4 T0 C0]
  · isplitr; · iexact Hctx
    isplitr; · iexact Hg
    isplitl [Hin]; · iexact Hin
    isplitl [Ho]; · iexact Ho
    isplitl [P4]; · iexact P4
    isplitl [T0] <;> iassumption
  iintro ⟨Hin, Ho, P4, T0, C0⟩
  ihave Ho := (Entails.of_eq (congrArg (owesE (F := F) c) (e1.1.symm.trans e1.2.1))) $$ Ho
  iapply (mid1 I (κ := κ) (ιs := ιs) c i s hs hi h1) $$ [K0 Ho P1 T1 C1 C2]
  · isplitr; · iexact Hctx
    isplitr; · iexact Hg
    isplitl [K0]; · iexact K0
    isplitl [Ho]; · iexact Ho
    isplitl [P1]; · iexact P1
    isplitl [T1]; · iexact T1
    isplitl [C1] <;> iassumption
  iintro ⟨K0, Ho, P1, T1, C1, C2⟩
  ihave Ho := (Entails.of_eq (congrArg (owesE (F := F) c) (e2.2.1.symm.trans e2.2.2))) $$ Ho
  iapply (mid2 I (κ := κ) (ιs := ιs) c i s hs hi h2) $$ [Ho P2 T2 C3 C4]
  · isplitr; · iexact Hctx
    isplitr; · iexact Hg
    isplitl [Ho]; · iexact Ho
    isplitl [P2]; · iexact P2
    isplitl [T2]; · iexact T2
    isplitl [C3] <;> iassumption
  iintro ⟨Ho, P2, T2, C3, C4⟩
  ihave Ho := (Entails.of_eq (congrArg (owesE (F := F) c) e3.2.2.symm)) $$ Ho
  iapply (mid3 I (κ := κ) (ιs := ιs) c i s hs hi h3) $$ [K12 H3 Ho P3 T3]
  · isplitr; · iexact Hctx
    isplitr; · iexact Hg
    isplitl [K12]; · iexact K12
    isplitl [H3]; · iexact H3
    isplitl [Ho]; · iexact Ho
    isplitl [P3] <;> iassumption
  iintro ⟨K12, H3, Ho, P3, T3⟩
  iapply Hk
  isplitl [Hin]; · iexact Hin
  isplitl [H3]; · iexact H3
  isplitl [Ho]; · iexact Ho
  isplitl [P1 P2 P3 P4]
  · isplitl [P4]; · iexact P4
    isplitl [P1]; · iexact P1
    isplitl [P2] <;> iassumption
  isplitl [T0 T1 T2 T3]
  · isplitl [T0]; · iexact T0
    isplitl [T1]; · iexact T1
    isplitl [T2] <;> iassumption
  isplitl [C0 C1 C2 C3 C4]
  · isplitl [C0]; · iexact C0
    isplitl [C1 C2]
    · isplitl [C1] <;> iassumption
    · isplitl [C3] <;> iassumption
  isplitr; · iexact Hg
  isplitl [K0] <;> iassumption

/-- The whole of a step but the last waits. -/
theorem step_mid {α : Type} {Q : α → sProp 𝕄} {R : Prog (TpuEff nD τ sig (Elt F) Λ₀ .tc) α} (c : Dev nD) (i : grid0.Coords) (s : ℕ) (hs : s < 19) (hi : (i 0).val = s)
    {arg1 : Memref sig .tc .vmem S512x4096 .bf16} {harg1 : arg1.IsWhole} {arg2 : Memref sig .tc .vmem S4096x512 .f32} {harg2 : arg2.IsWhole}
    {arg3 : Memref sig .tc .vmem S1024x512 .f32} {harg3 : arg3.IsWhole} {q1 q2 : PosShare TreeShare} {X : S1024x512.Idx → Elt F .f32} :
    iprop(ctx I κ ιs ∗ (own c arg1 q1 (I.A c) ∗ own c arg2 q2 (I.B c (min s 15))) ∗ own c arg3 fullShare X ∗ owesE c (owedS c s) ∗ Hold I c s)
      ⊢ iprop((((own c arg1 q1 (I.A c) ∗ own c arg2 q2 (I.B c (min s 15))) ∗ own c arg3 fullShare (if s < 3 then X else outv I c (s - 3))
          ∗ owesE c (owedM c (s + 1)) ∗ Mid I c (s + 1) ∗ lasts c ∗ barD c) -∗ wpc c R Q)
        -∗ wpc c (barStage i c arg1 harg1 arg2 harg2 arg3 harg3 (wi i) (wx c) (wy c) (wz c) (wq c) (wn c)
          (stage0 i c arg1 harg1 arg2 harg2 arg3 harg3 (wi i) (wx c) (wy c) (wz c) (wq c) (wn c)
          (stage1 i c arg1 harg1 arg2 harg2 arg3 harg3 (wi i) (wx c) (wy c) (wz c) (wq c) (wn c)
            (stage2 i c arg1 harg1 arg2 harg2 arg3 harg3 (wi i) (wx c) (wy c) (wz c) (wq c) (wn c)
              (stage3 i c arg1 harg1 arg2 harg2 arg3 harg3 (wi i) (wx c) (wy c) (wz c) (wq c) (wn c) R))))) Q) := by
  by_cases h0 : s = 0
  · subst h0
    unfold Hold owedS
    rw [if_pos rfl, if_pos rfl]
    unfold Init
    iintro ⟨#Hctx, Hin, H3, Ho, ⟨HS, Hop, HtB, Ht, Hc⟩, Hl⟩ Hk
    iapply (bar_core I (κ := κ) (ιs := ιs) c i hi (owedM_above c 0)) $$ [HS Hop Ho HtB]
    · isplitr; · iexact Hctx
      isplitl [HS]; · iexact HS
      isplitl [Hop]; · iexact Hop
      isplitl [Ho] <;> iassumption
    iintro ⟨⟨S0, S1, S2, S3⟩, HR, Hg, Ho, Hb⟩
    iapply (four_mid I (κ := κ) (ιs := ιs) c i 0 hs hi) $$ [Hin H3 Ho S0 S1 S2 S3 HR Hg Ht Hc]
    · isplitr; · iexact Hctx
      isplitl [Hin]; · iexact Hin
      isplitl [H3]; · iexact H3
      isplitl [Ho]; · iexact Ho
      unfold Mid slots knows
      rw [Pos_low _ _ (by decide), Pos_low _ _ (by decide), Pos_low _ _ (by decide)]
      isplitl [S0 S1 S2 S3]
      · isplitl [S3]; · iexact S3
        isplitl [S2]; · iexact S2
        isplitl [S1] <;> iassumption
      isplitl [Ht]; · iexact Ht
      isplitl [Hc]; · iexact Hc
      isplitl [Hg]; · iexact Hg
      iexact HR
    iintro ⟨Hin, H3, Ho, Hm⟩
    iapply Hk
    isplitl [Hin]; · iexact Hin
    isplitl [H3]; · iexact H3
    isplitl [Ho]; · iexact Ho
    isplitl [Hm]; · iexact Hm
    isplitl [Hl]; · iexact Hl
    unfold barD; iexact Hb
  · have h1 : ¬ k0_cond1 i = 1#1 := by rw [cond1_iff]; omega
    unfold Hold owedS barStage
    rw [dif_neg h1, if_neg h0, if_neg h0, if_pos hs]
    iintro ⟨#Hctx, Hin, H3, Ho, Hm, Hl, Hb⟩ Hk
    iapply (four_mid I (κ := κ) (ιs := ιs) c i s hs hi) $$ [Hin H3 Ho Hm]
    · isplitr; · iexact Hctx
      isplitl [Hin]; · iexact Hin
      isplitl [H3]; · iexact H3
      isplitl [Ho] <;> iassumption
    iintro ⟨Hin, H3, Ho, Hm⟩
    iapply Hk
    isplitl [Hin]; · iexact Hin
    isplitl [H3]; · iexact H3
    isplitl [Ho]; · iexact Ho
    isplitl [Hm]; · iexact Hm
    isplitl [Hl] <;> iassumption

/-- The last waits and the closing of the cells. -/
theorem step_fin {α : Type} {Q : α → sProp 𝕄} {R : Prog (TpuEff nD τ sig (Elt F) Λ₀ .tc) α} (c : Dev nD) (i : grid0.Coords) (s : ℕ) (hs : s < 19) (hi : (i 0).val = s)
    {arg1 : Memref sig .tc .vmem S512x4096 .bf16} {harg1 : arg1.IsWhole} {arg2 : Memref sig .tc .vmem S4096x512 .f32} {harg2 : arg2.IsWhole}
    {arg3 : Memref sig .tc .vmem S1024x512 .f32} {harg3 : arg3.IsWhole} :
    iprop(ctx I κ ιs ∗ owesE c (owedM c (s + 1)) ∗ Mid I c (s + 1) ∗ lasts c ∗ barD c)
      ⊢ iprop(((owesE c (owedS c (s + 1)) ∗ Hold I c (s + 1)) -∗ wpc c R Q)
        -∗ wpc c (finStage i c arg1 harg1 arg2 harg2 arg3 harg3 (wi i) (wx c) (wy c) (wz c) (wq c) (wn c) R) Q) := by
  by_cases h : s = 18
  · subst h
    unfold Hold owedS
    rw [if_neg (by decide), if_neg (by decide), if_neg (by decide), owedM_end c (le_refl 19)]
    unfold Mid slots crds knows
    rw [show 18 + 1 + 3 = 18 + 4 by rfl, Pos_high _ _ (by decide), show 18 + 1 + 2 = 17 + 4 by rfl, Pos_high _ _ (by decide), show 18 + 1 + 1 = 16 + 4 by rfl, Pos_high _ _ (by decide)]
    unfold lasts barD Fin' regsZ
    iintro ⟨#Hctx, Ho, ⟨⟨S2, S1, S0, S3⟩, -, ⟨C0, ⟨C1, C2⟩, ⟨C3, C4⟩⟩, -, #K0, #K1, #K2⟩, ⟨L0, L1, L2, L3⟩, Hb⟩ Hk
    ihave #K : iprop(Rels (F := F) c 0 20 ∗ Rels c 1 20 ∗ Rels c 2 20) $$ []
    · isplitr; · iexact K0
      isplitr; · iexact K1
      iexact K2
    iapply (fin_core I (κ := κ) (ιs := ιs) c i hi) $$ [Ho S0 S1 S2 S3 C0 C1 C2 C3 C4]
    · isplitr; · iexact Hctx
      isplitl [Ho]; · iexact Ho
      isplitl [C0 C1 C2 C3 C4]
      · isplitl [C0]; · iexact C0
        isplitl [C1]; · iexact C1
        isplitl [C2]; · iexact C2
        isplitl [C3]; · iexact C3
        iexact C4
      isplitl [S0]; · iexact S0
      isplitl [S1]; · iexact S1
      isplitl [S2] <;> iassumption
    iintro ⟨Ho, ⟨C0, C1, C2, C3, C4⟩, ⟨S0, S1, S2, S3⟩⟩
    imod (close_slot I (κ := κ) (ιs := ιs) c 16 (by decide)) $$ [S0 L0] with ⟨D0, Z0⟩
    · isplitr; · iexact Hctx
      isplitr; · iexact K
      isplitl [S0] <;> iassumption
    imod (close_slot I (κ := κ) (ιs := ιs) c 17 (by decide)) $$ [S1 L1] with ⟨D1, Z1⟩
    · isplitr; · iexact Hctx
      isplitr; · iexact K
      isplitl [S1] <;> iassumption
    imod (close_slot I (κ := κ) (ιs := ιs) c 18 (by decide)) $$ [S2 L2] with ⟨D2, Z2⟩
    · isplitr; · iexact Hctx
      isplitr; · iexact K
      isplitl [S2] <;> iassumption
    imod (close_slot I (κ := κ) (ιs := ιs) c 19 (by decide)) $$ [S3 L3] with ⟨D3, Z3⟩
    · isplitr; · iexact Hctx
      isplitr; · iexact K
      isplitl [S3] <;> iassumption
    imod (close_r I (κ := κ) (ιs := ιs) c 0) $$ [C0] with C0
    · isplitr; · iexact Hctx
      iexact C0
    imod (close_r I (κ := κ) (ιs := ιs) c 1) $$ [C1] with C1
    · isplitr; · iexact Hctx
      iexact C1
    imod (close_r I (κ := κ) (ιs := ιs) c 2) $$ [C2] with C2
    · isplitr; · iexact Hctx
      iexact C2
    imod (close_r I (κ := κ) (ιs := ιs) c 3) $$ [C3] with C3
    · isplitr; · iexact Hctx
      iexact C3
    imod (close_r I (κ := κ) (ιs := ιs) c 4) $$ [C4] with C4
    · isplitr; · iexact Hctx
      iexact C4
    imod (close_r I (κ := κ) (ιs := ιs) c 5) $$ [Hb] with Hb
    · isplitr; · iexact Hctx
      iexact Hb
    iapply Hk
    isplitl [Ho]; · iexact Ho
    isplitl [D0 D1 D2 D3]
    · isplitl [D0]; · iexact D0
      isplitl [D1]; · iexact D1
      isplitl [D2] <;> iassumption
    isplitl [Z0 Z1 Z2 Z3]
    · isplitl [Z0]; · iexact Z0
      isplitl [Z1]; · iexact Z1
      isplitl [Z2] <;> iassumption
    isplitl [C0 C1 C2 C3 C4]
    · isplitl [C0]; · iexact C0
      isplitl [C1]; · iexact C1
      isplitl [C2]; · iexact C2
      isplitl [C3] <;> iassumption
    iexact Hb
  · have h1 : ¬ k0_cond15 i = 1#1 := by rw [cond15_iff]; omega
    unfold Hold owedS finStage
    rw [dif_neg h1, if_neg (by omega), if_neg (by omega), if_pos (by omega)]
    iintro ⟨-, Ho, Hm, Hl, Hb⟩ Hk
    iapply Hk
    isplitl [Ho]; · iexact Ho
    isplitl [Hm]; · iexact Hm
    isplitl [Hl] <;> iassumption

/-- The kernel's body at any step. -/
theorem body_run (c : Dev nD) (i : grid0.Coords) (s : ℕ) (hs : s < 19) (hi : (i 0).val = s) (Q : PUnit → sProp 𝕄)
    {arg1 : Memref sig .tc .vmem S512x4096 .bf16} {harg1 : arg1.IsWhole} {arg2 : Memref sig .tc .vmem S4096x512 .f32} {harg2 : arg2.IsWhole}
    {arg3 : Memref sig .tc .vmem S1024x512 .f32} {harg3 : arg3.IsWhole} {q1 q2 : PosShare TreeShare} {X : S1024x512.Idx → Elt F .f32} :
    iprop(ctx I κ ιs ∗ (own c arg1 q1 (I.A c) ∗ own c arg2 q2 (I.B c (min s 15))) ∗ own c arg3 fullShare X ∗ owesE c (owedS c s) ∗ Hold I c s)
      ⊢ iprop((((own c arg1 q1 (I.A c) ∗ own c arg2 q2 (I.B c (min s 15))) ∗ own c arg3 fullShare (if s < 3 then X else outv I c (s - 3))
          ∗ owesE c (owedS c (s + 1)) ∗ Hold I c (s + 1)) -∗ Q ⟨⟩)
        -∗ wpc c (cc0_body (F := F) i arg1 harg1 arg2 harg2 arg3 harg3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 cc0_scratch14 cc0_scratch15 cc0_scratch16 cc0_scratch17 cc0_scratch18) Q) := by
  unfold cc0_body
  rw [part11_eq]
  unfold wpc
  rw [wp_bind, wp_deviceId]
  iintro ⟨#Hctx, Hin, H3, Ho, Hh⟩ Hk
  iapply (step_mid I (κ := κ) (ιs := ιs) c i s hs hi) $$ [Hin H3 Ho Hh]
  · isplitr; · iexact Hctx
    isplitl [Hin]; · iexact Hin
    isplitl [H3]; · iexact H3
    isplitl [Ho] <;> iassumption
  iintro ⟨Hin, H3, Ho, Hm⟩
  unfold wpc
  rw [wp_ret]
  imodintro
  have key := step_fin I (κ := κ) (ιs := ιs) (Q := Q) (R := .ret ⟨⟩) c i s hs hi (arg1 := arg1) (harg1 := harg1) (arg2 := arg2) (harg2 := harg2) (arg3 := arg3) (harg3 := harg3)
  iapply key $$ [Ho Hm]
  · isplitr; · iexact Hctx
    isplitl [Ho] <;> iassumption
  iintro ⟨Ho, Hh⟩
  unfold wpc
  rw [wp_ret]
  imodintro
  iapply Hk
  isplitl [Hin]; · iexact Hin
  isplitl [H3]; · iexact H3
  isplitl [Ho] <;> iassumption

end Cert.Proof
-- ==== Proof.Pieces.lean ====
module

public import proofs.«01_k».proof.Proof.Step

/-! The kernel's own buffers, slot by slot. -/

@[expose] public section

noncomputable section

namespace Cert.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (I : Inp F)
variable {κ : Dev nD × CK → ℕ} {ιs : Key → ℕ}

/-! ## A buffer, part by part -/

/-- A part of a buffer, at some contents. -/
def part (ℓ : Loc nD τ sig) (S : Finset (Idx ℓ)) : sProp 𝕄 := iprop(∃ f : Buf (Elt F) ℓ, ℓ ↦[S]{fullShare} f)

theorem part_join {ℓ : Loc nD τ sig} {S T : Finset (Idx ℓ)} (h : Disjoint S T) : iprop(part (F := F) ℓ S ∗ part ℓ T) ⊢ part ℓ (S ∪ T) := by
  unfold part
  iintro ⟨⟨%f, H⟩, %g, H'⟩
  iexists (T.piecewise g f)
  iapply (pointsTo_join h)
  isplitl [H] <;> iassumption
theorem part_split {ℓ : Loc nD τ sig} {S T : Finset (Idx ℓ)} (h : Disjoint S T) : part (F := F) ℓ (S ∪ T) ⊢ iprop(part ℓ S ∗ part ℓ T) := by
  unfold part
  iintro ⟨%f, H⟩
  ihave H := (pointsTo_union h).1 $$ H
  icases H with ⟨H, H'⟩
  isplitl [H]
  · iexists f; iexact H
  · iexists f; iexact H'

/-- Four parts that make a buffer. -/
theorem part_four {ℓ : Loc nD τ sig} {S : Finset (Idx ℓ)} (K : Fin 4 → Finset (Idx ℓ)) (hd : ∀ j j', j ≠ j' → Disjoint (K j) (K j'))
    (hS : S = ((K 0 ∪ K 1) ∪ K 2) ∪ K 3) :
    part (F := F) ℓ S ⊣⊢ iprop(part ℓ (K 0) ∗ part ℓ (K 1) ∗ part ℓ (K 2) ∗ part ℓ (K 3)) := by
  subst hS
  have d1 : Disjoint (K 0) (K 1) := hd _ _ (by decide)
  have d2 : Disjoint (K 0 ∪ K 1) (K 2) := Finset.disjoint_union_left.mpr ⟨hd _ _ (by decide), hd _ _ (by decide)⟩
  have d3 : Disjoint ((K 0 ∪ K 1) ∪ K 2) (K 3) :=
    Finset.disjoint_union_left.mpr ⟨Finset.disjoint_union_left.mpr ⟨hd _ _ (by decide), hd _ _ (by decide)⟩, hd _ _ (by decide)⟩
  constructor
  · iintro H
    ihave H := (part_split d3) $$ H
    icases H with ⟨H, H3⟩
    ihave H := (part_split d2) $$ H
    icases H with ⟨H, H2⟩
    ihave H := (part_split d1) $$ H
    icases H with ⟨H0, H1⟩
    isplitl [H0]; · iexact H0
    isplitl [H1]; · iexact H1
    isplitl [H2] <;> iassumption
  · iintro ⟨H0, H1, H2, H3⟩
    iapply (part_join d3)
    isplitr [H3]; swap; · iexact H3
    iapply (part_join d2)
    isplitr [H2]; swap; · iexact H2
    iapply (part_join d1)
    isplitl [H0] <;> iassumption

/-- A block at some contents is that part of its buffer. -/
theorem some'_part (c : Dev nD) (m : Memref sig .tc .vmem S256x512 .f32) :
    some' (F := F) c m fullShare ⊣⊢ part (m.view.loc (c : Thread nD τ)) m.view.set := by
  constructor
  · unfold some' own owns part
    iintro ⟨%X, %f, -, H⟩; iexists f; iexact H
  · unfold some' own owns part
    iintro ⟨%f, H⟩; iexists (m.view.read (Elt F) f); iexists f
    isplitr; · ipureintro; rfl
    iexact H

/-- A whole buffer of the kernel's own. -/
def buf (c : Dev nD) (b : Ref sig .tc) : sProp 𝕄 := iprop(∃ f : Buf (Elt F) ((c : Thread nD τ).loc b), ((c : Thread nD τ).loc b) ↦{fullShare} f)

abbrev slR (j : Fin 4) : Rect S4x256x512 := Rect.unit (s := S4x256x512) ![j.val, 0, 0] S1x256x512.size (sl_inb j)

theorem mem_slR (j : Fin 4) (i : S4x256x512.Idx) : i ∈ (slR j).set ↔ (i 0).val = j.val := by
  rw [Rect.mem_set_unit]
  have h1 : (i 1).val < 256 := (i 1).isLt
  have h2 : (i 2).val < 512 := (i 2).isLt
  constructor
  · intro H
    have h0 : j.val ≤ (i 0).val ∧ (i 0).val < j.val + 1 := H 0
    omega
  · intro H a
    match a with
    | ⟨0, _⟩ => exact ⟨le_of_eq H.symm, by show (i 0).val < j.val + 1; omega⟩
    | ⟨1, _⟩ => exact ⟨Nat.zero_le _, by show (i 1).val < 0 + 256; omega⟩
    | ⟨2, _⟩ => exact ⟨Nat.zero_le _, by show (i 2).val < 0 + 512; omega⟩

theorem slR_disjoint (j j' : Fin 4) (h : j ≠ j') : Disjoint (slR j).set (slR j').set := by
  rw [Finset.disjoint_left]
  intro i h0 h1
  rw [mem_slR] at h0 h1
  exact h (Fin.ext (h0.symm.trans h1))
theorem slR_cover : (Finset.univ : Finset S4x256x512.Idx) = (((slR 0).set ∪ (slR 1).set) ∪ (slR 2).set) ∪ (slR 3).set := by
  ext i
  simp only [Finset.mem_union, mem_slR, Finset.mem_univ, true_iff]
  have h0 : (i 0).val < 4 := (i 0).isLt
  show (((i 0).val = 0 ∨ (i 0).val = 1) ∨ (i 0).val = 2) ∨ (i 0).val = 3
  omega

theorem sl_set1 (j : Fin 4) : (sl yM j).view.set = (slR j).set := by
  rw [Memref.set_view_squeeze (hq := squeezes_S1x256x512_S256x512)]
  show ((View.whole cc0_scratch1).slice _).set = _
  rw [View.set_slice]; exact Finset.map_refl
theorem sl_set2 (j : Fin 4) : (sl qM j).view.set = (slR j).set := by
  rw [Memref.set_view_squeeze (hq := squeezes_S1x256x512_S256x512)]
  show ((View.whole cc0_scratch2).slice _).set = _
  rw [View.set_slice]; exact Finset.map_refl
theorem sl_set3 (j : Fin 4) : (sl rM j).view.set = (slR j).set := by
  rw [Memref.set_view_squeeze (hq := squeezes_S1x256x512_S256x512)]
  show ((View.whole cc0_scratch3).slice _).set = _
  rw [View.set_slice]; exact Finset.map_refl
theorem sl_set4 (j : Fin 4) : (sl aM j).view.set = (slR j).set := by
  rw [Memref.set_view_squeeze (hq := squeezes_S1x256x512_S256x512)]
  show ((View.whole cc0_scratch4).slice _).set = _
  rw [View.set_slice]; exact Finset.map_refl
theorem sl_set5 (j : Fin 4) : (sl bM j).view.set = (slR j).set := by
  rw [Memref.set_view_squeeze (hq := squeezes_S1x256x512_S256x512)]
  show ((View.whole cc0_scratch5).slice _).set = _
  rw [View.set_slice]; exact Finset.map_refl

theorem some_eq (c : Dev nD) {m : Memref sig .tc .vmem S256x512 .f32} {S : Finset (Idx (m.view.loc (c : Thread nD τ)))} (h : m.view.set = S) :
    some' (F := F) c m fullShare = part (m.view.loc (c : Thread nD τ)) S := by
  subst h
  exact BI.Entails.antisymm (some'_part c m).1 (some'_part c m).2

/-- A landing or sum buffer is its four slots. -/
theorem buf1 (c : Dev nD) : buf (F := F) c cc0_scratch1 ⊣⊢ iprop(some' c (sl yM 0) fullShare ∗ some' c (sl yM 1) fullShare ∗ some' c (sl yM 2) fullShare ∗ some' c (sl yM 3) fullShare) := by
  rw [some_eq c (sl_set1 0), some_eq c (sl_set1 1), some_eq c (sl_set1 2), some_eq c (sl_set1 3)]
  exact part_four (ℓ := (c : Thread nD τ).loc cc0_scratch1) (fun j => (slR j).set) slR_disjoint slR_cover
theorem buf2 (c : Dev nD) : buf (F := F) c cc0_scratch2 ⊣⊢ iprop(some' c (sl qM 0) fullShare ∗ some' c (sl qM 1) fullShare ∗ some' c (sl qM 2) fullShare ∗ some' c (sl qM 3) fullShare) := by
  rw [some_eq c (sl_set2 0), some_eq c (sl_set2 1), some_eq c (sl_set2 2), some_eq c (sl_set2 3)]
  exact part_four (ℓ := (c : Thread nD τ).loc cc0_scratch2) (fun j => (slR j).set) slR_disjoint slR_cover
theorem buf3 (c : Dev nD) : buf (F := F) c cc0_scratch3 ⊣⊢ iprop(some' c (sl rM 0) fullShare ∗ some' c (sl rM 1) fullShare ∗ some' c (sl rM 2) fullShare ∗ some' c (sl rM 3) fullShare) := by
  rw [some_eq c (sl_set3 0), some_eq c (sl_set3 1), some_eq c (sl_set3 2), some_eq c (sl_set3 3)]
  exact part_four (ℓ := (c : Thread nD τ).loc cc0_scratch3) (fun j => (slR j).set) slR_disjoint slR_cover
theorem buf4 (c : Dev nD) : buf (F := F) c cc0_scratch4 ⊣⊢ iprop(some' c (sl aM 0) fullShare ∗ some' c (sl aM 1) fullShare ∗ some' c (sl aM 2) fullShare ∗ some' c (sl aM 3) fullShare) := by
  rw [some_eq c (sl_set4 0), some_eq c (sl_set4 1), some_eq c (sl_set4 2), some_eq c (sl_set4 3)]
  exact part_four (ℓ := (c : Thread nD τ).loc cc0_scratch4) (fun j => (slR j).set) slR_disjoint slR_cover
theorem buf5 (c : Dev nD) : buf (F := F) c cc0_scratch5 ⊣⊢ iprop(some' c (sl bM 0) fullShare ∗ some' c (sl bM 1) fullShare ∗ some' c (sl bM 2) fullShare ∗ some' c (sl bM 3) fullShare) := by
  rw [some_eq c (sl_set5 0), some_eq c (sl_set5 1), some_eq c (sl_set5 2), some_eq c (sl_set5 3)]
  exact part_four (ℓ := (c : Thread nD τ).loc cc0_scratch5) (fun j => (slR j).set) slR_disjoint slR_cover

/-- The two halves of a slot of the partial products' buffer. -/
def two (c : Dev nD) (j : Fin 4) : sProp 𝕄 := iprop(some' (F := F) c (hf j (yb c)) fullShare ∗ some' c (hf j (nyb c)) fullShare)

theorem two_cases (c : Dev nD) : (yb c = 0 ∧ nyb c = 1) ∨ (yb c = 1 ∧ nyb c = 0) := by revert c; decide

theorem two_part (c : Dev nD) (j : Fin 4) : two (F := F) c j ⊣⊢ part ((c : Thread nD τ).loc cc0_scratch0) (pM.access (fullR j)).set := by
  have h : iprop(some' (F := F) c (hf j 0) fullShare ∗ some' c (hf j 1) fullShare) ⊣⊢ part ((c : Thread nD τ).loc cc0_scratch0) (pM.access (fullR j)).set := by
    rw [full_eq, some_eq c (m := hf j 0) rfl, some_eq c (m := hf j 1) rfl]
    exact ⟨part_join (hf_disjoint j), part_split (hf_disjoint j)⟩
  unfold two
  rcases two_cases c with ⟨h1, h2⟩ | ⟨h1, h2⟩
  · rw [h1, h2]; exact h
  · rw [h1, h2]
    constructor
    · refine BIBase.Entails.trans ?_ h.1
      iintro ⟨H, H'⟩; isplitl [H'] <;> iassumption
    · refine BIBase.Entails.trans h.2 ?_
      iintro ⟨H, H'⟩; isplitl [H'] <;> iassumption

theorem two_eq (c : Dev nD) (j : Fin 4) : two (F := F) c j = part ((c : Thread nD τ).loc cc0_scratch0) (pM.access (fullR j)).set :=
  BI.Entails.antisymm (two_part c j).1 (two_part c j).2

theorem full_disjoint (j j' : Fin 4) (h : j ≠ j') : Disjoint (pM.access (fullR j)).set (pM.access (fullR j')).set := by
  rw [Finset.disjoint_left]
  intro i h0 h1
  have h0 := (mem_full j i).mp h0
  have h1 := (mem_full j' i).mp h1
  exact h (Fin.ext (h0.symm.trans h1))
theorem full_cover : (Finset.univ : Finset S4x512x512.Idx)
    = (((pM.access (fullR 0)).set ∪ (pM.access (fullR 1)).set) ∪ (pM.access (fullR 2)).set) ∪ (pM.access (fullR 3)).set := by
  ext i
  have h0 : (i 0).val < 4 := (i 0).isLt
  refine ⟨fun _ => ?_, fun _ => Finset.mem_univ _⟩
  have e (j : Fin 4) (h : (i 0).val = j.val) := (mem_full j i).mpr h
  rcases (show (i 0).val = 0 ∨ (i 0).val = 1 ∨ (i 0).val = 2 ∨ (i 0).val = 3 by omega) with h | h | h | h
  · exact Finset.mem_union_left _ (Finset.mem_union_left _ (Finset.mem_union_left _ (e 0 h)))
  · exact Finset.mem_union_left _ (Finset.mem_union_left _ (Finset.mem_union_right _ (e 1 h)))
  · exact Finset.mem_union_left _ (Finset.mem_union_right _ (e 2 h))
  · exact Finset.mem_union_right _ (e 3 h)

theorem buf0 (c : Dev nD) : buf (F := F) c cc0_scratch0 ⊣⊢ iprop(two c 0 ∗ two c 1 ∗ two c 2 ∗ two c 3) := by
  rw [two_eq, two_eq, two_eq, two_eq]
  exact part_four (ℓ := (c : Thread nD τ).loc cc0_scratch0) (fun j => (pM.access (fullR j)).set) full_disjoint full_cover

theorem half_split (c : Dev nD) (m : Memref sig .tc .vmem S256x512 .f32) : some' (F := F) c m fullShare ⊢ iprop(some' c m shR ∗ some' c m shL) := by
  unfold some'
  iintro ⟨%X, H⟩
  ihave H := (own_halve c m X) $$ H
  icases H with ⟨H, H'⟩
  isplitl [H']
  · iexists X; iexact H'
  · iexists X; iexact H
theorem half_join (c : Dev nD) (m : Memref sig .tc .vmem S256x512 .f32) : iprop(some' (F := F) c m shR ∗ some' c m shL) ⊢ some' c m fullShare := by
  iintro ⟨H, H'⟩
  ihave H := (show some' (F := F) c m shR ⊢ iprop(∃ X, own c m shR X) from entails_refl _) $$ H
  icases H with ⟨%X, H⟩
  iapply (show iprop(∃ X, own c m fullShare X) ⊢ some' (F := F) c m fullShare from entails_refl _)
  iexists X
  iapply (own_unhalve c m X)
  isplitl [H'] <;> iassumption

/-- A slot's buffers, one by one. -/
def slotB (c : Dev nD) (j : Fin 4) : sProp 𝕄 :=
  iprop(two (F := F) c j ∗ some' c (sl yM j) fullShare ∗ some' c (sl qM j) fullShare ∗ some' c (sl rM j) fullShare ∗ some' c (sl aM j) fullShare ∗ some' c (sl bM j) fullShare)

theorem slotD_of (c : Dev nD) (n : ℕ) : slotB (F := F) c (jj n) ⊢ slotD c n := by
  unfold slotB slotD two
  rw [show slotOf (F := F) (c, 0, jj n) = some' c (sl yM (jj n)) fullShare from rfl, show slotOf (F := F) (c, 1, jj n) = some' c (sl rM (jj n)) fullShare from rfl,
    show slotOf (F := F) (c, 2, jj n) = iprop(some' c (sl aM (jj n)) fullShare ∗ some' c (sl bM (jj n)) fullShare) from rfl]
  iintro ⟨⟨H, H'⟩, Hy, Hq, Hr, Ha, Hb⟩
  ihave Hq := (half_split c (sl qM (jj n))) $$ Hq
  icases Hq with ⟨HqR, HqL⟩
  isplitl [H]; · iexact H
  isplitl [H']; · iexact H'
  isplitl [HqR]; · iexact HqR
  isplitl [HqL]; · iexact HqL
  isplitl [Hy]; · iexact Hy
  isplitl [Hr]; · iexact Hr
  isplitl [Ha] <;> iassumption
theorem slotD_to (c : Dev nD) (n : ℕ) : slotD (F := F) c n ⊢ slotB c (jj n) := by
  unfold slotB slotD two
  rw [show slotOf (F := F) (c, 0, jj n) = some' c (sl yM (jj n)) fullShare from rfl, show slotOf (F := F) (c, 1, jj n) = some' c (sl rM (jj n)) fullShare from rfl,
    show slotOf (F := F) (c, 2, jj n) = iprop(some' c (sl aM (jj n)) fullShare ∗ some' c (sl bM (jj n)) fullShare) from rfl]
  iintro ⟨H, H', HqR, HqL, Hy, Hr, Ha, Hb⟩
  isplitl [H H']; · isplitl [H] <;> iassumption
  isplitl [Hy]; · iexact Hy
  isplitl [HqR HqL]
  · iapply (half_join c (sl qM (jj n))); isplitl [HqR] <;> iassumption
  isplitl [Hr]; · iexact Hr
  isplitl [Ha] <;> iassumption

/-- The kernel's own buffers. -/
def bufsAll (c : Dev nD) : sProp 𝕄 :=
  iprop(buf (F := F) c cc0_scratch0 ∗ buf c cc0_scratch1 ∗ buf c cc0_scratch2 ∗ buf c cc0_scratch3 ∗ buf c cc0_scratch4 ∗ buf c cc0_scratch5)

theorem bufs_split (c : Dev nD) : bufsAll (F := F) c ⊢ iprop(slotB c 0 ∗ slotB c 1 ∗ slotB c 2 ∗ slotB c 3) := by
  unfold bufsAll slotB
  iintro ⟨H0, H1, H2, H3, H4, H5⟩
  ihave H0 := (buf0 c).1 $$ H0
  icases H0 with ⟨A0, A1, A2, A3⟩
  ihave H1 := (buf1 c).1 $$ H1
  icases H1 with ⟨B0, B1, B2, B3⟩
  ihave H2 := (buf2 c).1 $$ H2
  icases H2 with ⟨C0, C1, C2, C3⟩
  ihave H3 := (buf3 c).1 $$ H3
  icases H3 with ⟨D0, D1, D2, D3⟩
  ihave H4 := (buf4 c).1 $$ H4
  icases H4 with ⟨E0, E1, E2, E3⟩
  ihave H5 := (buf5 c).1 $$ H5
  icases H5 with ⟨F0, F1, F2, F3⟩
  isplitl [A0 B0 C0 D0 E0 F0]
  · isplitl [A0]; · iexact A0
    isplitl [B0]; · iexact B0
    isplitl [C0]; · iexact C0
    isplitl [D0]; · iexact D0
    isplitl [E0] <;> iassumption
  isplitl [A1 B1 C1 D1 E1 F1]
  · isplitl [A1]; · iexact A1
    isplitl [B1]; · iexact B1
    isplitl [C1]; · iexact C1
    isplitl [D1]; · iexact D1
    isplitl [E1] <;> iassumption
  isplitl [A2 B2 C2 D2 E2 F2]
  · isplitl [A2]; · iexact A2
    isplitl [B2]; · iexact B2
    isplitl [C2]; · iexact C2
    isplitl [D2]; · iexact D2
    isplitl [E2] <;> iassumption
  isplitl [A3]; · iexact A3
  isplitl [B3]; · iexact B3
  isplitl [C3]; · iexact C3
  isplitl [D3]; · iexact D3
  isplitl [E3] <;> iassumption
theorem bufs_join (c : Dev nD) : iprop(slotB (F := F) c 0 ∗ slotB c 1 ∗ slotB c 2 ∗ slotB c 3) ⊢ bufsAll c := by
  unfold bufsAll slotB
  iintro ⟨⟨A0, B0, C0, D0, E0, F0⟩, ⟨A1, B1, C1, D1, E1, F1⟩, ⟨A2, B2, C2, D2, E2, F2⟩, A3, B3, C3, D3, E3, F3⟩
  isplitl [A0 A1 A2 A3]
  · iapply (buf0 c).2
    isplitl [A0]; · iexact A0
    isplitl [A1]; · iexact A1
    isplitl [A2] <;> iassumption
  isplitl [B0 B1 B2 B3]
  · iapply (buf1 c).2
    isplitl [B0]; · iexact B0
    isplitl [B1]; · iexact B1
    isplitl [B2] <;> iassumption
  isplitl [C0 C1 C2 C3]
  · iapply (buf2 c).2
    isplitl [C0]; · iexact C0
    isplitl [C1]; · iexact C1
    isplitl [C2] <;> iassumption
  isplitl [D0 D1 D2 D3]
  · iapply (buf3 c).2
    isplitl [D0]; · iexact D0
    isplitl [D1]; · iexact D1
    isplitl [D2] <;> iassumption
  isplitl [E0 E1 E2 E3]
  · iapply (buf4 c).2
    isplitl [E0]; · iexact E0
    isplitl [E1]; · iexact E1
    isplitl [E2] <;> iassumption
  iapply (buf5 c).2
  isplitl [F0]; · iexact F0
  isplitl [F1]; · iexact F1
  isplitl [F2] <;> iassumption

end Cert.Proof
-- ==== Proof.Cells.lean ====
module

public import proofs.«01_k».proof.Proof.Pieces

/-! The kernel's own counters: opened at entry, closed at exit. -/

@[expose] public section

noncomputable section

namespace Cert.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (I : Inp F)
variable {κ : Dev nD × CK → ℕ} {ιs : Key → ℕ}

/-! ## The kernel's own counters -/

/-- The kernel's own cells, the barrier's aside. -/
abbrev OK : Type := (Fin 8 × Fin 4) ⊕ Fin 5
/-- The counter of one. -/
def osem : OK → SemLoc sig
  | .inl q => .dma (dsem q.1 q.2)
  | .inr q => .reg q.castSucc

/-- One slot's transfer cells. -/
def col (Φ : OK → sProp 𝕄) (j : Fin 4) : sProp 𝕄 :=
  iprop(Φ (.inl (0, j)) ∗ Φ (.inl (1, j)) ∗ Φ (.inl (2, j)) ∗ Φ (.inl (3, j)) ∗ Φ (.inl (4, j)) ∗ Φ (.inl (5, j)) ∗ Φ (.inl (6, j)) ∗ Φ (.inl (7, j)))

/-- Over the own cells: slot by slot, and then the signal cells. -/
theorem over_cells (Φ : OK → sProp 𝕄) : BI.bigSep Finset.univ Φ
    = iprop((col Φ 0 ∗ col Φ 1 ∗ col Φ 2 ∗ col Φ 3) ∗ (Φ (.inr 0) ∗ Φ (.inr 1) ∗ Φ (.inr 2) ∗ Φ (.inr 3) ∗ Φ (.inr 4))) := by
  rw [BI.bigSep_univ_sum, BI.bigSep_univ_equiv (Equiv.prodComm (Fin 4) (Fin 8)), BI.bigSep_univ_prod,
    bigSep_univ_eq_bigSepL [(0 : Fin 4), 1, 2, 3] (by decide) (by decide),
    bigSep_univ_eq_bigSepL [(0 : Fin 5), 1, 2, 3, 4] (by decide) (by decide)]
  have e (j : Fin 4) : BI.bigSep Finset.univ (fun k : Fin 8 => Φ (.inl ((Equiv.prodComm (Fin 4) (Fin 8)) (j, k)))) = col Φ j := by
    rw [bigSep_univ_eq_bigSepL [(0 : Fin 8), 1, 2, 3, 4, 5, 6, 7] (by decide) (by decide)]; rfl
  simp only [bigSepL, e]
  rfl

theorem open_d (c : Dev nD) (k : Fin 8) (j : Fin 4) :
    iprop(ctx I κ ιs ∗ openTok ER (dcell c k j) ∗ semVal (dcell c k j) 0) ⊢ (|={Set.univ}=> at' (F := F) c k j 0 : sProp 𝕄) := by
  iintro ⟨#Hctx, Ho, Hv⟩
  ihave #Hg := (ctx_d I c k j) $$ Hctx
  unfold at'
  iapply (Rounds.cell_open ER (Rd I) (g := dcell c k j) (Set.mem_univ (κ (c, .inl (k, j)))))
  isplitr; · iexact Hg
  isplitl [Ho] <;> iassumption
theorem open_r (c : Dev nD) (q : Fin 6) :
    iprop(ctx I κ ιs ∗ openTok ER (rcell c q) ∗ semVal (rcell c q) 0) ⊢ (|={Set.univ}=> (crPos c q 0 ∗ reached ER (rcell c q) 0) : sProp 𝕄) := by
  iintro ⟨#Hctx, Ho, Hv⟩
  ihave #Hg := (ctx_r I c q) $$ Hctx
  unfold crPos
  imod (Rounds.cell_open ER (Rd I) (g := rcell c q) (Set.mem_univ (κ (c, .inr q)))) $$ [Ho Hv] with ⟨Ha, Hr⟩
  · isplitr; · iexact Hg
    isplitl [Ho] <;> iassumption
  imodintro
  isplitr [Hr]; swap; · iexact Hr
  iexists ∅
  isplitr; · ipureintro; exact Finset.empty_subset _
  isplitl [Ha]; · iexact Ha
  rw [BI.bigSep_empty]; iempintro

/-- A slot's cells, open. -/
def colAt (c : Dev nD) (j : Fin 4) : sProp 𝕄 :=
  iprop(at' (F := F) c 0 j 0 ∗ at' c 1 j 0 ∗ at' c 2 j 0 ∗ at' c 3 j 0 ∗ rest4 c j 0)

theorem open_col (c : Dev nD) (j : Fin 4) :
    iprop(ctx I κ ιs ∗ col (fun k => openTok ER ((c : Thread nD τ), osem k)) j ∗ col (fun k => semVal ((c : Thread nD τ), osem k) 0) j)
      ⊢ (|={Set.univ}=> colAt (F := F) c j : sProp 𝕄) := by
  unfold col colAt rest4
  iintro ⟨#Hctx, ⟨O0, O1, O2, O3, O4, O5, O6, O7⟩, V0, V1, V2, V3, V4, V5, V6, V7⟩
  imod (open_d I (κ := κ) (ιs := ιs) c 0 j) $$ [O0 V0] with A0
  · isplitr; · iexact Hctx
    isplitl [O0]; · iexact O0
    iexact V0
  imod (open_d I (κ := κ) (ιs := ιs) c 1 j) $$ [O1 V1] with A1
  · isplitr; · iexact Hctx
    isplitl [O1]; · iexact O1
    iexact V1
  imod (open_d I (κ := κ) (ιs := ιs) c 2 j) $$ [O2 V2] with A2
  · isplitr; · iexact Hctx
    isplitl [O2]; · iexact O2
    iexact V2
  imod (open_d I (κ := κ) (ιs := ιs) c 3 j) $$ [O3 V3] with A3
  · isplitr; · iexact Hctx
    isplitl [O3]; · iexact O3
    iexact V3
  imod (open_d I (κ := κ) (ιs := ιs) c 4 j) $$ [O4 V4] with A4
  · isplitr; · iexact Hctx
    isplitl [O4]; · iexact O4
    iexact V4
  imod (open_d I (κ := κ) (ιs := ιs) c 5 j) $$ [O5 V5] with A5
  · isplitr; · iexact Hctx
    isplitl [O5]; · iexact O5
    iexact V5
  imod (open_d I (κ := κ) (ιs := ιs) c 6 j) $$ [O6 V6] with A6
  · isplitr; · iexact Hctx
    isplitl [O6]; · iexact O6
    iexact V6
  imod (open_d I (κ := κ) (ιs := ιs) c 7 j) $$ [O7 V7] with A7
  · isplitr; · iexact Hctx
    isplitl [O7]; · iexact O7
    iexact V7
  imodintro
  isplitl [A0]; · iexact A0
  isplitl [A1]; · iexact A1
  isplitl [A2]; · iexact A2
  isplitl [A3]; · iexact A3
  isplitl [A4]; · iexact A4
  isplitl [A5]; · iexact A5
  isplitl [A6]; · iexact A6
  iexact A7

/-- A device's own cells, open. -/
def opened (c : Dev nD) : sProp 𝕄 :=
  iprop((colAt (F := F) c 0 ∗ colAt c 1 ∗ colAt c 2 ∗ colAt c 3) ∗ opens c ∗ (crPos c 0 0 ∗ crPos c 1 0 ∗ crPos c 2 0 ∗ crPos c 3 0 ∗ crPos c 4 0))

theorem open_all (c : Dev nD) :
    iprop(ctx I κ ιs ∗ BI.bigSep Finset.univ (fun k : OK => openTok ER ((c : Thread nD τ), osem k)) ∗ BI.bigSep Finset.univ (fun k : OK => semVal ((c : Thread nD τ), osem k) 0))
      ⊢ (|={Set.univ}=> opened (F := F) c : sProp 𝕄) := by
  rw [over_cells, over_cells]
  unfold opened opens
  iintro ⟨#Hctx, ⟨⟨O0, O1, O2, O3⟩, P0, P1, P2, P3, P4⟩, ⟨V0, V1, V2, V3⟩, W0, W1, W2, W3, W4⟩
  imod (open_col I (κ := κ) (ιs := ιs) c 0) $$ [O0 V0] with A0
  · isplitr; · iexact Hctx
    isplitl [O0]; · iexact O0
    iexact V0
  imod (open_col I (κ := κ) (ιs := ιs) c 1) $$ [O1 V1] with A1
  · isplitr; · iexact Hctx
    isplitl [O1]; · iexact O1
    iexact V1
  imod (open_col I (κ := κ) (ιs := ιs) c 2) $$ [O2 V2] with A2
  · isplitr; · iexact Hctx
    isplitl [O2]; · iexact O2
    iexact V2
  imod (open_col I (κ := κ) (ιs := ιs) c 3) $$ [O3 V3] with A3
  · isplitr; · iexact Hctx
    isplitl [O3]; · iexact O3
    iexact V3
  imod (open_r I (κ := κ) (ιs := ιs) c 0) $$ [P0 W0] with ⟨B0, C0⟩
  · isplitr; · iexact Hctx
    isplitl [P0]; · iexact P0
    iexact W0
  imod (open_r I (κ := κ) (ιs := ιs) c 1) $$ [P1 W1] with ⟨B1, C1⟩
  · isplitr; · iexact Hctx
    isplitl [P1]; · iexact P1
    iexact W1
  imod (open_r I (κ := κ) (ιs := ιs) c 2) $$ [P2 W2] with ⟨B2, C2⟩
  · isplitr; · iexact Hctx
    isplitl [P2]; · iexact P2
    iexact W2
  imod (open_r I (κ := κ) (ιs := ιs) c 3) $$ [P3 W3] with ⟨B3, C3⟩
  · isplitr; · iexact Hctx
    isplitl [P3]; · iexact P3
    iexact W3
  imod (open_r I (κ := κ) (ιs := ιs) c 4) $$ [P4 W4] with ⟨B4, C4⟩
  · isplitr; · iexact Hctx
    isplitl [P4]; · iexact P4
    iexact W4
  imodintro
  isplitl [A0 A1 A2 A3]
  · isplitl [A0]; · iexact A0
    isplitl [A1]; · iexact A1
    isplitl [A2] <;> iassumption
  isplitl [C0 C1 C2 C3 C4]
  · isplitl [C0]; · iexact C0
    isplitl [C1]; · iexact C1
    isplitl [C2]; · iexact C2
    isplitl [C3] <;> iassumption
  isplitl [B0]; · iexact B0
  isplitl [B1]; · iexact B1
  isplitl [B2]; · iexact B2
  isplitl [B3] <;> iassumption

/-! ## What a device carries from launch -/

/-- The readers of a slot's landing buffers. -/
def rdrs (c : Dev nD) (j : Fin 4) : sProp 𝕄 := iprop(rdr (F := F) c 0 j 0 ∗ rdr c 1 j 0 ∗ rdr c 2 j 0)
/-- The credits of a signal cell. -/
def crs (c : Dev nD) (q : Fin 6) : sProp 𝕄 := BI.bigSep (Finset.Ico 0 (units q.val)) (fun k => cred (tallyAt (rcell c q) (cix q.val k) 1))
/-- From launch, the right to open the own cells aside. -/
def Start (c : Dev nD) : sProp 𝕄 :=
  iprop(lasts (F := F) c ∗ tokB c ∗ toks c 0 ∗ (rdrs c 0 ∗ rdrs c 1 ∗ rdrs c 2 ∗ rdrs c 3) ∗ (crs c 0 ∗ crs c 1 ∗ crs c 2 ∗ crs c 3 ∗ crs c 4))
/-- From launch. -/
def Tk (c : Dev nD) : sProp 𝕄 :=
  iprop(∃ κ ιs, ctx I κ ιs ∗ Start c ∗ BI.bigSep Finset.univ (fun k : OK => openTok ER ((c : Thread nD τ), osem k)))
/-- With the own cells open. -/
def Xk (c : Dev nD) : sProp 𝕄 := iprop(∃ κ ιs, ctx I κ ιs ∗ Start c ∗ opened c)
/-- What is left: the barrier's counter at zero. -/
def Yk (c : Dev nD) : sProp 𝕄 := semVal (rcell c 5) 0

theorem ownSems_eq (c : Dev nD) : Pipeline.ownSems0 osem c = BI.bigSep Finset.univ (fun k : OK => (semVal ((c : Thread nD τ), osem k) 0 : sProp 𝕄)) := rfl

theorem hopen (c : Dev nD) : iprop(Tk I c ∗ Pipeline.ownSems0 osem c ∗ levAts L lv) ⊢ (|={Set.univ}=> Xk I c : sProp 𝕄) := by
  rw [ownSems_eq]
  unfold Tk Xk
  iintro ⟨⟨%κ, %ιs, #Hctx, Hs, Ho⟩, Hv, -⟩
  imod (open_all I (κ := κ) (ιs := ιs) c) $$ [Ho Hv] with H
  · isplitr; · iexact Hctx
    isplitl [Ho]; · iexact Ho
    iexact Hv
  imodintro
  iexists κ; iexists ιs
  isplitr; · iexact Hctx
  isplitl [Hs] <;> iassumption

theorem slot0_of (c : Dev nD) (n : ℕ) : iprop(slotB (F := F) c (jj n) ∗ colAt c (jj n) ∗ rdrs c (jj n)) ⊢ slot0 c n := by
  unfold colAt rdrs slot0
  iintro ⟨HB, ⟨A0, A1, A2, A3, A4⟩, HR⟩
  ihave HB := (slotD_of c n) $$ HB
  unfold slotD
  icases HB with ⟨B0, B1, B2, B3, B4⟩
  isplitl [B0]; · iexact B0
  isplitl [B1]; · iexact B1
  isplitl [B2]; · iexact B2
  isplitl [B3]; · iexact B3
  isplitl [A0]; · iexact A0
  isplitl [A1]; · iexact A1
  isplitl [A2]; · iexact A2
  isplitl [A3]; · iexact A3
  isplitl [A4]; · iexact A4
  isplitl [HR]; · iexact HR
  iexact B4

theorem crd_of (c : Dev nD) (q : Fin 6) : iprop(crPos (F := F) c q 0 ∗ crs c q) ⊢ crd c q 0 := entails_refl _

/-- What enters the kernel. -/
theorem hold_in (c : Dev nD) : iprop(bufsAll (F := F) c ∗ Start c ∗ opened c) ⊢ Hold I c 0 := by
  unfold Hold; rw [if_pos rfl]
  unfold Start opened Init crds
  rw [show min 0 16 - 4 = 0 from rfl, show cnt 0 (0 - 1) = 0 from rfl, show cnt 1 (0 - 1) = 0 from rfl]
  iintro ⟨HB, ⟨HL, HT, HK, ⟨R0, R1, R2, R3⟩, C0, C1, C2, C3, C4⟩, ⟨A0, A1, A2, A3⟩, HO, P0, P1, P2, P3, P4⟩
  ihave HB := (bufs_split c) $$ HB
  icases HB with ⟨B0, B1, B2, B3⟩
  isplitr [HL]; swap; · iexact HL
  isplitl [A0 A1 A2 A3 B0 B1 B2 B3 R0 R1 R2 R3]
  · isplitl [A0 B0 R0]
    · iapply (slot0_of c 0)
      isplitl [B0]; · iexact B0
      isplitl [A0]; · iexact A0
      iexact R0
    isplitl [A1 B1 R1]
    · iapply (slot0_of c 1)
      isplitl [B1]; · iexact B1
      isplitl [A1]; · iexact A1
      iexact R1
    isplitl [A2 B2 R2]
    · iapply (slot0_of c 2)
      isplitl [B2]; · iexact B2
      isplitl [A2]; · iexact A2
      iexact R2
    iapply (slot0_of c 3)
    isplitl [B3]; · iexact B3
    isplitl [A3]; · iexact A3
    iexact R3
  isplitl [HO]; · iexact HO
  isplitl [HT]; · iexact HT
  isplitl [HK]; · iexact HK
  isplitl [P0 C0]; · iapply (crd_of c 0); isplitl [P0] <;> iassumption
  isplitl [P1 C1 P2 C2]
  · isplitl [P1 C1]; · iapply (crd_of c 1); isplitl [P1] <;> iassumption
    iapply (crd_of c 2); isplitl [P2] <;> iassumption
  isplitl [P3 C3]; · iapply (crd_of c 3); isplitl [P3] <;> iassumption
  iapply (crd_of c 4); isplitl [P4] <;> iassumption

/-- What leaves the kernel. -/
theorem hold_out (c : Dev nD) : Hold I c 19 ⊢ iprop(bufsAll (F := F) c ∗ Pipeline.ownSems0 osem c ∗ Yk c) := by
  unfold Hold; rw [if_neg (show ¬ (19 : ℕ) = 0 by decide), if_neg (show ¬ (19 : ℕ) < 19 by decide)]
  rw [ownSems_eq, over_cells]
  unfold Fin' Yk regsZ
  iintro ⟨⟨D0, D1, D2, D3⟩, HZ, HR, HY⟩
  isplitl [D0 D1 D2 D3]
  · iapply (bufs_join c)
    isplitl [D0]; · iapply (slotD_to c 16); iexact D0
    isplitl [D1]; · iapply (slotD_to c 17); iexact D1
    isplitl [D2]; · iapply (slotD_to c 18); iexact D2
    iapply (slotD_to c 19); iexact D3
  isplitl [HZ HR]
  · isplitl [HZ]; · iexact HZ
    iexact HR
  iexact HY

end Cert.Proof
-- ==== Proof.Point.lean ====
module

public import proofs.«01_k».proof.Proof.Cells
public import proofs.«01_k».proof.Proof.Gen.KernelIdeal.Points
public import proofs.«01_k».proof.Proof.Gen.KernelIdeal.Regions

/-! The kernel's pipeline: what each point finds and leaves. -/

@[expose] public section

noncomputable section

namespace Cert.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (I : Inp F)
variable {κ : Dev nD × CK → ℕ} {ιs : Key → ℕ}

variable (m : (ℓ : Loc nD τ sig) → Buf (Elt F) ℓ)

/-! ## The kernel's inputs and its output -/

/-- An index of a block of columns, in the whole array. -/
def inCol (b : ℕ) (x : S4096x512.Idx) : S4096x8192.Idx := fun a => match a with
  | ⟨0, _⟩ => ⟨(x 0).val, (x 0).isLt⟩
  | ⟨1, _⟩ => ⟨512 * (b % 16) + (x 1).val, by have h : (x 1).val < 512 := (x 1).isLt; have := Nat.mod_lt b (show 0 < 16 by decide); show _ < 8192; omega⟩
/-- What the kernel reads. -/
def inp : Inp F where
  A c := V1 m c main_v24
  B c b := fun x => (V1 m c main_arg1 : S4096x8192.Idx → Elt F .f32) (inCol b x)
/-- An index of the whole output, in its block of columns. -/
def outCol (i : S1024x8192.Idx) : S1024x512.Idx := fun a => match a with
  | ⟨0, _⟩ => ⟨(i 0).val, (i 0).isLt⟩
  | ⟨1, _⟩ => ⟨(i 1).val % 512, Nat.mod_lt _ (by decide)⟩
/-- What the kernel leaves. -/
def outA (c : Dev nD) : S1024x8192.Idx → Elt F .f32 := fun i => outv (inp m) c ((i 1).val / 512) (outCol i)

/-! ## The pipeline's data -/

/-- The body's invariant before step `s`. -/
def Inv (c : Dev nD) (s : ℕ) : sProp 𝕄 := iprop((∃ κ ιs, ctx (inp m) κ ιs ∗ Hold (inp m) c s) ∗ ∃ r, prngReg c r)

def dat0 (c : Dev nD) : Dat τ (Elt F) ℕ ℕ UU ℕ cfg0 c where
  A w := V1 m c (Pipeline.arrRef spec0 w)
  after w t := match w with
    | 0 => (inp m).A c
    | 1 => (inp m).B c (min t.val 15)
    | 2 => outv (inp m) c (t.val - 3)
  Φ t := Inv m c t.val
  q _ := fullShare
  owed t := owedS c t.val

def pdats : (p : Fin 1) → (c : Dev nD) → Dat τ (Elt F) ℕ ℕ UU ℕ (cfgs p) c
  | 0 => dat0 m

theorem index1 : ∀ t : Fin 19, win0_1.index (Fin.cast N_0.symm t) = ![0, min t.val 15] := by decide
theorem index2 : ∀ t : Fin 19, win0_2.index (Fin.cast N_0.symm t) = ![0, t.val - 3] := by decide
theorem flush2 : ∀ t : Fin 19, win0_2.flush (Fin.cast N_0.symm t) = decide (3 ≤ t.val) := by decide

theorem lt19 (t : Fin cfg0.N) : t.val < 19 := lt_of_lt_of_eq t.isLt N_0
theorem index1' (t : Fin cfg0.N) : win0_1.index t = ![0, min t.val 15] := index1 ⟨t.val, lt19 t⟩
theorem index2' (t : Fin cfg0.N) : win0_2.index t = ![0, t.val - 3] := index2 ⟨t.val, lt19 t⟩
theorem flush2' (t : Fin cfg0.N) : win0_2.flush t = decide (3 ≤ t.val) := flush2 ⟨t.val, lt19 t⟩

theorem blockOf0 (c : Dev nD) (t : Fin cfg0.N) : (dat0 m c).blockOf 0 t = (inp m).A c := by
  funext x
  have h : win0_0.index t = ![0, 0] := rfl
  show V1 m c main_v24 _ = V1 m c main_v24 x
  refine congrArg (V1 m c main_v24 : S512x4096.Idx → Elt F .bf16) (funext fun a => Fin.ext ?_)
  match a with
  | ⟨0, _⟩ =>
    show win0_0.index t 0 * 512 + 1 * (x 0).val = (x 0).val
    rw [h]; show 0 * 512 + _ = _; omega
  | ⟨1, _⟩ =>
    show win0_0.index t 1 * 4096 + 1 * (x 1).val = (x 1).val
    rw [h]; show 0 * 4096 + _ = _; omega
theorem blockOf1 (c : Dev nD) (t : Fin cfg0.N) : (dat0 m c).blockOf 1 t = (inp m).B c (min t.val 15) := by
  funext x
  have h := index1' t
  show (V1 m c main_arg1 : S4096x8192.Idx → Elt F .f32) _ = (V1 m c main_arg1 : S4096x8192.Idx → Elt F .f32) (inCol _ x)
  refine congrArg (V1 m c main_arg1 : S4096x8192.Idx → Elt F .f32) (funext fun a => Fin.ext ?_)
  match a with
  | ⟨0, _⟩ =>
    show win0_1.index t 0 * 4096 + 1 * (x 0).val = (x 0).val
    rw [h]; show 0 * 4096 + _ = _; omega
  | ⟨1, _⟩ =>
    show win0_1.index t 1 * 512 + 1 * (x 1).val = 512 * (min t.val 15 % 16) + (x 1).val
    rw [h]; show min t.val 15 * 512 + _ = _; omega

/-! ## The body obligation -/

theorem before0 (c : Dev nD) (t : Fin cfg0.N) (d) : (dat0 m c).before 0 t d = (inp m).A c :=
  ((dat0 m c).before_in_eq_fetched 0 rfl (fun _ => rfl) (fun _ _ _ => rfl) (fun t => (blockOf0 m c t).symm) t d).trans (blockOf0 m c t)
theorem before1 (c : Dev nD) (t : Fin cfg0.N) (d) : (dat0 m c).before 1 t d = (inp m).B c (min t.val 15) :=
  ((dat0 m c).before_in_eq_fetched 1 rfl (fun _ => rfl) (fun _ _ _ => rfl) (fun t => (blockOf1 m c t).symm) t d).trans (blockOf1 m c t)

theorem owesAt_in (c : Dev nD) (t : Fin (cfg0.N + 1)) : owesE (F := F) c (owedS c t.val) ⊢ (dat0 m c).owesAt 0 t := by
  unfold Dat.owesAt Pipeline.owesWithin Dat.bound owesE
  iintro ⟨%W, HO⟩; iexists W; isplitr; · ipureintro; exact fun _ _ => Or.inl trivial
  iexact HO
theorem owesAt_out (c : Dev nD) (t : Fin (cfg0.N + 1)) : (dat0 m c).owesAt 0 t ⊢ owesE (F := F) c (owedS c t.val) := by
  unfold Dat.owesAt Pipeline.owesWithin owesE
  iintro ⟨%W, -, HO⟩; iexists W; iexact HO

theorem coords_val : ∀ t : Fin 19, ((grid0.coords (Fin.cast N_0.symm t)) 0).val = t.val := by decide
theorem coords_val' (t : Fin cfg0.N) : ((grid0.coords t) 0).val = t.val := coords_val ⟨t.val, lt19 t⟩

theorem idle2 : ∀ t : Fin 19, idle0 2 (grid0.coords (Fin.cast N_0.symm t)) = decide (t.val < 3) := by decide
theorem idle2' (t : Fin cfg0.N) : idle0 2 (grid0.coords t) = decide (t.val < 3) := idle2 ⟨t.val, lt19 t⟩

/-- What the body leaves in the output's buffer. -/
theorem leaves2 (c : Dev nD) (t : Fin cfg0.N) (d) :
    own c (st0_2 t) fullShare (if t.val < 3 then (dat0 m c).before 2 t d else outv (inp m) c (t.val - 3))
      ⊢ (match cfg0.idle 2 (cfg0.grid.coords t) with
        | true =>
          match (cfg0.win 2).flush t with
          | false => iprop(∃ d, owns c ((cfg0.win 2).stage (cfg0.slots t 2)) fullShare ((dat0 m c).before 2 t d))
          | true => owns c ((cfg0.win 2).stage (cfg0.slots t 2)) fullShare ((dat0 m c).after 2 t)
        | false => owns c ((cfg0.win 2).stage (cfg0.slots t 2)) fullShare ((dat0 m c).after 2 t) : sProp 𝕄) := by
  have hi : cfg0.idle 2 (cfg0.grid.coords t) = decide (t.val < 3) := idle2' t
  have hf : (cfg0.win 2).flush t = decide (3 ≤ t.val) := flush2' t
  rw [hi, hf]
  by_cases h : t.val < 3
  · rw [decide_eq_true h, decide_eq_false (show ¬ 3 ≤ t.val by omega), if_pos h]
    iintro H; iexists d; iexact H
  · rw [decide_eq_false h, if_neg h]
    exact entails_refl _

theorem body (c : Dev nD) : BodyObligation (dat0 m c) defs₀ 𝒱₀ 0 Set.univ := fun t => by
  have ht := lt19 t
  rw [bigSep_W0, bigSep_W0]
  simp only [before0, before1]
  rw [show (dat0 m c).Φ t.castSucc = Inv m c t.val from rfl, show (dat0 m c).Φ t.succ = Inv m c (t.val + 1) from rfl]
  unfold Inv
  iintro ⟨⟨⟨%κ, %ιs, #Hctx, HH⟩, Hreg⟩, HO, ⟨%d0, H0⟩, ⟨%d1, H1⟩, ⟨%d2, H2⟩⟩
  ihave HO := (owesAt_out m c t.castSucc) $$ HO
  iapply (body_run (inp m) (κ := κ) (ιs := ιs) c (grid0.coords t) t.val ht (coords_val' t)) $$ [HH HO H0 H1 H2]
  · isplitr; · iexact Hctx
    isplitl [H0 H1]; · isplitl [H0]; · iexact H0
                       iexact H1
    isplitl [H2]; · iexact H2
    isplitl [HO]; · iexact HO
    iexact HH
  iintro ⟨⟨H0, H1⟩, H2, HO, HH⟩
  isplitl [HH Hreg]
  · isplitl [HH]
    · iexists κ; iexists ιs
      isplitr; · iexact Hctx
      iexact HH
    iexact Hreg
  isplitl [HO]; · iapply (owesAt_in m c t.succ); iexact HO
  isplitl [H0]; · iexact H0
  isplitl [H1]; · iexact H1
  iapply (leaves2 m c t d2)
  iexact H2

end Cert.Proof
-- ==== Proof.Region.lean ====
module

public import proofs.«01_k».proof.Proof.Point

/-! The region's record. -/

@[expose] public section

noncomputable section

namespace Cert.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (I : Inp F)
variable {κ : Dev nD × CK → ℕ} {ιs : Key → ℕ}

variable (m : (ℓ : Loc nD τ sig) → Buf (Elt F) ℓ)

/-! ## The output array -/

theorem flushed2 (c : Dev nD) (t : Fin cfg0.N) (ht : (cfg0.win 2).flush t = true) :
    (dat0 m c).flushed 2 t = ((cfg0.win 2).blk t).view.read (Elt F) (outA m c) := by
  have h3 : 3 ≤ t.val := of_decide_eq_true ((flush2' t).symm.trans ht)
  have h := index2' t
  funext x
  have x1 : (x 1).val < 512 := (x 1).isLt
  show outv (inp m) c (t.val - 3) x = outA m c (((cfg0.win 2).blk t).view.emb x)
  have e0 : ((((cfg0.win 2).blk t).view.emb x) 0).val = (x 0).val := by
    show win0_2.index t 0 * 1024 + 1 * (x 0).val = (x 0).val
    rw [h]; show 0 * 1024 + _ = _; omega
  have e1 : ((((cfg0.win 2).blk t).view.emb x) 1).val = (t.val - 3) * 512 + (x 1).val := by
    show win0_2.index t 1 * 512 + 1 * (x 1).val = _
    rw [h]; show (t.val - 3) * 512 + _ = _; omega
  show _ = outv (inp m) c (((((cfg0.win 2).blk t).view.emb x) 1).val / 512) (outCol (((cfg0.win 2).blk t).view.emb x))
  rw [show ((((cfg0.win 2).blk t).view.emb x) 1).val / 512 = t.val - 3 by rw [e1]; omega]
  refine congrArg (outv (inp m) c (t.val - 3)) (funext fun a => Fin.ext ?_)
  match a with
  | ⟨0, _⟩ => exact e0.symm
  | ⟨1, _⟩ =>
    show (x 1).val = ((((cfg0.win 2).blk t).view.emb x) 1).val % 512
    rw [e1]; omega

theorem arr2 (c : Dev nD) : (dat0 m c).arrAt 2 cfg0.N = outA m c := by
  refine (dat0 m c).arrAt_eq_of_cover 2 (outA m c) (flushed2 m c) fun i => ?_
  have i0 : (i 0).val < 1024 := (i 0).isLt
  have i1 : (i 1).val < 8192 := (i 1).isLt
  let t : Fin cfg0.N := ⟨(i 1).val / 512 + 3, lt_of_lt_of_eq (by omega) N_0.symm⟩
  have h := index2' t
  refine ⟨t, (flush2' t).trans (decide_eq_true (by show 3 ≤ (i 1).val / 512 + 3; omega)), ?_⟩
  let x : (win0_2.xblock (grid0.coords t)).Idx := fun a => match a with
    | ⟨0, _⟩ => ⟨(i 0).val, i0⟩
    | ⟨1, _⟩ => ⟨(i 1).val % 512, Nat.mod_lt _ (by decide)⟩
  have e : ((cfg0.win 2).blk t).view.emb x = i := by
    funext a; refine Fin.ext ?_
    match a with
    | ⟨0, _⟩ =>
      show win0_2.index t 0 * 1024 + 1 * (i 0).val = (i 0).val
      rw [h]; show 0 * 1024 + _ = _; omega
    | ⟨1, _⟩ =>
      show win0_2.index t 1 * 512 + 1 * ((i 1).val % 512) = (i 1).val
      rw [h]; show ((i 1).val / 512 + 3 - 3) * 512 + _ = _; omega
  rw [← e]
  exact Finset.mem_map_of_mem _ (Finset.mem_univ x)

/-! ## The region's record -/

/-- What the region leaves. -/
def outs : Outs (F := F) := fun _ r c => Function.update (V1 m c) (Proc.devRef .tc main_v25) (outA m c) (Proc.devRef .tc r)

theorem outs_eq (c : Dev nD) : outs m 2 main_v25 c = outA m c := Function.update_self ..

theorem V2_v25 (c : Dev nD) : V2 m (outs m) c main_v25 = outA m c := (Function.update_self ..).trans (outs_eq m c)

/-- The references the region does not hand to a window. -/
abbrev restR : Finset (DevRef τ sig) := Pipeline.ucRefs τ sig \ Pipeline.arrRefs (τ := τ) spec0

theorem hout_scoped (c : Dev nD) : (Pipeline.scopedRest (Ix := ℕ) (Name := ℕ) (U := UU) (Lvl := ℕ) (Val := Elt F) spec0 c : sProp 𝕄) = bufsAll c := scopedRest0_eq c

theorem hin (c : Dev nD) : iprop(Pipeline.scopedRest (Pipeline.pin (pcfgs (F := F)) adm 0).spec c ∗ (∃ r, prngReg c r) ∗ StableHlo.held (c.tc : Thread nD τ) ∅ (V1 m c) ∗ Xk (inp m) c)
    ⊢ (pdats m 0 c).Φ 0 := by
  rw [show (pdats m 0 c).Φ 0 = Inv m c 0 from rfl,
    show (Pipeline.scopedRest (Pipeline.pin (pcfgs (F := F)) adm 0).spec c : sProp 𝕄) = bufsAll c from scopedRest0_eq c]
  unfold Inv Xk
  iintro ⟨HB, Hp, -, %κ, %ιs, #Hctx, HS, HO⟩
  isplitr [Hp]; swap; · iexact Hp
  iexists κ; iexists ιs
  isplitr; · iexact Hctx
  iapply (hold_in (inp m) c)
  isplitl [HB]; · iexact HB
  isplitl [HS] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V2 m (outs m) c) ∗ Pipeline.ownSems0 osem c ∗ Yk c) := by
  rw [show (pdats m 0 c).Φ (Fin.last _) = Inv m c grid0.N from rfl, N_0,
    show (Pipeline.scopedRest (Pipeline.pin (pcfgs (F := F)) adm 0).spec c : sProp 𝕄) = bufsAll c from scopedRest0_eq c]
  unfold Inv
  iintro ⟨⟨%κ, %ιs, -, HH⟩, Hp⟩
  ihave HH := (hold_out (inp m) c) $$ HH
  icases HH with ⟨HB, HZ, HY⟩
  isplitl [HB]; · iexact HB
  isplitl [Hp]; · iexact Hp
  isplitr; · unfold StableHlo.held; rw [BI.bigSep_empty]; iempintro
  isplitl [HZ] <;> iassumption

theorem owed_pos (c : Dev nD) (s : ℕ) (g : GSem nD τ sig) (i : ℕ) (h : 0 < owedS c s g i) : g.1.2 = .tc ∧ 1 ≤ i ∧ i < 25 := by
  have ht (n : Dev nD) (h : 0 < (tallyAt (rcell n 5) 1 1 : CellTallies nD τ sig ℕ) g i) : g.1.2 = .tc ∧ 1 ≤ i ∧ i < 25 := by
    rw [tallyAt_apply] at h
    split at h
    · next e => obtain ⟨rfl, rfl⟩ := e; exact ⟨rfl, le_rfl, by decide⟩
    · exact absurd h (lt_irrefl 0)
  have hm (s : ℕ) (h : 0 < owedM c s g i) : g.1.2 = .tc ∧ 1 ≤ i ∧ i < 25 := by
    have := owedM_above c s g i h
    exact ⟨this.1, by omega, this.2.2⟩
  unfold owedS at h
  split at h
  · have h : 0 < owedM c 0 g i + (((tallyAt (rcell (yp c) 5) 1 1 : CellTallies nD τ sig ℕ) g i + (tallyAt (rcell (xp c) 5) 1 1 : CellTallies nD τ sig ℕ) g i)
        + (tallyAt (rcell (zp c) 5) 1 1 : CellTallies nD τ sig ℕ) g i) := h
    rcases Nat.add_pos_iff_pos_or_pos.mp h with h | h
    · exact hm 0 h
    rcases Nat.add_pos_iff_pos_or_pos.mp h with h | h
    · rcases Nat.add_pos_iff_pos_or_pos.mp h with h | h
      · exact ht _ h
      · exact ht _ h
    · exact ht _ h
  · exact hm s h
theorem owed_cut (c : Dev nD) (s : ℕ) (g : GSem nD τ sig) (i : ℕ) (h : 0 < owedS c s g i) : i ∈ L g ∧ 0 < lv g i := by
  obtain ⟨h1, h2, h3⟩ := owed_pos c s g i h
  exact ⟨by unfold L; rw [if_pos h1]; exact Finset.mem_range.mpr h3, h2⟩
theorem owed_last (c : Dev nD) : owedS c 19 = 0 := by
  unfold owedS; rw [if_neg (by decide)]; exact owedM_end c le_rfl

theorem share_full (c : Dev nD) : ∀ w, (dat0 m c).share w = fullShare := fun w => by
  unfold Dat.share; split <;> rfl

theorem arr_in (c : Dev nD) : ∀ w, (dat0 m c).arrAt w 0 = V1 m c (Proc.devRef .tc (Pipeline.arrRef spec0 w)) := fun _ => rfl
theorem arr_out (c : Dev nD) : ∀ w : Fin 3, (dat0 m c).arrAt w cfg0.N = V2 m (outs m) c (Proc.devRef .tc (Pipeline.arrRef spec0 w))
  | 0 => ((dat0 m c).arrAt_in 0 rfl _).trans (V2_of m (outs m) c main_v24 (by decide)).symm
  | 1 => ((dat0 m c).arrAt_in 1 rfl _).trans (V2_of m (outs m) c main_arg1 (by decide)).symm
  | 2 => (arr2 m c).trans (V2_v25 m c).symm

theorem rest_same (c : Dev nD) : ∀ b ∈ restR \ (∅ : Finset (DevRef τ sig)), V2 m (outs m) c b = V1 m c b := fun b hb => by
  have hb : b ∈ restR := (Finset.mem_sdiff.mp hb).1
  have hn := (Finset.mem_sdiff.mp hb).2
  refine Function.update_of_ne (fun e => hn ?_) _ _
  rw [e]
  exact Finset.mem_map_of_mem _ (Finset.mem_image_of_mem (Pipeline.arrRef spec0) (Finset.mem_univ (2 : Fin 3)))

set_option backward.isDefEq.respectTransparency.types false in
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 osem (by decide : Pipeline.OwnSemFacts spec0 osem)
    ∅ restR (Finset.empty_subset _) launch0.toP rfl (fun c => (body m c).loose)
    (fun _ => 0) (fun c => owedS c 0) (fun c => (zero_add _).symm) (fun c => (congrArg (owedS c) N_0).trans (owed_last c)) (fun _ => rfl) (share_full m)
    (V1 m) (V2 m (outs m)) (rest_same m)
    (Tk (inp m)) Yk (Xk (inp m)) Yk (hopen (inp m)) (hin m) (hout m)
    (fun c => by iintro H; imodintro; iexact H)
    (fun _ => 0)
    ⟨fun c w s => by unfold L; rw [if_pos rfl]; exact Finset.mem_range.mpr (by decide), fun c w s => le_rfl, fun c t g i h => owed_cut c t.val g i h⟩
    (fun _ => iprop(emp))
    (arr_in m) (arr_out m)

/-- What rides beside the buffers, before the region and after it. -/
def Er : Fin 2 → Dev nD → sProp 𝕄
  | 0 => fun c => iprop((∃ r, prngReg c r) ∗ Tk (inp m) c ∗ ∃ W, owes (c : Thread nD τ) (owedS c 0) W)
  | 1 => fun c => iprop(Yk c ∗ ∃ W, owes (c : Thread nD τ) (0 : CellTallies nD τ sig ℕ) W)

theorem arr_sub : Pipeline.arrRefs (τ := τ) spec0 ⊆ Pipeline.ucRefs τ sig := Pipeline.arrRefs_sub_ucRefs spec0 winFacts0.arr_unscoped

theorem reg0_pre (c : Dev nD) : iprop(StableHlo.held (c : Thread nD τ) (Pipeline.ucRefs τ sig) (V1 m c) ∗ Er m 0 c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) restR (V1 m c) ∗ emp) ∗ Tk (inp m) c ∗ ∃ Wd, owes (c : Thread nD τ) (0 + owedS c 0) Wd)
  rw [StableHlo.held_sub_split (c.tc : Thread nD τ) arr_sub (V1 m c), zero_add]
  unfold Er
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption

theorem reg0_post (c : Dev nD) : (reg0 m).post c ⊢ iprop(StableHlo.held (c : Thread nD τ) (Pipeline.ucRefs τ sig) (V2 m (outs m) c) ∗ Er m 1 c) := by
  show iprop(StableHlo.held (c.tc : Thread nD τ) (Pipeline.arrRefs (τ := τ) spec0) (V2 m (outs m) c) ∗ (∃ r, prngReg c r)
    ∗ (StableHlo.held (c.tc : Thread nD τ) restR (V2 m (outs m) c) ∗ emp) ∗ Yk c ∗ ∃ Wd, owes (c : Thread nD τ) (0 : CellTallies nD τ sig ℕ) Wd) ⊢ _
  rw [StableHlo.held_sub_split (c.tc : Thread nD τ) arr_sub (V2 m (outs m) c)]
  unfold Er
  iintro ⟨Ha, -, ⟨Hr, -⟩, HY, HO⟩
  isplitl [Ha Hr]; · isplitl [Ha] <;> iassumption
  isplitl [HY] <;> iassumption

end Cert.Proof
-- ==== Proof.Deal.lean ====
module

public import proofs.«01_k».proof.Proof.Region
public import Idealize.ShloMosaic.Lib.Ring
public import Idealize.SL.BI.BigOpNat

/-! What launch deals: the duties, the write tokens and the credits. -/

@[expose] public section

noncomputable section

namespace Cert.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (I : Inp F)
variable {κ : Dev nD × CK → ℕ} {ιs : Key → ℕ}

/-! ## Families over the devices and the blocks -/

/-- A family over the devices and the blocks. -/
def fam (Φ : Dev nD → ℕ → sProp 𝕄) : sProp 𝕄 := BI.bigSep Finset.univ fun c => BI.bigSep (Finset.Ico 0 16) (Φ c)

theorem fam_sep (Φ Ψ : Dev nD → ℕ → sProp 𝕄) : fam (fun c b => iprop(Φ c b ∗ Ψ c b)) = iprop(fam Φ ∗ fam Ψ) := by
  unfold fam
  rw [← bigSep_sep']
  exact BI.bigSep_congr fun c _ => bigSep_sep' _ _ _

theorem fam_swap (Φ : Dev nD → ℕ → sProp 𝕄) : fam Φ = BI.bigSep (Finset.Ico 0 16) fun b => BI.bigSep Finset.univ fun c => Φ c b := by
  unfold fam
  generalize Finset.Ico 0 16 = s
  induction s using Finset.induction_on with
  | empty => simp only [BI.bigSep_empty]; exact BI.bigSep_emp_const _
  | insert a s ha ih =>
    simp only [BI.bigSep_insert ha]
    rw [← ih]
    exact bigSep_sep' _ _ _

/-- A family whose members go to a partner each. -/
theorem fam_deal (e : Dev nD → ℕ → Dev nD) (he : ∀ c b, e (e c b) b = c) (Φ : Dev nD → ℕ → sProp 𝕄) : fam Φ = fam fun c b => Φ (e c b) b := by
  rw [fam_swap, fam_swap]
  exact BI.bigSep_congr fun b _ => BI.bigSep_univ_equiv ⟨fun c => e c b, fun c => e c b, fun c => he c b, fun c => he c b⟩ (fun c => Φ c b)

/-- A family over the devices whose members go to a partner each. -/
theorem dev_deal (e : Dev nD → Dev nD) (he : ∀ c, e (e c) = c) (Φ : Dev nD → sProp 𝕄) : BI.bigSep Finset.univ Φ = BI.bigSep Finset.univ fun c => Φ (e c) :=
  BI.bigSep_univ_equiv ⟨e, e, he, he⟩ Φ

theorem fstp_inv (c : Dev nD) (b : ℕ) : fstp (fstp c b) b = c := by
  unfold fstp; split
  · exact xp_xp c
  · exact zp_zp c
theorem sndp_inv (c : Dev nD) (b : ℕ) : sndp (sndp c b) b = c := by
  unfold sndp; split
  · exact zp_zp c
  · exact xp_xp c

/-- Sixteen of them by parity. -/
theorem by_parity (Φ : ℕ → sProp 𝕄) : BI.bigSep (Finset.Ico 0 16) Φ
    = iprop(BI.bigSep (Finset.Ico 0 8) (fun k => Φ (2 * k)) ∗ BI.bigSep (Finset.Ico 0 8) (fun k => Φ (2 * k + 1))) := by
  have h := Ring.bigSep_range_interleave (M := 𝕄) 8 (fun k => Φ (2 * k)) (fun k => Φ (2 * k + 1))
  rw [Finset.range_eq_Ico, Finset.range_eq_Ico] at h
  rw [← h]
  refine BI.bigSep_congr fun t _ => ?_
  split
  · rw [show 2 * (t / 2) = t by omega]
  · rw [show 2 * (t / 2) + 1 = t by omega]

/-! ## The credits a device waits with -/

def C (k : Fin 8) (n : ℕ) (c : Dev nD) (b : ℕ) : sProp 𝕄 := cred (tallyAt (dcell c k (jj b)) (b + n) NN)
def CR (q : Fin 6) (n : ℕ) (c : Dev nD) (b : ℕ) : sProp 𝕄 := cred (tallyAt (rcell c q) (b + n) 1)
def CQ (qf : ℕ → Fin 6) (n : ℕ) (c : Dev nD) (b : ℕ) : sProp 𝕄 := cred (tallyAt (rcell c (qf b)) (b + n) 1)

/-- A device's credits at launch. -/
def creds (c : Dev nD) : sProp 𝕄 :=
  iprop(BI.bigSep (Finset.Ico 0 16) (C (F := F) 1 2 c)
    ∗ (BI.bigSep (Finset.Ico 0 16) (CR 0 3 c) ∗ BI.bigSep (Finset.Ico 0 16) (C 3 3 c))
    ∗ (BI.bigSep (Finset.Ico 0 16) (C 5 4 c) ∗ BI.bigSep (Finset.Ico 0 16) (C 7 4 c))
    ∗ (BI.bigSep (Finset.Ico 0 16) (CQ q1c 5 c) ∗ BI.bigSep (Finset.Ico 0 16) (CQ q2c 5 c))
    ∗ cred (tallyAt (rcell c 5) 1 3))

theorem cred_three (g : GSem nD τ sig) : iprop(cred (tallyAt g 1 1) ∗ cred (tallyAt g 1 1) ∗ cred (tallyAt g 1 1)) ⊢ (cred (tallyAt g 1 3) : sProp 𝕄) := by
  rw [show (tallyAt g 1 3 : CellTallies nD τ sig ℕ) = tallyAt g 1 1 + (tallyAt g 1 1 + tallyAt g 1 1) by
    rw [tallyAt_add, tallyAt_add]]
  iintro ⟨H1, H2, H3⟩
  iapply (cred_add _ _).2
  isplitl [H1]; · iexact H1
  iapply (cred_add _ _).2
  isplitl [H2] <;> iassumption

theorem credB (c : Dev nD) : (Pipeline.launchCred dueB c : sProp 𝕄) ⊢ cred (tallyAt (rcell c 5) 1 3) := by
  refine BIBase.Entails.trans ?_ (cred_three (rcell c 5))
  have e : (Pipeline.launchCred dueB c : sProp 𝕄) = Pipeline.launchCred (fun d : Dev nD =>
      (tallyAt (rcell (yp d) 5) 1 1 + tallyAt (rcell (xp d) 5) 1 1) + tallyAt (rcell (zp d) 5) 1 1) c := rfl
  rw [e, Pipeline.launchCred_add, Pipeline.launchCred_add]
  have h1 := Pipeline.launchCred_tallyAt (Val := Elt F) (Name := ℕ) (U := UU) (Lvl := ℕ) (sig := sig) (τ := τ) (SemLoc.reg (5 : Fin 6)) yp yp yp_yp yp_yp (1 : ℕ) 1 c
  have h2 := Pipeline.launchCred_tallyAt (Val := Elt F) (Name := ℕ) (U := UU) (Lvl := ℕ) (sig := sig) (τ := τ) (SemLoc.reg (5 : Fin 6)) xp xp xp_xp xp_xp (1 : ℕ) 1 c
  have h3 := Pipeline.launchCred_tallyAt (Val := Elt F) (Name := ℕ) (U := UU) (Lvl := ℕ) (sig := sig) (τ := τ) (SemLoc.reg (5 : Fin 6)) zp zp zp_zp zp_zp (1 : ℕ) 1 c
  iintro ⟨⟨H1, H2⟩, H3⟩
  isplitl [H1]; · iapply h1 $$ H1
  isplitl [H2]; · iapply h2 $$ H2
  iapply h3 $$ H3

/-- The launch credit of one family of tallies. -/
theorem cred_fam (e : Dev nD → ℕ → Dev nD) (he : ∀ c b, e (e c b) b = c) (sm : ℕ → SemLoc sig) (ι n : ℕ → ℕ) (c : Dev nD) :
    (Pipeline.launchCred (fun d => ∑ b ∈ Finset.Ico 0 16, tallyAt ((e d b : Thread nD τ), sm b) (ι b) (n b)) c : sProp 𝕄)
      ⊢ BI.bigSep (Finset.Ico 0 16) (fun b => cred (tallyAt ((c : Thread nD τ), sm b) (ι b) (n b))) := by
  rw [Pipeline.launchCred_sum]
  exact BI.bigSep_mono fun b _ => Pipeline.launchCred_tallyAt (sm b) (fun d => e d b) (fun d => e d b) (fun d => he d b) (fun d => he d b) (ι b) (n b) c

theorem launch_creds (c : Dev nD) : (Pipeline.launchCred (fun d => owedS d 0) c : sProp 𝕄) ⊢ creds c := by
  have e : (fun d => owedS d 0) = fun d : Dev nD => ((((∑ b ∈ Finset.Ico 0 16, tallyAt (dcell (yp d) 1 (jj b)) (b + 2) NN)
      + ((∑ b ∈ Finset.Ico 0 16, tallyAt (rcell (yp d) 0) (b + 3) 1) + ∑ b ∈ Finset.Ico 0 16, tallyAt (dcell (fstp d b) 3 (jj b)) (b + 3) NN))
      + ((∑ b ∈ Finset.Ico 0 16, tallyAt (dcell (sndp d b) 5 (jj b)) (b + 4) NN) + ∑ b ∈ Finset.Ico 0 16, tallyAt (dcell (sndp d b) 7 (jj b)) (b + 4) NN))
      + ((∑ b ∈ Finset.Ico 0 16, tallyAt (rcell (fstp d b) (q1c b)) (b + 5) 1) + ∑ b ∈ Finset.Ico 0 16, tallyAt (rcell (sndp d b) (q2c b)) (b + 5) 1))
      + dueB d := by
    funext d
    unfold owedS owedM A0 A1 A2 A3 due0 due1 due2 due3
    rw [if_pos rfl, Finset.sum_add_distrib, Finset.sum_add_distrib, Finset.sum_add_distrib]
  rw [e]
  simp only [Pipeline.launchCred_add]
  unfold creds
  iintro ⟨⟨⟨⟨H0, H1, H2⟩, H3, H4⟩, H5, H6⟩, HB⟩
  isplitl [H0]; · iapply (cred_fam (fun d _ => yp d) (fun d _ => yp_yp d) (fun b => .dma (dsem 1 (jj b))) (fun b => b + 2) (fun _ => NN) c) $$ H0
  isplitl [H1 H2]
  · isplitl [H1]
    · iapply (cred_fam (fun d _ => yp d) (fun d _ => yp_yp d) (fun b => .reg (0 : Fin 6)) (fun b => b + 3) (fun _ => 1) c) $$ H1
    · iapply (cred_fam fstp fstp_inv (fun b => .dma (dsem 3 (jj b))) (fun b => b + 3) (fun _ => NN) c) $$ H2
  isplitl [H3 H4]
  · isplitl [H3]
    · iapply (cred_fam sndp sndp_inv (fun b => .dma (dsem 5 (jj b))) (fun b => b + 4) (fun _ => NN) c) $$ H3
    · iapply (cred_fam sndp sndp_inv (fun b => .dma (dsem 7 (jj b))) (fun b => b + 4) (fun _ => NN) c) $$ H4
  isplitl [H5 H6]
  · isplitl [H5]
    · iapply (cred_fam fstp fstp_inv (fun b => .reg (q1c b)) (fun b => b + 5) (fun _ => 1) c) $$ H5
    · iapply (cred_fam sndp sndp_inv (fun b => .reg (q2c b)) (fun b => b + 5) (fun _ => 1) c) $$ H6
  iapply (credB c) $$ HB

/-- The credits of the partners' signals, cell by cell. -/
theorem cq_split (qf : ℕ → Fin 6) (qa qb : Fin 6) (ha : ∀ k, qf (2 * k) = qa) (hb : ∀ k, qf (2 * k + 1) = qb)
    (ua : units qa.val = 8) (ub : units qb.val = 8) (ca : ∀ k, cix qa.val k = 2 * k + 5) (cb : ∀ k, cix qb.val k = 2 * k + 6) (c : Dev nD) :
    BI.bigSep (Finset.Ico 0 16) (CQ (F := F) qf 5 c) ⊢ iprop(crs (F := F) c qa ∗ crs c qb) := by
  rw [by_parity]
  unfold crs CQ
  rw [ua, ub]
  simp only [ha, hb, ca, cb]
  exact BIBase.Entails.rfl

/-! ## The duties -/

def D (k : Fin 8) (c : Dev nD) (b : ℕ) : sProp 𝕄 := dutyTok ER (dcell c k (jj b)) (b / 4) 0
def DR (c : Dev nD) (b : ℕ) : sProp 𝕄 := dutyTok ER (rcell c 0) 0 b
def DQ (qf : ℕ → Fin 6) (c : Dev nD) (b : ℕ) : sProp 𝕄 := dutyTok ER (rcell c (qf b)) 0 (b / 2)
def DB (d : ℕ) (c : Dev nD) : sProp 𝕄 := dutyTok ER (rcell c 5) 0 d
def W (k : Fin 3) (c : Dev nD) (b : ℕ) : sProp 𝕄 := writeTok ES ((c, k, jj b) : Key) (b / 4 + 1)

/-- The names of a device's duties. -/
abbrev TI : Type := (Fin 8 × Fin 16) ⊕ (Fin 16 ⊕ (Fin 16 ⊕ (Fin 16 ⊕ Fin 3)))

def tsem : TI → SemLoc sig × ℕ × ℕ
  | .inl (k, b) => (.dma (dsem k (jj b.val)), b.val / 4, 0)
  | .inr (.inl b) => (.reg (0 : Fin 6), 0, b.val)
  | .inr (.inr (.inl b)) => (.reg (q1c b.val), 0, b.val / 2)
  | .inr (.inr (.inr (.inl b))) => (.reg (q2c b.val), 0, b.val / 2)
  | .inr (.inr (.inr (.inr d))) => (.reg (5 : Fin 6), 0, d.val)

/-- A number by which the duties are told apart. -/
def tnum : SemLoc sig × ℕ × ℕ → ℕ
  | (.dma q, r, _) => 4 * q.val + r
  | (.reg q, _, d) => 1000 + 100 * q.val + d

def tnm : TI → ℕ
  | .inl (k, b) => 4 * (5 + 4 * k.val + b.val % 4) + b.val / 4
  | .inr (.inl b) => 1000 + b.val
  | .inr (.inr (.inl b)) => 1100 + 100 * (b.val % 2) + b.val / 2
  | .inr (.inr (.inr (.inl b))) => 1300 + 100 * (b.val % 2) + b.val / 2
  | .inr (.inr (.inr (.inr d))) => 1500 + d.val

theorem tnum_tsem (x : TI) : tnum (tsem x) = tnm x := by
  rcases x with ⟨k, b⟩ | b | b | b | d
  · rfl
  · rfl
  · show 1000 + 100 * (q1c b.val).val + b.val / 2 = 1100 + 100 * (b.val % 2) + b.val / 2
    unfold q1c
    split <;> rename_i h
    · show 1000 + 100 * 1 + _ = _; omega
    · show 1000 + 100 * 2 + _ = _; omega
  · show 1000 + 100 * (q2c b.val).val + b.val / 2 = 1300 + 100 * (b.val % 2) + b.val / 2
    unfold q2c
    split <;> rename_i h
    · show 1000 + 100 * 3 + _ = _; omega
    · show 1000 + 100 * 4 + _ = _; omega
  · rfl

theorem tnm_inj : Function.Injective tnm := by
  intro x y h
  rcases x with ⟨⟨k, hk⟩, ⟨b, hb⟩⟩ | ⟨b, hb⟩ | ⟨b, hb⟩ | ⟨b, hb⟩ | ⟨d, hd⟩ <;>
    rcases y with ⟨⟨k', hk'⟩, ⟨b', hb'⟩⟩ | ⟨b', hb'⟩ | ⟨b', hb'⟩ | ⟨b', hb'⟩ | ⟨d', hd'⟩ <;>
    simp only [tnm] at h
  all_goals first
    | (exfalso; omega)
    | (have e1 : k = k' := by omega
       have e2 : b = b' := by omega
       subst e1; subst e2; rfl)
    | (have e : b = b' := by omega
       subst e; rfl)
    | (have e : d = d' := by omega
       subst e; rfl)

def tok (p : Dev nD × TI) : GSem nD τ sig × ℕ × ℕ := (((p.1 : Thread nD τ), (tsem p.2).1), (tsem p.2).2.1, (tsem p.2).2.2)

theorem tok_inj : Function.Injective tok := by
  intro p q h
  have h1 : p.1 = q.1 := congrArg (fun x : GSem nD τ sig × ℕ × ℕ => x.1.1.1) h
  have h2 : tsem p.2 = tsem q.2 := congrArg (fun x : GSem nD τ sig × ℕ × ℕ => (x.1.2, x.2.1, x.2.2)) h
  exact Prod.ext h1 (tnm_inj (by rw [← tnum_tsem, ← tnum_tsem, h2]))

/-- All duties. -/
def duties : Finset (GSem nD τ sig × ℕ × ℕ) := Finset.univ.map ⟨tok, tok_inj⟩

theorem fin16 (Φ : ℕ → sProp 𝕄) : BI.bigSep Finset.univ (fun b : Fin 16 => Φ b.val) = BI.bigSep (Finset.Ico 0 16) Φ := by
  rw [← Finset.range_eq_Ico]
  exact Ring.bigSep_fin_eq_range 16 (fun b => Φ b.val) Φ fun _ _ => rfl

theorem duties_split : BI.bigSep duties (fun x => dutyTok ER x.1 x.2.1 x.2.2)
    = iprop((fam (F := F) (D 0) ∗ fam (D 1) ∗ fam (D 2) ∗ fam (D 3) ∗ fam (D 4) ∗ fam (D 5) ∗ fam (D 6) ∗ fam (D 7))
      ∗ fam DR ∗ fam (DQ q1c) ∗ fam (DQ q2c) ∗ (BI.bigSep Finset.univ (DB 0) ∗ BI.bigSep Finset.univ (DB 1) ∗ BI.bigSep Finset.univ (DB 2))) := by
  unfold duties
  rw [BI.bigSep_map, BI.bigSep_univ_prod]
  unfold fam
  simp only [← bigSep_sep' (Finset.univ : Finset (Dev nD))]
  refine BI.bigSep_congr fun c _ => ?_
  rw [BI.bigSep_univ_sum, BI.bigSep_univ_sum, BI.bigSep_univ_sum, BI.bigSep_univ_sum, BI.bigSep_univ_prod,
    bigSep_univ_eq_bigSepL [(0 : Fin 8), 1, 2, 3, 4, 5, 6, 7] (by decide) (by decide),
    bigSep_univ_eq_bigSepL [(0 : Fin 3), 1, 2] (by decide) (by decide)]
  have e0 (k : Fin 8) : BI.bigSep Finset.univ (fun b : Fin 16 => (dutyTok ER (dcell c k (jj b.val)) (b.val / 4) 0 : sProp 𝕄)) = BI.bigSep (Finset.Ico 0 16) (D k c) :=
    fin16 (D k c)
  have e1 : BI.bigSep Finset.univ (fun b : Fin 16 => (dutyTok ER (rcell c 0) 0 b.val : sProp 𝕄)) = BI.bigSep (Finset.Ico 0 16) (DR c) := fin16 (DR c)
  have e2 (qf : ℕ → Fin 6) : BI.bigSep Finset.univ (fun b : Fin 16 => (dutyTok ER (rcell c (qf b.val)) 0 (b.val / 2) : sProp 𝕄)) = BI.bigSep (Finset.Ico 0 16) (DQ qf c) :=
    fin16 (DQ qf c)
  rw [← e0 0, ← e0 1, ← e0 2, ← e0 3, ← e0 4, ← e0 5, ← e0 6, ← e0 7, ← e1, ← e2 q1c, ← e2 q2c]
  rfl

/-! ## The write tokens -/

def wtok (p : Dev nD × (Fin 3 × Fin 20)) : Key × ℕ := ((p.1, p.2.1, jj p.2.2.val), p.2.2.val / 4)

theorem wtok_inj : Function.Injective wtok := by
  rintro ⟨c, k, ⟨b, hb⟩⟩ ⟨c', k', ⟨b', hb'⟩⟩ h
  have h1 : c = c' := congrArg (fun x : Key × ℕ => x.1.1) h
  have h2 : k = k' := congrArg (fun x : Key × ℕ => x.1.2.1) h
  have h3 : b % 4 = b' % 4 := congrArg (fun x : Key × ℕ => x.1.2.2.val) h
  have h4 : b / 4 = b' / 4 := congrArg (fun x : Key × ℕ => x.2) h
  have h5 : b = b' := by omega
  subst h1; subst h2; subst h5; rfl

/-- The slots' write tokens of one device. -/
def W20 (c : Dev nD) (k : Fin 3) : sProp 𝕄 := iprop(BI.bigSep (Finset.Ico 0 16) (W (F := F) k c) ∗ W k c 16 ∗ W k c 17 ∗ W k c 18 ∗ W k c 19)

theorem w20 (c : Dev nD) (k : Fin 3) : BI.bigSep Finset.univ (fun b : Fin 20 => W (F := F) k c b.val) ⊢ W20 c k := by
  rw [Ring.bigSep_fin_eq_range 20 (fun b => W (F := F) k c b.val) (W k c) fun _ _ => rfl, BI.bigSep_range_succ, BI.bigSep_range_succ, BI.bigSep_range_succ, BI.bigSep_range_succ,
    Finset.range_eq_Ico]
  unfold W20
  iintro ⟨H3, H2, H1, H0, H⟩
  isplitl [H]; · iexact H
  isplitl [H0]; · iexact H0
  isplitl [H1]; · iexact H1
  isplitl [H2] <;> iassumption

theorem writes_split : BI.bigSep ((Finset.univ : Finset Key) ×ˢ Finset.range 5) (fun x => (writeTok ES x.1 (x.2 + 1) : sProp 𝕄))
    ⊢ BI.bigSep Finset.univ (fun c : Dev nD => iprop(W20 (F := F) c 0 ∗ W20 c 1 ∗ W20 c 2)) := by
  refine BIBase.Entails.trans (BI.bigSep_subset (t := Finset.univ.map ⟨wtok, wtok_inj⟩) ?_) ?_
  · intro x hx
    obtain ⟨p, _, rfl⟩ := Finset.mem_map.mp hx
    have := p.2.2.isLt
    exact Finset.mem_product.mpr ⟨Finset.mem_univ _, Finset.mem_range.mpr (show p.2.2.val / 4 < 5 by omega)⟩
  · rw [BI.bigSep_map, BI.bigSep_univ_prod]
    refine BI.bigSep_mono fun c _ => ?_
    rw [BI.bigSep_univ_prod, bigSep_univ_eq_bigSepL [(0 : Fin 3), 1, 2] (by decide) (by decide)]
    simp only [bigSepL]
    show iprop((BI.bigSep Finset.univ fun b : Fin 20 => W (F := F) 0 c b.val) ∗ (BI.bigSep Finset.univ fun b : Fin 20 => W (F := F) 1 c b.val)
      ∗ (BI.bigSep Finset.univ fun b : Fin 20 => W (F := F) 2 c b.val)) ⊢ _
    iintro ⟨H0, H1, H2⟩
    isplitl [H0]; · iapply (w20 c 0) $$ H0
    isplitl [H1]; · iapply (w20 c 1) $$ H1
    iapply (w20 c 2) $$ H2

end Cert.Proof
-- ==== Proof.Launch.lean ====
module

public import proofs.«01_k».proof.Proof.Deal

/-! Launch: what every device starts from. -/

@[expose] public section

noncomputable section

namespace Cert.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (I : Inp F)
variable {κ : Dev nD × CK → ℕ} {ιs : Key → ℕ}

variable (m : (ℓ : Loc nD τ sig) → Buf (Elt F) ℓ)

/-- Two families over the devices, and one of pairs. -/
theorem bs_pair {α : Type} [Fintype α] (Φ Ψ : α → sProp 𝕄) : iprop(BI.bigSep Finset.univ Φ ∗ BI.bigSep Finset.univ Ψ) ⊢ BI.bigSep Finset.univ (fun c => iprop(Φ c ∗ Ψ c)) :=
  Entails.of_eq (bigSep_sep' _ _ _).symm
theorem bs_unpair {α : Type} [Fintype α] (Φ Ψ : α → sProp 𝕄) : BI.bigSep Finset.univ (fun c => iprop(Φ c ∗ Ψ c)) ⊢ iprop(BI.bigSep Finset.univ Φ ∗ BI.bigSep Finset.univ Ψ) :=
  Entails.of_eq (bigSep_sep' _ _ _)

/-! ## What each device is dealt -/

theorem osem_inj : Function.Injective osem := by
  have h : ∀ a b : OK, osem a = osem b → a = b := by decide
  exact fun a b => h a b

/-- What each device starts from, knowledge of its partners' cells and the right to open its own aside. -/
def tokBL (c : Dev nD) : sProp 𝕄 :=
  iprop((DB (F := F) 0 (yp c) ∗ DB 1 (xp c) ∗ DB 2 (zp c)) ∗ cred (tallyAt (rcell c 5) 1 3) ∗ atPos ER (rcell c 5) 0 ∅ 0)
def StartL (c : Dev nD) : sProp 𝕄 :=
  iprop(lasts (F := F) c ∗ tokBL c ∗ toks c 0 ∗ (rdrs c 0 ∗ rdrs c 1 ∗ rdrs c 2 ∗ rdrs c 3) ∗ (crs c 0 ∗ crs c 1 ∗ crs c 2 ∗ crs c 3 ∗ crs c 4))

theorem start_of (c : Dev nD) : iprop((reached ER (rcell (yp c) 5) 0 ∗ reached ER (rcell (xp c) 5) 0 ∗ reached ER (rcell (zp c) 5) 0) ∗ StartL c) ⊢ Start (F := F) c := by
  unfold StartL Start tokBL tokB DB
  iintro ⟨⟨R1, R2, R3⟩, HL, ⟨⟨B1, B2, B3⟩, HC, HA⟩, HT⟩
  isplitl [HL]; · iexact HL
  isplitr [HT]
  · isplitl [B1]; · iexact B1
    isplitl [B2]; · iexact B2
    isplitl [B3]; · iexact B3
    isplitl [R1]; · iexact R1
    isplitl [R2]; · iexact R2
    isplitl [R3]; · iexact R3
    isplitl [HC] <;> iassumption
  · iexact HT

theorem fam_tok0 : fam (tok0 (F := F)) = iprop(fam (D 0) ∗ fam (D 1) ∗ fam (W 0)) := by
  rw [fam_deal (fun c _ => yp c) (fun c _ => yp_yp c) (D 1), fam_deal (fun c _ => yp c) (fun c _ => yp_yp c) (W 0), ← fam_sep, ← fam_sep]
  rfl
theorem fam_tok1 : fam (tok1 (F := F)) = iprop(fam (C 1 2) ∗ fam DR ∗ fam (D 2) ∗ fam (D 3) ∗ fam (W 1)) := by
  rw [fam_deal (fun c _ => yp c) (fun c _ => yp_yp c) DR, fam_deal fstp fstp_inv (D 3), fam_deal fstp fstp_inv (W 1), ← fam_sep, ← fam_sep, ← fam_sep, ← fam_sep]
  rfl
theorem fam_tok2 : fam (tok2 (F := F)) = iprop(fam (C 3 3) ∗ fam (D 4) ∗ fam (D 5) ∗ fam (D 6) ∗ fam (D 7) ∗ fam (W 2)) := by
  rw [fam_deal sndp sndp_inv (D 5), fam_deal sndp sndp_inv (D 7), fam_deal sndp sndp_inv (W 2), ← fam_sep, ← fam_sep, ← fam_sep, ← fam_sep, ← fam_sep]
  rfl
theorem fam_tok3 : fam (tok3 (F := F)) = iprop(fam (C 5 4) ∗ fam (C 7 4) ∗ fam (DQ q1c) ∗ fam (DQ q2c)) := by
  rw [fam_deal fstp fstp_inv (DQ q1c), fam_deal sndp sndp_inv (DQ q2c), ← fam_sep, ← fam_sep, ← fam_sep]
  rfl

theorem toks_fam : BI.bigSep Finset.univ (fun c : Dev nD => toks (F := F) c 0) = iprop(fam tok0 ∗ fam tok1 ∗ fam tok2 ∗ fam tok3) := by
  unfold fam
  rw [← bigSep_sep', ← bigSep_sep', ← bigSep_sep']
  rfl

/-- A device's write tokens: the last ones its own, the rest to deal. -/
theorem w20_split (c : Dev nD) : iprop(W20 (F := F) c 0 ∗ W20 c 1 ∗ W20 c 2)
    ⊢ iprop(lasts c ∗ BI.bigSep (Finset.Ico 0 16) (W 0 c) ∗ BI.bigSep (Finset.Ico 0 16) (W 1 c) ∗ BI.bigSep (Finset.Ico 0 16) (W 2 c)) := by
  unfold W20 lasts last1
  iintro ⟨⟨H0, A0, A1, A2, A3⟩, ⟨H1, B0, B1, B2, B3⟩, ⟨H2, C0, C1, C2, C3⟩⟩
  isplitr [H0 H1 H2]
  · unfold W
    isplitl [A0 B0 C0]
    · isplitl [A0]; · iexact A0
      isplitl [B0] <;> iassumption
    isplitl [A1 B1 C1]
    · isplitl [A1]; · iexact A1
      isplitl [B1] <;> iassumption
    isplitl [A2 B2 C2]
    · isplitl [A2]; · iexact A2
      isplitl [B2] <;> iassumption
    · isplitl [A3]; · iexact A3
      isplitl [B3] <;> iassumption
  isplitl [H0]; · iexact H0
  isplitl [H1] <;> iassumption

/-- A device's credits: for its signal cells, for its barrier, for its transfers. -/
theorem creds_split (c : Dev nD) : creds (F := F) c
    ⊢ iprop((crs c 0 ∗ crs c 1 ∗ crs c 2 ∗ crs c 3 ∗ crs c 4) ∗ cred (tallyAt (rcell c 5) 1 3)
      ∗ BI.bigSep (Finset.Ico 0 16) (C 1 2 c) ∗ BI.bigSep (Finset.Ico 0 16) (C 3 3 c) ∗ BI.bigSep (Finset.Ico 0 16) (C 5 4 c) ∗ BI.bigSep (Finset.Ico 0 16) (C 7 4 c)) := by
  unfold creds
  iintro ⟨H1, ⟨HR, H3⟩, ⟨H5, H7⟩, ⟨HA, HB⟩, H⟩
  ihave HA := (cq_split q1c 1 2 (fun k => by unfold q1c; rw [if_pos (by omega)]) (fun k => by unfold q1c; rw [if_neg (by omega)]) rfl rfl (fun _ => rfl) (fun _ => rfl) c) $$ HA
  ihave HB := (cq_split q2c 3 4 (fun k => by unfold q2c; rw [if_pos (by omega)]) (fun k => by unfold q2c; rw [if_neg (by omega)]) rfl rfl (fun _ => rfl) (fun _ => rfl) c) $$ HB
  icases HA with ⟨HA1, HA2⟩
  icases HB with ⟨HB1, HB2⟩
  isplitl [HR HA1 HA2 HB1 HB2]
  · isplitl [HR]; · iapply (show BI.bigSep (Finset.Ico 0 16) (CR (F := F) 0 3 c) ⊢ crs c 0 from BIBase.Entails.rfl) $$ HR
    isplitl [HA1]; · iexact HA1
    isplitl [HA2]; · iexact HA2
    isplitl [HB1] <;> iassumption
  isplitl [H]; · iexact H
  isplitl [H1]; · iexact H1
  isplitl [H3]; · iexact H3
  isplitl [H5] <;> iassumption

theorem readers_split : BI.bigSep (Finset.univ : Finset Key) (fun k => (readerAt ES k 0 : sProp 𝕄))
    ⊢ BI.bigSep Finset.univ (fun c : Dev nD => iprop(rdrs (F := F) c 0 ∗ rdrs c 1 ∗ rdrs c 2 ∗ rdrs c 3)) := by
  rw [BI.bigSep_univ_prod]
  refine Entails.of_eq (BI.bigSep_congr fun c _ => ?_)
  rw [BI.bigSep_univ_equiv (Equiv.prodComm (Fin 4) (Fin 3)), BI.bigSep_univ_prod, bigSep_univ_eq_bigSepL [(0 : Fin 4), 1, 2, 3] (by decide) (by decide)]
  have e (j : Fin 4) : BI.bigSep Finset.univ (fun k : Fin 3 => (readerAt ES ((c, (Equiv.prodComm (Fin 4) (Fin 3)) (j, k)) : Key) 0 : sProp 𝕄)) = rdrs c j := by
    rw [bigSep_univ_eq_bigSepL [(0 : Fin 3), 1, 2] (by decide) (by decide)]; rfl
  simp only [bigSepL, e]
  rfl

/-- Everything dealt. -/
theorem dealt : iprop(BI.bigSep duties (fun x => dutyTok ER x.1 x.2.1 x.2.2)
      ∗ BI.bigSep ((Finset.univ : Finset Key) ×ˢ Finset.range 5) (fun x => (writeTok ES x.1 (x.2 + 1) : sProp 𝕄))
      ∗ BI.bigSep (Finset.univ : Finset Key) (fun k => (readerAt ES k 0 : sProp 𝕄))
      ∗ BI.bigSep Finset.univ (fun c : Dev nD => creds (F := F) c)
      ∗ BI.bigSep Finset.univ (fun c : Dev nD => (atPos ER (rcell c 5) 0 ∅ 0 : sProp 𝕄)))
    ⊢ BI.bigSep Finset.univ (fun c : Dev nD => StartL (F := F) c) := by
  have hw : BI.bigSep Finset.univ (fun c : Dev nD => iprop(W20 (F := F) c 0 ∗ W20 c 1 ∗ W20 c 2))
      ⊢ iprop(BI.bigSep Finset.univ (fun c : Dev nD => lasts (F := F) c) ∗ fam (W 0) ∗ fam (W 1) ∗ fam (W 2)) := by
    unfold fam
    rw [← bigSep_sep', ← bigSep_sep', ← bigSep_sep']
    exact BI.bigSep_mono fun c _ => w20_split c
  have hc : BI.bigSep Finset.univ (fun c : Dev nD => creds (F := F) c)
      ⊢ iprop(BI.bigSep Finset.univ (fun c : Dev nD => iprop(crs (F := F) c 0 ∗ crs c 1 ∗ crs c 2 ∗ crs c 3 ∗ crs c 4))
        ∗ BI.bigSep Finset.univ (fun c : Dev nD => (cred (tallyAt (rcell c 5) 1 3) : sProp 𝕄)) ∗ fam (C 1 2) ∗ fam (C 3 3) ∗ fam (C 5 4) ∗ fam (C 7 4)) := by
    unfold fam
    rw [← bigSep_sep', ← bigSep_sep', ← bigSep_sep', ← bigSep_sep', ← bigSep_sep']
    exact BI.bigSep_mono fun c _ => creds_split c
  have hg : iprop(BI.bigSep Finset.univ (fun c : Dev nD => lasts (F := F) c)
        ∗ (((BI.bigSep Finset.univ (fun c => DB (F := F) 0 (yp c)) ∗ BI.bigSep Finset.univ (fun c => DB (F := F) 1 (xp c)) ∗ BI.bigSep Finset.univ (fun c => DB (F := F) 2 (zp c)))
          ∗ BI.bigSep Finset.univ (fun c : Dev nD => (cred (tallyAt (rcell c 5) 1 3) : sProp 𝕄))
          ∗ BI.bigSep Finset.univ (fun c : Dev nD => (atPos ER (rcell c 5) 0 ∅ 0 : sProp 𝕄))))
        ∗ BI.bigSep Finset.univ (fun c : Dev nD => toks (F := F) c 0)
        ∗ BI.bigSep Finset.univ (fun c : Dev nD => iprop(rdrs (F := F) c 0 ∗ rdrs c 1 ∗ rdrs c 2 ∗ rdrs c 3))
        ∗ BI.bigSep Finset.univ (fun c : Dev nD => iprop(crs (F := F) c 0 ∗ crs c 1 ∗ crs c 2 ∗ crs c 3 ∗ crs c 4)))
      ⊢ BI.bigSep Finset.univ (fun c : Dev nD => StartL (F := F) c) := by
    rw [← bigSep_sep', ← bigSep_sep', ← bigSep_sep', ← bigSep_sep', ← bigSep_sep', ← bigSep_sep', ← bigSep_sep', ← bigSep_sep']
    exact BIBase.Entails.rfl
  refine BIBase.Entails.trans ?_ hg
  rw [toks_fam, fam_tok0, fam_tok1, fam_tok2, fam_tok3, duties_split, dev_deal yp yp_yp (DB (F := F) 0), dev_deal xp xp_xp (DB (F := F) 1), dev_deal zp zp_zp (DB (F := F) 2)]
  iintro ⟨⟨⟨D0, D1, D2, D3, D4, D5, D6, D7⟩, HDR, HQ1, HQ2, HB⟩, HW, HR, HC, HA⟩
  ihave HW := (writes_split (F := F)) $$ HW
  ihave HW := hw $$ HW
  icases HW with ⟨HL, W0, W1, W2⟩
  ihave HC := hc $$ HC
  icases HC with ⟨HCR, HC5, C1, C3, C5, C7⟩
  isplitl [HL]; · iexact HL
  isplitl [HB HC5 HA]
  · isplitl [HB]; · iexact HB
    isplitl [HC5] <;> iassumption
  isplitl [D0 D1 D2 D3 D4 D5 D6 D7 HDR HQ1 HQ2 W0 W1 W2 C1 C3 C5 C7]
  · isplitl [D0 D1 W0]
    · isplitl [D0]; · iexact D0
      isplitl [D1] <;> iassumption
    isplitl [C1 HDR D2 D3 W1]
    · isplitl [C1]; · iexact C1
      isplitl [HDR]; · iexact HDR
      isplitl [D2]; · iexact D2
      isplitl [D3] <;> iassumption
    isplitl [C3 D4 D5 D6 D7 W2]
    · isplitl [C3]; · iexact C3
      isplitl [D4]; · iexact D4
      isplitl [D5]; · iexact D5
      isplitl [D6]; · iexact D6
      isplitl [D7] <;> iassumption
    isplitl [C5]; · iexact C5
    isplitl [C7]; · iexact C7
    isplitl [HQ1] <;> iassumption
  isplitl [HR]
  · iapply (readers_split (F := F)) $$ HR
  · iexact HCR

/-! ## The cells at launch -/

def barEmb : Dev nD ↪ GSem nD τ sig := ⟨fun c => rcell c 5, fun a b h => congrArg (fun g : GSem nD τ sig => g.1.1) h⟩
def scEmb : Dev nD × OK ↪ GSem nD τ sig := ⟨fun p => ((p.1 : Thread nD τ), osem p.2), fun a b h => Prod.ext (congrArg (fun g : GSem nD τ sig => g.1.1) h)
  (osem_inj (congrArg (fun g : GSem nD τ sig => g.2) h))⟩
/-- The barrier's cells, whose counters are at hand at launch. -/
def barCells : Finset (GSem nD τ sig) := Finset.univ.map barEmb
/-- The kernel's own cells, opened when the region is entered. -/
def scCells : Finset (GSem nD τ sig) := Finset.univ.map scEmb

theorem osem_ne : ∀ k : OK, osem k ≠ .reg (5 : Fin 6) := by decide

theorem disjoint_cells : Disjoint barCells scCells := by
  rw [Finset.disjoint_left]
  intro g h1 h2
  obtain ⟨c, _, rfl⟩ := Finset.mem_map.mp h1
  obtain ⟨p, _, h⟩ := Finset.mem_map.mp h2
  exact osem_ne p.2 (congrArg (fun g : GSem nD τ sig => g.2) h)

theorem kcell_mem (p : Dev nD × CK) : kcell p ∈ barCells ∪ scCells := by
  obtain ⟨c, q | q⟩ := p
  · exact Finset.mem_union_right _ (Finset.mem_map.mpr ⟨(c, .inl q), Finset.mem_univ _, rfl⟩)
  · by_cases h : q = 5
    · subst h
      exact Finset.mem_union_left _ (Finset.mem_map.mpr ⟨c, Finset.mem_univ _, rfl⟩)
    · have hq : q.val < 5 := by have := q.isLt; have : q.val ≠ 5 := fun e => h (Fin.ext e); omega
      exact Finset.mem_union_right _ (Finset.mem_map.mpr ⟨(c, .inr ⟨q.val, hq⟩), Finset.mem_univ _, rfl⟩)

/-- The launch element of the rounds and the slots. -/
def uB : UB := (launchOf barCells scCells duties, initSlots (Finset.univ : Finset Key) 5)
def GB : sProp 𝕄 := iprop(BI.own (ER (F := F) (launchOf barCells scCells duties)) ∗ BI.own (ES (F := F) (initSlots (Finset.univ : Finset Key) 5)))
/-- It sits on device 0. -/
def G (c : Dev nD) : sProp 𝕄 := if c = 0 then GB else iprop(emp)

theorem bigSep_G : BI.bigSep Finset.univ (fun c : Dev nD => G (F := F) c) = GB := by
  rw [bigSep_univ_at _ (0 : Dev nD)]
  rw [BI.bigSep_congr (s := Finset.univ.erase (0 : Dev nD)) (Ψ := fun _ => (BI.emp : sProp 𝕄)) fun c hc => by unfold G; rw [if_neg (Finset.ne_of_mem_erase hc)]; rfl,
    BI.bigSep_emp_const]
  unfold G; rw [if_pos rfl]
  exact BI.equiv_iff.mp BI.sep_emp

theorem unscopedSems0_eq (c : Dev nD) : (unscopedSems0 c : sProp 𝕄) = semVal (rcell c 5) 0 := by
  unfold unscopedSems0
  rw [show (Finset.univ.filter fun sm : SemLoc sig => ¬ sm.isScoped .tc) = {SemLoc.reg (5 : Fin 6)} from by decide, BI.bigSep_singleton]

/-- What everybody knows at launch. -/
def records (κ : Dev nD × CK → ℕ) (ιs : Key → ℕ) : sProp 𝕄 :=
  iprop(ctx I κ ιs ∗ BI.bigSep Finset.univ fun c : Dev nD => reached ER (rcell c 5) 0)

instance records_persistent (κ : Dev nD × CK → ℕ) (ιs : Key → ℕ) : BI.Persistent (records I κ ιs) := by unfold records; infer_instance

theorem er_intro (κ : Dev nD × CK → ℕ) (ιs : Key → ℕ) (c : Dev nD) :
    iprop(records (inp m) κ ιs ∗ (StartL c ∗ (BI.bigSep Finset.univ (fun k : OK => openTok ER ((c : Thread nD τ), osem k)))
      ∗ (∃ r, prngReg c r) ∗ owes (c : Thread nD τ) (owedS c 0) ∅)) ⊢ Er m 0 c := by
  have hr (d : Dev nD) : (BI.bigSep Finset.univ fun c : Dev nD => (reached ER (rcell c 5) 0 : sProp 𝕄)) ⊢ reached ER (rcell d 5) 0 := BI.bigSep_elim (Finset.mem_univ d)
  show _ ⊢ iprop((∃ r, prngReg c r) ∗ Tk (inp m) c ∗ ∃ W, owes (c : Thread nD τ) (owedS c 0) W)
  unfold records Tk
  iintro ⟨⟨Hc, #Hr⟩, HS, Ho, Hp, HO⟩
  isplitl [Hp]; · iexact Hp
  isplitr [HO]
  · iexists κ; iexists ιs
    isplitl [Hc]; · iexact Hc
    isplitl [HS]
    · iapply (start_of c)
      isplitr [HS]
      · isplitr; · iapply (hr (yp c)); iexact Hr
        isplitr; · iapply (hr (xp c)); iexact Hr
        iapply (hr (zp c)); iexact Hr
      · iexact HS
    · iexact Ho
  · iexists ∅; iexact HO

/-- Every device's entry state, from the machine's launch. -/
theorem init (ρ : Dev nD → PrngReg) :
    iprop((BI.bigSep Finset.univ fun c : Dev nD => iprop(unscopedSems0 c ∗ owes (c : Thread nD τ) (owedS c 0) ∅ ∗ Pipeline.launchCred (fun d => owedS d 0) c
        ∗ prngReg c (ρ c) ∗ G c)) ∗ levAts L lv)
      ⊢ (|={Set.univ}=> BI.bigSep Finset.univ (Er m 0) : sProp 𝕄) := by
  have hcore (c : Dev nD) : iprop(unscopedSems0 c ∗ owes (c : Thread nD τ) (owedS c 0) ∅ ∗ Pipeline.launchCred (fun d => owedS d 0) c ∗ prngReg c (ρ c) ∗ G c)
      ⊢ (iprop(((∃ r, prngReg c r) ∗ owes (c : Thread nD τ) (owedS c 0) ∅) ∗ semVal (rcell c 5) 0 ∗ creds c ∗ G c) : sProp 𝕄) := by
    rw [unscopedSems0_eq]
    iintro ⟨Hv, HO, Hc, Hp, HG⟩
    isplitl [HO Hp]
    · isplitl [Hp]; · iexists (ρ c); iexact Hp
      iexact HO
    isplitl [Hv]; · iexact Hv
    isplitl [Hc]; · iapply (launch_creds c) $$ Hc
    iexact HG
  have hv : BI.bigSep Finset.univ (fun c : Dev nD => (semVal (rcell c 5) 0 : sProp 𝕄)) ⊢ BI.bigSep barCells (fun g => (semVal g 0 : sProp 𝕄)) :=
    Entails.of_eq (BI.bigSep_map (s := Finset.univ) barEmb (Φ := fun g : GSem nD τ sig => (semVal g 0 : sProp 𝕄))).symm
  have hat : BI.bigSep barCells (fun g => (atPos ER g 0 ∅ 0 : sProp 𝕄)) ⊢ BI.bigSep Finset.univ (fun c : Dev nD => (atPos ER (rcell c 5) 0 ∅ 0 : sProp 𝕄)) :=
    Entails.of_eq (BI.bigSep_map (s := Finset.univ) barEmb (Φ := fun g : GSem nD τ sig => (atPos ER g 0 ∅ 0 : sProp 𝕄)))
  have hre : BI.bigSep barCells (fun g => (reached ER g 0 : sProp 𝕄)) ⊢ BI.bigSep Finset.univ (fun c : Dev nD => (reached ER (rcell c 5) 0 : sProp 𝕄)) :=
    Entails.of_eq (BI.bigSep_map (s := Finset.univ) barEmb (Φ := fun g : GSem nD τ sig => (reached ER g 0 : sProp 𝕄)))
  have hop : BI.bigSep scCells (fun g => (openTok ER g : sProp 𝕄))
      ⊢ BI.bigSep Finset.univ (fun c : Dev nD => BI.bigSep Finset.univ (fun k : OK => (openTok ER ((c : Thread nD τ), osem k) : sProp 𝕄))) :=
    Entails.of_eq (by unfold scCells; rw [BI.bigSep_map, BI.bigSep_univ_prod]; rfl)
  have hinv (κ : GSem nD τ sig → ℕ) : BI.bigSep (barCells ∪ scCells) (fun g => cellInv ER (Rd (inp m)) (κ g) g)
      ⊢ BI.bigSep Finset.univ (fun p : Dev nD × CK => (cellInv ER (Rd (inp m)) (κ (kcell p)) (kcell p) : sProp 𝕄)) := by
    iintro #H
    have hk (p : Dev nD × CK) : iprop(BI.bigSep (barCells ∪ scCells) (fun g => cellInv ER (Rd (inp m)) (κ g) g) ∗ (BI.emp : sProp 𝕄))
        ⊢ cellInv ER (Rd (inp m)) (κ (kcell p)) (kcell p) := by
      have hp : BI.bigSep (barCells ∪ scCells) (fun g => cellInv ER (Rd (inp m)) (κ g) g) ⊢ cellInv ER (Rd (inp m)) (κ (kcell p)) (kcell p) := BI.bigSep_elim (kcell_mem p)
      iintro ⟨H, -⟩
      iapply hp $$ H
    iapply (bigSep_with_persistent (R := BI.bigSep (barCells ∪ scCells) (fun g => cellInv ER (Rd (inp m)) (κ g) g)) (Φ := fun _ : Dev nD × CK => (BI.emp : sProp 𝕄))
      fun p _ => hk p)
    isplitr; · iexact H
    rw [BI.bigSep_emp_const]
    iempintro
  iintro ⟨H, #Hlev⟩
  ihave H := (show (BI.bigSep Finset.univ fun c : Dev nD => iprop(unscopedSems0 c ∗ owes (c : Thread nD τ) (owedS c 0) ∅ ∗ Pipeline.launchCred (fun d => owedS d 0) c
        ∗ prngReg c (ρ c) ∗ G c))
      ⊢ (BI.bigSep Finset.univ fun c : Dev nD => iprop(((∃ r, prngReg c r) ∗ owes (c : Thread nD τ) (owedS c 0) ∅) ∗ semVal (rcell c 5) 0 ∗ creds c ∗ G c) : sProp 𝕄)
      from BI.bigSep_mono fun c _ => hcore c) $$ H
  ihave H := (bs_unpair _ _) $$ H
  icases H with ⟨HB, H⟩
  ihave H := (bs_unpair _ _) $$ H
  icases H with ⟨Hv, H⟩
  ihave H := (bs_unpair _ _) $$ H
  icases H with ⟨HC, HG⟩
  ihave HG := (show BI.bigSep Finset.univ (fun c : Dev nD => G (F := F) c) ⊢ GB from Entails.of_eq bigSep_G) $$ HG
  unfold GB
  icases HG with ⟨HU, HW⟩
  imod (Rounds.fund_launch ER (Rd (inp m)) disjoint_cells (fun g _ h => h) duties) $$ [Hv HU] with ⟨%κ, -, #Hinv, #Hr, Hat, Hopen, Htok⟩
  · isplitl [Hv]
    · iapply hv $$ Hv
    · iexact HU
  imod (slots_init ES (Finset.univ : Finset Key) 5 slotOf) $$ HW with ⟨%ιs, -, #Hsl, Hrd, Hwt⟩
  imodintro
  iapply (bigSep_with_persistent (R := records (inp m) (fun p => κ (kcell p)) ιs)
    (Φ := fun c => iprop(StartL c ∗ (BI.bigSep Finset.univ (fun k : OK => openTok ER ((c : Thread nD τ), osem k)))
      ∗ (∃ r, prngReg c r) ∗ owes (c : Thread nD τ) (owedS c 0) ∅)) fun c _ => er_intro m _ ιs c)
  isplitr
  · unfold records ctx
    isplitr
    · isplitr; · iapply (hinv κ); iexact Hinv
      isplitr; · iexact Hsl
      iexact Hlev
    · iapply hre; iexact Hr
  iapply bs_pair
  isplitr [HB Hopen]
  · iapply (dealt (F := F))
    isplitl [Htok]; · iexact Htok
    isplitl [Hwt]; · iexact Hwt
    isplitl [Hrd]; · iexact Hrd
    isplitl [HC]; · iexact HC
    iapply hat $$ Hat
  iapply bs_pair
  isplitl [Hopen]
  · iapply hop $$ Hopen
  · iexact HB

end Cert.Proof
-- ==== Proof.Run.lean ====
module

public import proofs.«01_k».proof.Proof.Launch

/-! The kernel's run. -/

@[expose] public section

noncomputable section

namespace Cert.Proof

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Seg Dat Cfg Window BodyObligation cellOf)
open Cert.KernelIdeal Cert.KernelIdeal.Gen

variable {F : FTy → Type} [FloatOps F]

local notation "𝕄" => MT nD τ sig ℕ (Elt F) ℕ UU ℕ

variable (I : Inp F)
variable {κ : Dev nD × CK → ℕ} {ιs : Key → ℕ}

variable (m : (ℓ : Loc nD τ sig) → Buf (Elt F) ℓ)

theorem unscoped_eq : ∀ sm : SemLoc sig, sm.isScoped .tc = false → sm = .reg (5 : Fin 6) := by decide

theorem L_else (g : GSem nD τ sig) (h : g.1.2 ≠ .tc) : L g = ∅ := if_neg h

/-- The launch element. -/
def u₀ : UU := (initOf (Pipeline.cells cfgs cellOf_inj) (Pipeline.launchToks cfgs cellOf_inj), uB)

theorem hu₀ : (ownU u₀ : sProp 𝕄) ⊢ |={Set.univ}=> iprop(BI.own (EP (initOf (Pipeline.cells cfgs cellOf_inj) (Pipeline.launchToks cfgs cellOf_inj)))
    ∗ BI.bigSep Finset.univ (fun c : Dev nD => G (F := F) c)) := by
  unfold u₀ uB
  iintro Hu
  ihave H := (ownU_pair _ _) $$ Hu
  icases H with ⟨HP, HX⟩
  imodintro
  isplitl [HP]; · iexact HP
  rw [bigSep_G]
  unfold GB
  ihave HX := (own_pair_emb (embR : Emb UB 𝕄) (launchOf barCells scCells duties) (initSlots (Finset.univ : Finset Key) 5)) $$ HX
  iexact HX

set_option backward.isDefEq.respectTransparency.types false in
/-- From any memory with the counters at zero, every weakly fair execution ends; the arguments are then as they were, the result is
    what the host's lines say of the kernel's, and every counter is at zero. -/
theorem run_main (ρ : Dev nD → PrngReg) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1))
      ∧ r.2.mem ((c.tc : Thread nD τ).loc main_v26) = V3 m (outs m) c main_v26) ∧ r.2.sem = fun _ => 0) := by
  refine Pipeline.θ_run_regions_kit_dev_sems (pcfgs (F := F)) adm (pdats m) 0 cellOf_inj EP defs₀ 𝒱₀ L lv m ρ main
    (segs m (outs m) 𝒱₀ L lv (Er m) 0 (pdats m) (reg0 m))
    (fun c Q => by
      rewrite [main_chain c, Seg.run_eq_chain,
        show (segs m (outs m) 𝒱₀ L lv (Er m) 0 (pdats m) (reg0 m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) (fun d => owedS d 0) L_else G u₀ hu₀
    (T₀ := fun c => iprop(StableHlo.held (c : Thread nD τ) (Pipeline.ucRefs τ sig) (V0 m c) ∗ Er m 0 c))
    (Tₙ := fun c => iprop(StableHlo.held (c : Thread nD τ) (Pipeline.ucRefs τ sig) (V3 m (outs m) c) ∗ semVal (rcell c 5) 0))
    (hch := fun c => ⟨.rfl, reg0_pre m c, reg0_post m c, ?_⟩)
    (hinit := ?_) (QY := fun c s => ((s.mem ((c.tc : Thread nD τ).loc main_arg0) = m ((c.tc : Thread nD τ).loc main_arg0)
        ∧ s.mem ((c.tc : Thread nD τ).loc main_arg1) = m ((c.tc : Thread nD τ).loc main_arg1))
        ∧ s.mem ((c.tc : Thread nD τ).loc main_v26) = V3 m (outs m) c main_v26) ∧ s.sem (rcell c 5) = 0)
    (hfin := fun c s' => ?_) (hQ := fun s h hs => ⟨fun c => (h c).1, sem_eq_zero hs fun c sm hsm => by
      obtain rfl := unscoped_eq sm hsm
      exact (h c).2⟩)
  · show iprop(StableHlo.held (c : Thread nD τ) (Pipeline.ucRefs τ sig) (V3 m (outs m) c) ∗ (semVal (rcell c 5) 0 ∗ ∃ W, owes (c : Thread nD τ) (0 : CellTallies nD τ sig ℕ) W))
      ⊢ iprop((StableHlo.held (c : Thread nD τ) (Pipeline.ucRefs τ sig) (V3 m (outs m) c) ∗ semVal (rcell c 5) 0) ∗ ∃ W, owes (c : Thread nD τ) (0 : CellTallies nD τ sig ℕ) W)
    iintro ⟨Hh, Hb0, HO⟩
    isplitr [HO]
    · isplitl [Hh] <;> iassumption
    · iexact HO
  · have hsplit : (BI.bigSep Finset.univ fun c : Dev nD => iprop(unscopedBufs c (fun b => m ((c.tc : Thread nD τ).loc b)) ∗ unscopedSems0 c
          ∗ owes (c.tc : Thread nD τ) (owedS c 0) ∅ ∗ Pipeline.launchCred (fun d => owedS d 0) c ∗ prngReg c (ρ c) ∗ G c))
        ⊢ (iprop((BI.bigSep Finset.univ fun c : Dev nD => StableHlo.held (c : Thread nD τ) (Pipeline.ucRefs τ sig) (V0 m c))
            ∗ BI.bigSep Finset.univ fun c : Dev nD => iprop(unscopedSems0 c ∗ owes (c : Thread nD τ) (owedS c 0) ∅ ∗ Pipeline.launchCred (fun d => owedS d 0) c ∗ prngReg c (ρ c) ∗ G c))
            : sProp 𝕄) := by
      rw [← bigSep_sep']
      exact BI.bigSep_mono fun c _ => by rw [← Pipeline.unscopedBufs_held (Ix := ℕ) (Name := ℕ) (U := UU) (Lvl := ℕ) c (V0 m c)]; exact BI.Entails.refl _
    iintro ⟨H, Hla⟩
    ihave H' := hsplit $$ H
    icases H' with ⟨Hh, Hr⟩
    imod (init m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨⟨⟨(h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c)⟩,
        h (Proc.devRef .tc main_v26) (Finset.mem_filter.mpr ⟨StableHlo.devRef_mem_tcRefs main_v26, by decide⟩)⟩, by simpa using hb⟩
    · iexact HSI

end Cert.Proof
-- ==== Proof.Ref.lean ====
module

public import proofs.«01_k».proof.Defs
public import proofs.«01_k».proof.Proof.Gen.ReferenceIdeal
public import Idealize.ShloMosaic.Lib.StableHlo.Run
public import Idealize.ShloMosaic.Lib.Quiescent

/-! The run of the one-device program: the left operand with its last two axes joined, times the right one. -/

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The left operand with its last two axes joined. -/
abbrev flat (x : FVec F S1x2048x64x128 .f32) : FVec F S1x2048x8192 .f32 := shapeCast S1x2048x8192 x shapeCasts_S1x2048x64x128_S1x2048x8192

/-- The whole product. -/
def prod (x : FVec F S1x2048x64x128 .f32) (w : FVec F S8192x8192 .f32) : FVec F S1x2048x8192 .f32 :=
  Host.dotGeneral dot_S1x2048x8192_S8192x8192_S1x2048x8192_2_0_01_1_n_n none (flat x) w

/-- The program's operations. -/
abbrev hops : List (HloOp τ sig (Elt F)) :=
  [ StableHlo.reshape main_arg0 main_v0 (rfl : (.f32 : EltTy) = .f32) shapeCasts_S1x2048x64x128_S1x2048x8192,
    StableHlo.binary main_v0 main_arg1 main_v1 ((fun l r => Host.dotGeneral dot_S1x2048x8192_S8192x8192_S1x2048x8192_2_0_01_1_n_n none l r) : (⟨S1x2048x8192, .f32⟩ : BufTy).Contents (Elt F) → (⟨S8192x8192, .f32⟩ : BufTy).Contents (Elt F) → (⟨S1x2048x8192, .f32⟩ : BufTy).Contents (Elt F)) ]

/-- The program is these operations in a row. -/
theorem main_hops (c : Dev nD) : main (F := F) c = seq hops := rfl

/-- They leave the product, -/
theorem after_v1 (V : Valuation τ sig (Elt F)) : after hops V (main_v1 : DevRef τ sig) = prod (V (main_arg0 : DevRef τ sig)) (V (main_arg1 : DevRef τ sig)) := by
  after_results
  rfl
/-- and both operands as they were. -/
theorem after_arg0 (V : Valuation τ sig (Elt F)) : after hops V (main_arg0 : DevRef τ sig) = V (main_arg0 : DevRef τ sig) := by
  after_results
theorem after_arg1 (V : Valuation τ sig (Elt F)) : after hops V (main_arg1 : DevRef τ sig) = V (main_arg1 : DevRef τ sig) := by
  after_results

theorem no_scoped_refs : (Finset.univ.filter fun b : Ref sig .tc => b.isScoped) = ∅ := by decide
theorem no_scoped_sems : (Finset.univ.filter fun sm : SemLoc sig => sm.isScoped .tc) = ∅ := by decide
theorem hops_bufs : (hops : List (HloOp τ sig (Elt F))).Forall fun op => op.bufs ⊆ tcRefs τ sig :=
  ⟨reshape_bufs_sub .., binary_bufs_sub ..⟩

/-- Every run ends with the product, the operands as they were, and every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v1) = prod (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v1).trans (after_v1 _), (h c main_arg0).trans (after_arg0 _), (h c main_arg1).trans (after_arg1 _)⟩,
      sem_eq_zero_of_no_sems rfl r.2⟩)
    (run_seq no_scoped_refs no_scoped_sems defs main (fun _ => hops) main_hops (fun _ => hops_bufs) m ρ)

end Cert.Proof.Ref

end
-- ==== Proof.Frames.lean ====
module

public import proofs.«01_k».proof.Defs
public import proofs.«01_k».proof.Proof.Gen.Kernel
public import proofs.«01_k».proof.Proof.Run
public import proofs.«01_k».proof.Proof.Ref

/-! What each program leaves unchanged. -/

@[expose] public section

noncomputable section

namespace Cert.Proof

open Idealize.ShloMosaic Idealize.SL.Sem

/-- The two kernel programs have the same bodies, -/
theorem defs₀_eq : Cert.Kernel.defs₀ (F := Bits) = Cert.KernelIdeal.defs₀ (F := Bits) := by
  unfold Cert.Kernel.defs₀ Cert.KernelIdeal.defs₀
  refine congrArg Defs.onTc (funext fun l => ?_)
  match l with
  | 0 => rfl
/-- and the same body table. -/
theorem defs_eq : Cert.Kernel.defs (F := Bits) = Cert.KernelIdeal.defs (F := Bits) :=
  congrArg (Pipeline.defs (Cert.KernelIdeal.pcfgs (F := Bits))) defs₀_eq

/-- The kernel leaves its arguments and the counters as they were. -/
theorem frame_kernel : Cert.quiescent_Kernel := fun m ρ _ => by
  rw [defs_eq]
  exact (θ_run (Cert.KernelIdeal.defs (F := Bits)) _ _).mono (fun _ h => ⟨fun c => (h.1 c).1, h.2⟩) (run_main (F := Bits) m ρ)

/-- So it does over the extended reals, -/
theorem frame_kernel_ideal : Cert.quiescent_KernelIdeal := fun m ρ _ =>
  (θ_run (Cert.KernelIdeal.defs (F := Ideal)) _ _).mono (fun _ h => ⟨fun c => (h.1 c).1, h.2⟩) (run_main (F := Ideal) m ρ)

/-- and so does the one-device program. -/
theorem frame_reference : Cert.quiescent_ReferenceIdeal := fun m ρ _ =>
  (θ_run (Cert.ReferenceIdeal.defs (F := Ideal)) _ _).mono (fun _ h => ⟨fun c => (h.1 c).2, h.2⟩) (Ref.run_main (F := Ideal) m ρ)

end Cert.Proof

end
-- ==== Proof.Rows.lean ====
module

public import proofs.«01_k».proof.Proof.Run
public import Idealize.ShloMosaic.Lib.ValueIdx
public import Idealize.ShloMosaic.Lib.Pipeline.Value
public import Idealize.ShloMosaic.Lib.Pointwise.ShapeOpsCore

/-! The rows of the left operand the kernel is given. -/

@[expose] public section

noncomputable section

namespace Cert.Proof

open Idealize.ShloMosaic Idealize.ShloMosaic.TcCoe
open Cert.KernelIdeal Cert.KernelIdeal.Gen

variable {F : FTy → Type} [FloatOps F]
/-- A device's left operand as a matrix, rounded. -/
abbrev mat (x : S1x2048x32x128.Idx → Elt F .f32) : S2048x4096.Idx → Elt F .bf16 :=
  truncf .bf16 (shapeCast S2048x4096 (x : FVec F S1x2048x32x128 .f32) shapeCasts_S1x2048x32x128_S2048x4096 : FVec F S2048x4096 .f32) bitsLt_bf16_f32
/-- A device's quarter, as the program computes it. -/
def cqw (c : Dev nD) : IVec S_ 32 :=
  addi (muli (constantI S_ 32 2#32) (id (Host.remui (Host.divui (constantI S_ 32 c.word) (constantI S_ 32 4#32)) (constantI S_ 32 2#32))))
    (id (Host.remui (Host.divui (constantI S_ 32 c.word) (constantI S_ 32 1#32)) (constantI S_ 32 2#32)))
/-- A row's number, counted from the end if it is negative. -/
def wrap (w : IVec S_ 32) : IVec S_ 32 := select (cmpi .slt w (constantI S_ 32 0#32)) (addi w (constantI S_ 32 2048#32)) w
theorem wrap_lo : ∀ c : Dev nD, wrap (muli (constantI S_ 32 256#32) (cqw c)) (Shape.Idx.first h_S_) = BitVec.ofNat 32 (256 * qr c) := by decide +kernel
theorem wrap_hi : ∀ c : Dev nD, wrap (addi (constantI S_ 32 1024#32) (muli (constantI S_ 32 256#32) (cqw c))) (Shape.Idx.first h_S_)
    = BitVec.ofNat 32 (1024 + 256 * qr c) := by decide +kernel
/-- The row at which the first slice starts, as a word, -/
theorem after_v16 (c : Dev nD) (V : Valuation τ sig (Elt F)) :
    StableHlo.after ((hostOps0 c).take 25) V (main_v16 : DevRef τ sig) = fun _ => BitVec.ofNat 32 (256 * qr c) := by
  simp only [hostOps0, List.take]
  after_results
  funext i; obtain rfl : i = Shape.Idx.first h_S_ := funext fun a => a.elim0
  exact wrap_lo c
/-- and the second. -/
theorem after_v22 (c : Dev nD) (V : Valuation τ sig (Elt F)) :
    StableHlo.after ((hostOps0 c).take 36) V (main_v22 : DevRef τ sig) = fun _ => BitVec.ofNat 32 (1024 + 256 * qr c) := by
  simp only [hostOps0, List.take]
  after_results
  funext i; obtain rfl : i = Shape.Idx.first h_S_ := funext fun a => a.elim0
  exact wrap_hi c
theorem toInt_lo : ∀ c : Dev nD, (BitVec.ofNat 32 (256 * qr c)).toInt = ((256 * qr c : ℕ) : ℤ) := by decide
theorem toInt_hi : ∀ c : Dev nD, (BitVec.ofNat 32 (1024 + 256 * qr c)).toInt = ((1024 + 256 * qr c : ℕ) : ℤ) := by decide
/-- The rows a device keeps: its quarter of the upper half above its quarter of the lower half. -/
theorem after_v24 (c : Dev nD) (V : Valuation τ sig (Elt F)) : StableHlo.after (hostOps0 c) V (main_v24 : DevRef τ sig)
    = concatenate S512x4096 0 [⟨S256x4096, Host.dynamicSlice S256x4096 (mat (V (main_arg0 : DevRef τ sig))) ![(256 * qr c : ℕ), 0] sliceFits_S2048x4096_S256x4096⟩,
        ⟨S256x4096, Host.dynamicSlice S256x4096 (mat (V (main_arg0 : DevRef τ sig))) ![(1024 + 256 * qr c : ℕ), 0] sliceFits_S2048x4096_S256x4096⟩]
        concatenates_S256x4096_S256x4096_S512x4096_d0 := by
  after_results
  refine congrArg₂ (fun a b => concatenate S512x4096 0 [⟨S256x4096, a⟩, ⟨S256x4096, b⟩] concatenates_S256x4096_S256x4096_S512x4096_d0)
    (congrArg₂ (fun X s => Host.dynamicSlice S256x4096 X s sliceFits_S2048x4096_S256x4096) rfl (funext fun k => ?_))
    (congrArg₂ (fun X s => Host.dynamicSlice S256x4096 X s sliceFits_S2048x4096_S256x4096) rfl (funext fun k => ?_))
  · match k with
    | 0 => exact (congrArg (fun f : S_.Idx → BitVec 32 => (f (Shape.Idx.first h_S_)).toInt) (after_v16 c V)).trans (toInt_lo c)
    | 1 => rfl
  · match k with
    | 0 => exact (congrArg (fun f : S_.Idx → BitVec 32 => (f (Shape.Idx.first h_S_)).toInt) (after_v22 c V)).trans (toInt_hi c)
    | 1 => rfl

/-- A slice of 256 rows, at an index. -/
theorem slice_apply {α : Type} (X : S2048x4096.Idx → α) (n : ℕ) (hn : n ≤ 1792) (x : S256x4096.Idx) (j : S2048x4096.Idx)
    (h0 : (j 0).val = n + (x 0).val) (h1 : (j 1).val = (x 1).val) :
    Host.dynamicSlice S256x4096 X ![(n : ℤ), 0] sliceFits_S2048x4096_S256x4096 x = X j := by
  rw [Host.dynamicSlice_apply]
  refine congrArg X (funext fun a => Fin.ext ?_)
  match a with
  | ⟨0, _⟩ =>
    show Host.clampedStart S2048x4096 S256x4096 _ ![(n : ℤ), 0] 0 + (x 0).val = (j 0).val
    rw [h0, Host.clampedStart_of_le _ _ 0 n rfl (show n + 256 ≤ 2048 by omega)]
  | ⟨1, _⟩ =>
    show Host.clampedStart S2048x4096 S256x4096 _ ![(n : ℤ), 0] 1 + (x 1).val = (j 1).val
    rw [h1, Host.clampedStart_of_le _ _ 1 0 rfl (show 0 + 4096 ≤ 4096 by omega), Nat.zero_add]

/-- The kernel's left operand at an index: the upper rows are of the upper half, the lower ones of the lower half. -/
theorem after_v24_apply (c : Dev nD) (V : Valuation τ sig (Elt F)) (x : S512x4096.Idx) (j : S2048x4096.Idx)
    (h0 : (j 0).val = 1024 * ((x 0).val / 256) + 256 * qr c + (x 0).val % 256) (h1 : (j 1).val = (x 1).val) :
    (StableHlo.after (hostOps0 c) V (main_v24 : DevRef τ sig) : S512x4096.Idx → Elt F .bf16) x = mat (V (main_arg0 : DevRef τ sig)) j := by
  have hq := qr_lt c
  have hx0 : (x 0).val < 512 := (x 0).isLt
  have hx1 : (x 1).val < 4096 := (x 1).isLt
  rw [after_v24]
  by_cases h : (x 0).val < 256
  · rw [concatenate_pair_apply_left (s₁ := S256x4096) (s₂ := S256x4096) (0 : Fin 2) _ _ _ x rfl (ix2 (n0 := 256) (n1 := 4096) ⟨(x 0).val, h⟩ ⟨(x 1).val, hx1⟩) (fun b => match b with
      | ⟨0, _⟩ => rfl
      | ⟨1, _⟩ => rfl)]
    refine slice_apply _ _ (by omega) _ j ?_ h1
    show (j 0).val = 256 * qr c + (x 0).val
    omega
  · rw [concatenate_pair_apply_right (s₁ := S256x4096) (s₂ := S256x4096) (0 : Fin 2) _ _ _ x rfl rfl (ix2 (n0 := 256) (n1 := 4096) ⟨(x 0).val - 256, by omega⟩ ⟨(x 1).val, hx1⟩) (fun b hb => match b, hb with
      | ⟨0, _⟩, hb => absurd rfl hb
      | ⟨1, _⟩, _ => rfl) (show (x 0).val - 256 + 256 = (x 0).val by omega)]
    refine slice_apply _ _ (by omega) _ j ?_ h1
    show (j 0).val = 1024 + 256 * qr c + ((x 0).val - 256)
    omega

/-- Over the extended reals the matrix's entry is the array's. -/
theorem mat_apply (X : S1x2048x32x128.Idx → Elt Ideal .f32) (j : S2048x4096.Idx) (i : S1x2048x32x128.Idx)
    (h1 : (i 1).val = (j 0).val) (h2 : 128 * (i 2).val + (i 3).val = (j 1).val) : mat (F := Ideal) X j = X i := by
  show shapeCast S2048x4096 X shapeCasts_S1x2048x32x128_S2048x4096 j = X i
  refine shapeCast_apply X _ j i ?_
  rw [Shape.rowMajor_val_four, Shape.rowMajor_val_two]
  have h0 : (i 0).val < 1 := (i 0).isLt
  show (((i 0).val * 2048 + (i 1).val) * 32 + (i 2).val) * 128 + (i 3).val = (j 0).val * 4096 + (j 1).val
  omega

end Cert.Proof

end
-- ==== Proof.Value.lean ====
module

public import proofs.«01_k».proof.Proof.Rows
public import proofs.«01_k».proof.Proof.Ref
public import Idealize.ShloMosaic.Lib.Pointwise.Contract
public import Idealize.ShloMosaic.PureOps.Ideal.Laws

/-! What the kernel leaves is each device's part of the whole product. -/

@[expose] public section

noncomputable section

namespace Cert.Proof

open Idealize.ShloMosaic Idealize.ShloMosaic.TcCoe
open Cert.KernelIdeal Cert.KernelIdeal.Gen

/-- The whole left operand's shape, -/
abbrev SX : Shape := ⟨4, ![1, 2048, 64, 128]⟩
/-- the whole right operand's, -/
abbrev SW : Shape := ⟨2, ![8192, 8192]⟩
/-- and the whole product's. -/
abbrev SP : Shape := ⟨3, ![1, 2048, 8192]⟩

/-- One term of an entry of the whole product. -/
def term (X : SX.Idx → EReal) (W : SW.Idx → EReal) (r : Fin 2048) (j : Fin 8192) (k : Fin 8192) : EReal :=
  X (ix4 0 r ⟨k.val / 128, by omega⟩ ⟨k.val % 128, by omega⟩) * W (ix2 k j)

/-- The one-device program's result at an index. -/
theorem prod_apply (X : SX.Idx → EReal) (W : SW.Idx → EReal) (i : SP.Idx) :
    Ref.prod (F := Ideal) X W i = ∑ k : Fin 8192, term X W (i 1) (i 2) k := by
  show FloatOps.dotGeneral (F := Ideal) Cert.ReferenceIdeal.dot_S1x2048x8192_S8192x8192_S1x2048x8192_2_0_01_1_n_n none _ (Ref.flat (F := Ideal) X) W i = _
  rw [Ideal.dotGeneral_def, Ideal.matmul_apply₁ _ rfl rfl]
  refine (zero_add _).trans (Finset.sum_congr rfl fun k _ => ?_)
  have h0 : (i 0).val < 1 := (i 0).isLt
  have hk : k.val < 8192 := k.isLt
  refine congrArg₂ (· * ·) (shapeCast_apply X _ _ (ix4 0 (i 1) ⟨k.val / 128, by omega⟩ ⟨k.val % 128, by omega⟩) ?_) (congrArg W (funext fun a => ?_))
  · rw [Shape.rowMajor_val_four, Shape.rowMajor_val_three]
    show ((0 * 2048 + (i 1).val) * 64 + k.val / 128) * 128 + k.val % 128 = ((i 0).val * 2048 + (i 1).val) * 8192 + k.val
    omega
  · match a with
    | ⟨0, _⟩ => rfl
    | ⟨1, _⟩ => rfl

/-- A sum over all columns is the sum over the first half and the sum over the second. -/
theorem sum_halves (f : Fin 8192 → EReal) :
    ∑ k : Fin 8192, f k = (∑ k : Fin 4096, f ⟨k.val, by omega⟩) + ∑ k : Fin 4096, f ⟨4096 + k.val, by omega⟩ :=
  (Fin.sum_univ_add (a := 4096) (b := 4096) f)

variable (m : (ℓ : Loc nD τ sig) → Buf (Elt Ideal) ℓ)

/-- A partial product at an index. -/
theorem pv_apply (I : Inp Ideal) (c : Dev nD) (b : ℕ) (x : S512x512.Idx) :
    pv I c b x = ∑ k : Fin 4096, (I.A c (ix2 (n0 := 512) (n1 := 4096) (x 0) k) : EReal) * I.B c b (ix2 (n0 := 4096) (n1 := 512) k (x 1)) := by
  show FloatOps.matmul (F := Ideal) dot_S512x4096_S4096x512_S512x512_1_0_0_1_n_n none (I.A c) (I.B c b) (constant S512x512 .f32 0x00000000#32) x = _
  rw [Ideal.matmul_def, Ideal.matmul_apply₁ _ rfl rfl]
  refine (congrArg (· + _) (show Ideal.ofBits .f32 0x00000000#32 = 0 from Ideal.ofBits_zero_f32)).trans ((zero_add _).trans (Finset.sum_congr rfl fun k _ => ?_))
  refine congrArg₂ (· * ·) (congrArg (I.A c) (funext fun a => ?_)) (congrArg (I.B c b) (funext fun a => ?_))
  · match a with
    | ⟨0, _⟩ => rfl
    | ⟨1, _⟩ => rfl
  · match a with
    | ⟨0, _⟩ => rfl
    | ⟨1, _⟩ => rfl

/-- Each device holds its part of the two operands. -/
def Parts (X : SX.Idx → EReal) (W : SW.Idx → EReal) : Prop := ∀ c : Dev nD,
  m ((c.tc : Thread nD τ).loc main_arg0) = Layout.blockN ⟨4, ![1, 2048, 32, 128]⟩ ⟨4, ![1, 2048, 64, 128]⟩ (Layout.meshBlock [2, 2, 2] ![[], [], [1], []] c) X
  ∧ m ((c.tc : Thread nD τ).loc main_arg1) = Layout.blockN ⟨2, ![4096, 8192]⟩ ⟨2, ![8192, 8192]⟩ (Layout.meshBlock [2, 2, 2] ![[1], []] c) W

theorem lin_yb : ∀ c : Dev nD, Layout.meshLin [2, 2, 2] c.val [1] = (yb c).val := by decide

variable {m} {X : SX.Idx → EReal} {W : SW.Idx → EReal}

/-- The kernel's left operand, as entries of the whole one. -/
theorem left_apply (hP : Parts m X W) (c : Dev nD) (x : S512x4096.Idx) (i : SX.Idx)
    (h1 : (i 1).val = 1024 * ((x 0).val / 256) + 256 * qr c + (x 0).val % 256)
    (h2 : (i 2).val = 32 * (yb c).val + (x 1).val / 128) (h3 : (i 3).val = (x 1).val % 128) :
    (inp m).A c x = X i := by
  have hq := qr_lt c
  have hx0 : (x 0).val < 512 := (x 0).isLt
  have hx1 : (x 1).val < 4096 := (x 1).isLt
  have hi0 : (i 0).val < 1 := (i 0).isLt
  have e1 := after_v24_apply (F := Ideal) c (V0 m c) x (ix2 (n0 := 2048) (n1 := 4096) ⟨(i 1).val, (i 1).isLt⟩ ⟨(x 1).val, hx1⟩) h1 rfl
  refine e1.trans ((mat_apply _ (ix2 (n0 := 2048) (n1 := 4096) ⟨(i 1).val, (i 1).isLt⟩ ⟨(x 1).val, hx1⟩) (ix4 (n0 := 1) (n1 := 2048) (n2 := 32) (n3 := 128) 0 ⟨(i 1).val, (i 1).isLt⟩ ⟨(x 1).val / 128, by omega⟩ ⟨(x 1).val % 128, by omega⟩)
    rfl (show 128 * ((x 1).val / 128) + (x 1).val % 128 = (x 1).val by omega)).trans ?_)
  refine (congrFun (hP c).1 _).trans (congrArg X (funext fun a => Fin.ext ?_))
  match a with
  | ⟨0, _⟩ => show 0 * 1 + 0 = (i 0).val; omega
  | ⟨1, _⟩ => show 0 * 2048 + (i 1).val = (i 1).val; omega
  | ⟨2, _⟩ =>
    show Layout.meshLin [2, 2, 2] c.val [1] * 32 + (x 1).val / 128 = (i 2).val
    rw [lin_yb, h2]; omega
  | ⟨3, _⟩ => show 0 * 128 + (x 1).val % 128 = (i 3).val; omega

/-- The kernel's right operand, as entries of the whole one. -/
theorem right_apply (hP : Parts m X W) (c : Dev nD) (b : ℕ) (x : S4096x512.Idx) (i : SW.Idx)
    (h0 : (i 0).val = 4096 * (yb c).val + (x 0).val) (h1 : (i 1).val = 512 * (b % 16) + (x 1).val) :
    (inp m).B c b x = W i := by
  refine (congrFun (V1_of m c main_arg1 (by decide)) (inCol b x)).trans ((congrFun (hP c).2 (inCol b x)).trans (congrArg W (funext fun a => Fin.ext ?_)))
  match a with
  | ⟨0, _⟩ =>
    show Layout.meshLin [2, 2, 2] c.val [1] * 4096 + (x 0).val = (i 0).val
    rw [lin_yb, h0]; omega
  | ⟨1, _⟩ => show 0 * 8192 + (512 * (b % 16) + (x 1).val) = (i 1).val; omega

/-- One half of a device's partial product: the terms of that device's columns. -/
theorem ph_apply (hP : Parts m X W) (c : Dev nD) (h : Fin 2) (b : ℕ) (x : S256x512.Idx) (r : Fin 2048) (j : Fin 8192)
    (hr : r.val = 1024 * h.val + 256 * qr c + (x 0).val) (hj : j.val = 512 * (b % 16) + (x 1).val) :
    ph (inp m) c h b x = ∑ k : Fin 4096, term X W r j ⟨4096 * (yb c).val + k.val, by have := (yb c).isLt; omega⟩ := by
  have hx0 : (x 0).val < 256 := (x 0).isLt
  have hy := (yb c).isLt
  have hh := h.isLt
  refine (pv_apply (inp m) c b _).trans (Finset.sum_congr rfl fun k _ => ?_)
  have hk := k.isLt
  refine congrArg₂ (· * ·) (left_apply hP c _ _ ?_ ?_ ?_) (right_apply hP c b _ _ rfl ?_)
  · show r.val = 1024 * ((256 * h.val + 1 * (x 0).val) / 256) + 256 * qr c + (256 * h.val + 1 * (x 0).val) % 256
    omega
  · show (4096 * (yb c).val + k.val) / 128 = 32 * (yb c).val + k.val / 128
    omega
  · show (4096 * (yb c).val + k.val) % 128 = k.val % 128
    omega
  · show j.val = 512 * (b % 16) + (0 + 1 * (x 1).val)
    omega

theorem yb_qdev : ∀ (c : Dev nD) (q : Fin 4), yb (qdev c q.val) = yb c := by decide
theorem qr_qdev : ∀ (c : Dev nD) (q : Fin 4), qr (qdev c q.val) = q.val := by decide
theorem qr_yp : ∀ c : Dev nD, qr (yp c) = qr c := by decide
theorem yb_cases : ∀ c : Dev nD, ((yb c).val = 0 ∧ (yb (yp c)).val = 1) ∨ ((yb c).val = 1 ∧ (yb (yp c)).val = 0) := by decide

/-- The sum of the two devices' halves is an entry of the whole product. -/
theorem qv_apply (hP : Parts m X W) (c : Dev nD) (b : ℕ) (x : S256x512.Idx) (r : Fin 2048) (j : Fin 8192)
    (hr : r.val = 1024 * (yb c).val + 256 * qr c + (x 0).val) (hj : j.val = 512 * (b % 16) + (x 1).val) :
    qv (inp m) c b x = ∑ k : Fin 8192, term X W r j k := by
  show (ph (inp m) c (yb c) b x : EReal) + ph (inp m) (yp c) (yb c) b x = _
  rw [ph_apply hP c (yb c) b x r j hr hj, ph_apply hP (yp c) (yb c) b x r j (by rw [qr_yp]; exact hr) hj, sum_halves]
  rcases yb_cases c with ⟨h0, h1⟩ | ⟨h0, h1⟩
  · refine congrArg₂ (· + ·) (Finset.sum_congr rfl fun k _ => congrArg _ (Fin.ext ?_)) (Finset.sum_congr rfl fun k _ => congrArg _ (Fin.ext ?_))
    · show 4096 * (yb c).val + k.val = k.val; omega
    · show 4096 * (yb (yp c)).val + k.val = 4096 + k.val; omega
  · rw [add_comm]
    refine congrArg₂ (· + ·) (Finset.sum_congr rfl fun k _ => congrArg _ (Fin.ext ?_)) (Finset.sum_congr rfl fun k _ => congrArg _ (Fin.ext ?_))
    · show 4096 * (yb (yp c)).val + k.val = k.val; omega
    · show 4096 * (yb c).val + k.val = 4096 + k.val; omega

/-- What the kernel leaves, as entries of the whole product. -/
theorem outA_apply (hP : Parts m X W) (c : Dev nD) (y : S1024x8192.Idx) (r : Fin 2048) (j : Fin 8192)
    (hr : r.val = 1024 * (yb c).val + (y 0).val) (hj : j.val = (y 1).val) :
    outA m c y = ∑ k : Fin 8192, term X W r j k := by
  have hy0 : (y 0).val < 1024 := (y 0).isLt
  have hy1 : (y 1).val < 8192 := (y 1).isLt
  have eq : yb (qdev c ((y 0).val / 256)) = yb c := yb_qdev c ⟨(y 0).val / 256, by omega⟩
  have er : qr (qdev c ((y 0).val / 256)) = (y 0).val / 256 := qr_qdev c ⟨(y 0).val / 256, by omega⟩
  refine qv_apply hP (qdev c ((y 0).val / 256)) ((y 1).val / 512) (rowOf (outCol y)) r j ?_ ?_
  · rw [eq, er, hr]
    show _ = _ + (y 0).val % 256
    omega
  · rw [hj]
    show (y 1).val = 512 * ((y 1).val / 512 % 16) + (y 1).val % 512
    omega

/-- Each device's result is its part of the whole product. -/
theorem result_eq (hP : Parts m X W) (c : Dev nD) :
    V3 m (outs m) c main_v26 = Layout.blockN ⟨3, ![1, 1024, 8192]⟩ ⟨3, ![1, 2048, 8192]⟩ (Layout.meshBlock [2, 2, 2] ![[], [1], []] c) (Ref.prod (F := Ideal) X W) := by
  have e : V3 m (outs m) c main_v26 = shapeCast S1x1024x8192 (V2 m (outs m) c main_v25) shapeCasts_S1024x8192_S1x1024x8192 := by
    after_results
    rfl
  rw [e, V2_v25]
  funext i
  have h0 : (i 0).val < 1 := (i 0).isLt
  have h1 : (i 1).val < 1024 := (i 1).isLt
  rw [Layout.blockN_apply]
  refine (shapeCast_apply _ _ i (ix2 (n0 := 1024) (n1 := 8192) (i 1) (i 2)) ?_).trans
    ((outA_apply hP c _ ⟨1024 * (yb c).val + (i 1).val, by have := (yb c).isLt; omega⟩ (i 2) rfl rfl).trans
      (Eq.symm ((prod_apply X W _).trans (Finset.sum_congr rfl fun k _ => ?_))))
  · rw [Shape.rowMajor_val_three, Shape.rowMajor_val_two]
    show (i 1).val * 8192 + (i 2).val = ((i 0).val * 1024 + (i 1).val) * 8192 + (i 2).val
    omega
  · refine congrArg₂ (fun r j => term X W r j k) (Fin.ext ?_) (Fin.ext ?_)
    · show Layout.meshLin [2, 2, 2] c.val [1] * 1024 + (i 1).val = 1024 * (yb c).val + (i 1).val
      rw [lin_yb]; omega
    · show 0 * 8192 + (i 2).val = (i 2).val
      omega

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

/-- Over the extended reals the eight devices end with their parts of the one-device program's product. -/
theorem algebraic : Cert.algebraic_KernelIdeal_ReferenceIdeal := fun m ρ m' ρ' _ hP =>
  ⟨Ref.prod (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run (Cert.KernelIdeal.defs (F := Ideal)) _ _).mono (fun _ h c => ⟨(h.1 c).2.trans (result_eq hP c), (h.1 c).1⟩) (run_main (F := Ideal) m ρ),
    (θ_run (Cert.ReferenceIdeal.defs (F := Ideal)) _ _).mono (fun _ h => h.1 0) (Ref.run_main (F := Ideal) m' ρ')⟩

theorem claim : Cert.Claim := ⟨Cert.Kernel.Gen.facts, Cert.KernelIdeal.Gen.facts, Cert.ReferenceIdeal.Gen.facts,
  frame_kernel, frame_kernel_ideal, frame_reference, trivial, algebraic⟩

end Cert.Proof

end
